-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "qscale" .f32 0x3E0293EE#32 (((11863283 / 134217728) * (Real.log 2)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![2048, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v61) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S256x1024 : Shape := ⟨2, ![256, 1024]⟩
abbrev S1024x1024 : Shape := ⟨2, ![1024, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S256x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_scores_ReferenceIdeal.lean ====
abbrev S2048x1024 : Shape := ⟨2, ![2048, 1024]⟩
abbrev S1024x8192 : Shape := ⟨2, ![1024, 8192]⟩
abbrev S8192x1024 : Shape := ⟨2, ![8192, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S2048x1024 .f32) (main_arg1 : FVec F S1024x8192 .f32) (main_arg2 : FVec F S1024x8192 .f32) (main_arg3 : FVec F S1024x8192 .f32) (main_arg4 : FVec F S8192x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024x8192 .f32 := Host.absf main_arg2
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  main_v13
-- ==== Kernel.lean ====
abbrev S256x1024 : Shape := ⟨2, ![256, 1024]⟩
abbrev S1024x1024 : Shape := ⟨2, ![1024, 1024]⟩
abbrev S2048x1024 : Shape := ⟨2, ![2048, 1024]⟩
abbrev S7x256x1024 : Shape := ⟨3, ![7, 256, 1024]⟩
abbrev S8 : Shape := ⟨1, ![8]⟩
abbrev S6 : Shape := ⟨1, ![6]⟩
abbrev S4 : Shape := ⟨1, ![4]⟩
abbrev S3 : Shape := ⟨1, ![3]⟩
abbrev S_ : Shape := ⟨0, ![]⟩
abbrev S1 : Shape := ⟨1, ![1]⟩
abbrev S128x1024 : Shape := ⟨2, ![128, 1024]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S1x256x1024 : Shape := ⟨3, ![1, 256, 1024]⟩

abbrev nBuf : Space → Nat
  | .hbm => 6
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S256x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .f32⟩
  | .local _ .vmem, ⟨10, _⟩ => ⟨S256x1024, .f32⟩
  | .local _ .vmem, ⟨11, _⟩ => ⟨S2048x1024, .f32⟩
  | .local _ .vmem, ⟨12, _⟩ => ⟨S7x256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 2 → Bool
  | ⟨0, _⟩ => true
  | ⟨1, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 2 48 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v16 : BitVec 32 := Scalar.muli v2 c256_i32
  let v17 : Index := Scalar.indexCast v16
  let c0_11 : Index := 0#32
  ![v17.toNat, 0]
def k0_off2 (d0 : Dev nD) (c0_i32_13 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_12 : BitVec 32 := 256#32
  let v21 : BitVec 32 := Scalar.muli v2 c256_i32_12
  let v22 : BitVec 32 := Scalar.addi v21 c0_i32_13
  let c0_i32_18 : BitVec 32 := 0#32
  ![v22.toNat, 0]
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_16 : BitVec 32 := 1#32
  let v23 : BitVec 32 := Scalar.muli v4 c1_i32_16
  let v24 : BitVec 32 := Scalar.addi c0_i32_17 v23
  v24.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_23 : BitVec 32 := 1#32
  let v33 : BitVec 32 := Scalar.muli v4 c1_i32_23
  let v34 : BitVec 32 := Scalar.addi c0_i32_24 v33
  v34.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_31 : BitVec 32 := 1#32
  let v43 : BitVec 32 := Scalar.muli v7 c1_i32_31
  let v44 : BitVec 32 := Scalar.addi c0_i32_32 v43
  v44.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_39 : BitVec 32 := 1#32
  let v53 : BitVec 32 := Scalar.muli v7 c1_i32_39
  let v54 : BitVec 32 := Scalar.addi c0_i32_40 v53
  v54.toNat
def k0_off3 (d0 : Dev nD) (c0_i32_58 : BitVec 32) (c0_i32_68 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_57 : BitVec 32 := 1#32
  let v90 : BitVec 32 := Scalar.subi v2 c1_i32_57
  let v91 : BitVec 32 := Scalar.subi v90 c0_i32_58
  let c8_i32_59 : BitVec 32 := 8#32
  let v92 : BitVec 32 := Scalar.addi v91 c8_i32_59
  let c8_i32_60 : BitVec 32 := 8#32
  let v93 : BitVec 32 := Scalar.remsi v92 c8_i32_60
  let c256_i32_67 : BitVec 32 := 256#32
  let v100 : BitVec 32 := Scalar.muli v93 c256_i32_67
  let v101 : BitVec 32 := Scalar.addi v100 c0_i32_68
  let c0_i32_73 : BitVec 32 := 0#32
  ![v101.toNat, 0]
def k0_dev7 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_71 : BitVec 32 := 1#32
  let v102 : BitVec 32 := Scalar.muli v4 c1_i32_71
  let v103 : BitVec 32 := Scalar.addi c0_i32_72 v102
  v103.toNat
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_84 : BitVec 32 := 1#32
  let v118 : BitVec 32 := Scalar.muli v4 c1_i32_84
  let v119 : BitVec 32 := Scalar.addi c0_i32_85 v118
  v119.toNat
def k0_off4 (d0 : Dev nD) (c0_i32_58 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_57 : BitVec 32 := 1#32
  let v90 : BitVec 32 := Scalar.subi v2 c1_i32_57
  let v91 : BitVec 32 := Scalar.subi v90 c0_i32_58
  let c8_i32_59 : BitVec 32 := 8#32
  let v92 : BitVec 32 := Scalar.addi v91 c8_i32_59
  let c8_i32_60 : BitVec 32 := 8#32
  let v93 : BitVec 32 := Scalar.remsi v92 c8_i32_60
  let c256_i32_88 : BitVec 32 := 256#32
  let v126 : BitVec 32 := Scalar.muli v93 c256_i32_88
  let v127 : Index := Scalar.indexCast v126
  let c0_89 : Index := 0#32
  ![v127.toNat, 0]
def k0_off5 (d0 : Dev nD) (c0_i32_104 : BitVec 32) (c0_i32_113 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_103 : BitVec 32 := 1#32
  let v155 : BitVec 32 := Scalar.addi v2 c1_i32_103
  let v156 : BitVec 32 := Scalar.addi v155 c0_i32_104
  let c8_i32_105 : BitVec 32 := 8#32
  let v157 : BitVec 32 := Scalar.remsi v156 c8_i32_105
  let c256_i32_112 : BitVec 32 := 256#32
  let v164 : BitVec 32 := Scalar.muli v157 c256_i32_112
  let v165 : BitVec 32 := Scalar.addi v164 c0_i32_113
  let c0_i32_118 : BitVec 32 := 0#32
  ![v165.toNat, 0]
def k0_dev9 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_116 : BitVec 32 := 1#32
  let v166 : BitVec 32 := Scalar.muli v7 c1_i32_116
  let v167 : BitVec 32 := Scalar.addi c0_i32_117 v166
  v167.toNat
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_130 : BitVec 32 := 1#32
  let v182 : BitVec 32 := Scalar.muli v7 c1_i32_130
  let v183 : BitVec 32 := Scalar.addi c0_i32_131 v182
  v183.toNat
def k0_off6 (d0 : Dev nD) (c0_i32_104 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_103 : BitVec 32 := 1#32
  let v155 : BitVec 32 := Scalar.addi v2 c1_i32_103
  let v156 : BitVec 32 := Scalar.addi v155 c0_i32_104
  let c8_i32_105 : BitVec 32 := 8#32
  let v157 : BitVec 32 := Scalar.remsi v156 c8_i32_105
  let c256_i32_134 : BitVec 32 := 256#32
  let v190 : BitVec 32 := Scalar.muli v157 c256_i32_134
  let v191 : Index := Scalar.indexCast v190
  let c0_135 : Index := 0#32
  ![v191.toNat, 0]
def k0_dev11 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_162 : BitVec 32 := 1#32
  let v231 : BitVec 32 := Scalar.muli v4 c1_i32_162
  let v232 : BitVec 32 := Scalar.addi c0_i32_163 v231
  v232.toNat
def k0_dev12 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_175 : BitVec 32 := 1#32
  let v247 : BitVec 32 := Scalar.muli v4 c1_i32_175
  let v248 : BitVec 32 := Scalar.addi c0_i32_176 v247
  v248.toNat
def k0_dev13 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_207 : BitVec 32 := 1#32
  let v295 : BitVec 32 := Scalar.muli v7 c1_i32_207
  let v296 : BitVec 32 := Scalar.addi c0_i32_208 v295
  v296.toNat
def k0_dev14 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_221 : BitVec 32 := 1#32
  let v311 : BitVec 32 := Scalar.muli v7 c1_i32_221
  let v312 : BitVec 32 := Scalar.addi c0_i32_222 v311
  v312.toNat
def k0_dev15 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_253 : BitVec 32 := 1#32
  let v360 : BitVec 32 := Scalar.muli v4 c1_i32_253
  let v361 : BitVec 32 := Scalar.addi c0_i32_254 v360
  v361.toNat
def k0_dev16 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_266 : BitVec 32 := 1#32
  let v376 : BitVec 32 := Scalar.muli v4 c1_i32_266
  let v377 : BitVec 32 := Scalar.addi c0_i32_267 v376
  v377.toNat
def k0_dev17 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_417 : BitVec 32 := 1#32
  let v558 : BitVec 32 := Scalar.muli v7 c1_i32_417
  let v559 : BitVec 32 := Scalar.addi c0_i32_418 v558
  v559.toNat
def k0_dev18 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_420 : BitVec 32 := 1#32
  let v560 : BitVec 32 := Scalar.muli v4 c1_i32_420
  let v561 : BitVec 32 := Scalar.addi c0_i32_421 v560
  v561.toNat
@[reducible] def k0_t1_loop : Scf.Loop 32 :=
  let c0_i32_427 : BitVec 32 := 0#32
  let c8_i32_428 : BitVec 32 := 8#32
  let v567 : BitVec 32 := Scalar.addi c0_i32_427 c8_i32_428
  let c1_i32_429 : BitVec 32 := 1#32
  ⟨c0_i32_427, v567, c1_i32_429⟩
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_422 : BitVec 32 := 4#32
  let v562 : BitVec 32 := Scalar.addi v2 c4_i32_422
  let c0_i32_423 : BitVec 32 := 0#32
  let v563 : BitVec 32 := Scalar.subi v562 c0_i32_423
  let c8_i32_424 : BitVec 32 := 8#32
  let v564 : BitVec 32 := Scalar.addi v563 c8_i32_424
  let c8_i32_425 : BitVec 32 := 8#32
  let v565 : BitVec 32 := Scalar.remsi v564 c8_i32_425
  let c256_i32_426 : BitVec 32 := 256#32
  let v566 : BitVec 32 := Scalar.muli v565 c256_i32_426
  let v892 : Index := Scalar.indexCast v566
  let c0_i32_427 : BitVec 32 := 0#32
  let c1_i32_429 : BitVec 32 := 1#32
  let arg22 : BitVec 32 := Scf.iv c0_i32_427 c1_i32_429 k0_t1
  let c128_i32_758 : BitVec 32 := 128#32
  let v891 : BitVec 32 := Scalar.muli arg22 c128_i32_758
  let v893 : Index := Scalar.indexCast v891
  ![v892.toNat, v893.toNat]
def k0_off8 (k0_t1 : Fin k0_t1_loop.trips) : Fin 2 → Nat :=
  let c0_759 : Index := 0#32
  let c0_i32_427 : BitVec 32 := 0#32
  let c1_i32_429 : BitVec 32 := 1#32
  let arg22 : BitVec 32 := Scf.iv c0_i32_427 c1_i32_429 k0_t1
  let c128_i32_758 : BitVec 32 := 128#32
  let v891 : BitVec 32 := Scalar.muli arg22 c128_i32_758
  let v895 : Index := Scalar.indexCast v891
  ![0, v895.toNat]
def k0_off9 (k0_t1 : Fin k0_t1_loop.trips) : Fin 2 → Nat :=
  let c0_765 : Index := 0#32
  let c0_i32_427 : BitVec 32 := 0#32
  let c1_i32_429 : BitVec 32 := 1#32
  let arg22 : BitVec 32 := Scf.iv c0_i32_427 c1_i32_429 k0_t1
  let c128_i32_758 : BitVec 32 := 128#32
  let v891 : BitVec 32 := Scalar.muli arg22 c128_i32_758
  let v908 : Index := Scalar.indexCast v891
  ![0, v908.toNat]
def k0_off10 (d0 : Dev nD) (c0_i32_423 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_422 : BitVec 32 := 4#32
  let v562 : BitVec 32 := Scalar.addi v2 c4_i32_422
  let v563 : BitVec 32 := Scalar.subi v562 c0_i32_423
  let c8_i32_424 : BitVec 32 := 8#32
  let v564 : BitVec 32 := Scalar.addi v563 c8_i32_424
  let c8_i32_425 : BitVec 32 := 8#32
  let v565 : BitVec 32 := Scalar.remsi v564 c8_i32_425
  let c256_i32_426 : BitVec 32 := 256#32
  let v566 : BitVec 32 := Scalar.muli v565 c256_i32_426
  let v572 : Index := Scalar.indexCast v566
  let c0_436 : Index := 0#32
  ![v572.toNat, 0]
def k0_dev19 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_447 : BitVec 32 := 1#32
  let v583 : BitVec 32 := Scalar.muli v4 c1_i32_447
  let v584 : BitVec 32 := Scalar.addi c0_i32_448 v583
  v584.toNat
@[reducible] def k0_t2_loop : Scf.Loop 32 :=
  let c0_i32_458 : BitVec 32 := 0#32
  let c8_i32_459 : BitVec 32 := 8#32
  let v597 : BitVec 32 := Scalar.addi c0_i32_458 c8_i32_459
  let c1_i32_460 : BitVec 32 := 1#32
  ⟨c0_i32_458, v597, c1_i32_460⟩
def k0_off11 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_453 : BitVec 32 := 3#32
  let v592 : BitVec 32 := Scalar.subi v2 c3_i32_453
  let c0_i32_454 : BitVec 32 := 0#32
  let v593 : BitVec 32 := Scalar.addi v592 c0_i32_454
  let c8_i32_455 : BitVec 32 := 8#32
  let v594 : BitVec 32 := Scalar.addi v593 c8_i32_455
  let c8_i32_456 : BitVec 32 := 8#32
  let v595 : BitVec 32 := Scalar.remsi v594 c8_i32_456
  let c256_i32_457 : BitVec 32 := 256#32
  let v596 : BitVec 32 := Scalar.muli v595 c256_i32_457
  let v892 : Index := Scalar.indexCast v596
  let c0_i32_458 : BitVec 32 := 0#32
  let c1_i32_460 : BitVec 32 := 1#32
  let arg22 : BitVec 32 := Scf.iv c0_i32_458 c1_i32_460 k0_t2
  let c128_i32_758 : BitVec 32 := 128#32
  let v891 : BitVec 32 := Scalar.muli arg22 c128_i32_758
  let v893 : Index := Scalar.indexCast v891
  ![v892.toNat, v893.toNat]
def k0_off12 (k0_t2 : Fin k0_t2_loop.trips) : Fin 2 → Nat :=
  let c0_759 : Index := 0#32
  let c0_i32_458 : BitVec 32 := 0#32
  let c1_i32_460 : BitVec 32 := 1#32
  let arg22 : BitVec 32 := Scf.iv c0_i32_458 c1_i32_460 k0_t2
  let c128_i32_758 : BitVec 32 := 128#32
  let v891 : BitVec 32 := Scalar.muli arg22 c128_i32_758
  let v895 : Index := Scalar.indexCast v891
  ![0, v895.toNat]
def k0_off13 (k0_t2 : Fin k0_t2_loop.trips) : Fin 2 → Nat :=
  let c0_765 : Index := 0#32
  let c0_i32_458 : BitVec 32 := 0#32
  let c1_i32_460 : BitVec 32 := 1#32
  let arg22 : BitVec 32 := Scf.iv c0_i32_458 c1_i32_460 k0_t2
  let c128_i32_758 : BitVec 32 := 128#32
  let v891 : BitVec 32 := Scalar.muli arg22 c128_i32_758
  let v908 : Index := Scalar.indexCast v891
  ![0, v908.toNat]
def k0_off14 (d0 : Dev nD) (c0_i32_454 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_453 : BitVec 32 := 3#32
  let v592 : BitVec 32 := Scalar.subi v2 c3_i32_453
  let v593 : BitVec 32 := Scalar.addi v592 c0_i32_454
  let c8_i32_455 : BitVec 32 := 8#32
  let v594 : BitVec 32 := Scalar.addi v593 c8_i32_455
  let c8_i32_456 : BitVec 32 := 8#32
  let v595 : BitVec 32 := Scalar.remsi v594 c8_i32_456
  let c256_i32_457 : BitVec 32 := 256#32
  let v596 : BitVec 32 := Scalar.muli v595 c256_i32_457
  let v602 : Index := Scalar.indexCast v596
  let c0_467 : Index := 0#32
  ![v602.toNat, 0]
def k0_dev20 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_475 : BitVec 32 := 1#32
  let v613 : BitVec 32 := Scalar.muli v7 c1_i32_475
  let v614 : BitVec 32 := Scalar.addi c0_i32_476 v613
  v614.toNat
@[reducible] def k0_t3_loop : Scf.Loop 32 :=
  let c0_i32_485 : BitVec 32 := 0#32
  let c8_i32_486 : BitVec 32 := 8#32
  let v627 : BitVec 32 := Scalar.addi c0_i32_485 c8_i32_486
  let c1_i32_487 : BitVec 32 := 1#32
  ⟨c0_i32_485, v627, c1_i32_487⟩
def k0_off15 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_480 : BitVec 32 := 4#32
  let v622 : BitVec 32 := Scalar.addi v2 c4_i32_480
  let c1_i32_481 : BitVec 32 := 1#32
  let v623 : BitVec 32 := Scalar.subi v622 c1_i32_481
  let c8_i32_482 : BitVec 32 := 8#32
  let v624 : BitVec 32 := Scalar.addi v623 c8_i32_482
  let c8_i32_483 : BitVec 32 := 8#32
  let v625 : BitVec 32 := Scalar.remsi v624 c8_i32_483
  let c256_i32_484 : BitVec 32 := 256#32
  let v626 : BitVec 32 := Scalar.muli v625 c256_i32_484
  let v892 : Index := Scalar.indexCast v626
  let c0_i32_485 : BitVec 32 := 0#32
  let c1_i32_487 : BitVec 32 := 1#32
  let arg22 : BitVec 32 := Scf.iv c0_i32_485 c1_i32_487 k0_t3
  let c128_i32_758 : BitVec 32 := 128#32
  let v891 : BitVec 32 := Scalar.muli arg22 c128_i32_758
  let v893 : Index := Scalar.indexCast v891
  ![v892.toNat, v893.toNat]
def k0_off16 (k0_t3 : Fin k0_t3_loop.trips) : Fin 2 → Nat :=
  let c0_759 : Index := 0#32
  let c0_i32_485 : BitVec 32 := 0#32
  let c1_i32_487 : BitVec 32 := 1#32
  let arg22 : BitVec 32 := Scf.iv c0_i32_485 c1_i32_487 k0_t3
  let c128_i32_758 : BitVec 32 := 128#32
  let v891 : BitVec 32 := Scalar.muli arg22 c128_i32_758
  let v895 : Index := Scalar.indexCast v891
  ![0, v895.toNat]
def k0_off17 (k0_t3 : Fin k0_t3_loop.trips) : Fin 2 → Nat :=
  let c0_765 : Index := 0#32
  let c0_i32_485 : BitVec 32 := 0#32
  let c1_i32_487 : BitVec 32 := 1#32
  let arg22 : BitVec 32 := Scf.iv c0_i32_485 c1_i32_487 k0_t3
  let c128_i32_758 : BitVec 32 := 128#32
  let v891 : BitVec 32 := Scalar.muli arg22 c128_i32_758
  let v908 : Index := Scalar.indexCast v891
  ![0, v908.toNat]
def k0_dev21 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_513 : BitVec 32 := 1#32
  let v653 : BitVec 32 := Scalar.muli v4 c1_i32_513
  let v654 : BitVec 32 := Scalar.addi c0_i32_514 v653
  v654.toNat
@[reducible] def k0_t4_loop : Scf.Loop 32 :=
  let c0_i32_524 : BitVec 32 := 0#32
  let c8_i32_525 : BitVec 32 := 8#32
  let v667 : BitVec 32 := Scalar.addi c0_i32_524 c8_i32_525
  let c1_i32_526 : BitVec 32 := 1#32
  ⟨c0_i32_524, v667, c1_i32_526⟩
def k0_off18 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_519 : BitVec 32 := 3#32
  let v662 : BitVec 32 := Scalar.subi v2 c3_i32_519
  let c1_i32_520 : BitVec 32 := 1#32
  let v663 : BitVec 32 := Scalar.addi v662 c1_i32_520
  let c8_i32_521 : BitVec 32 := 8#32
  let v664 : BitVec 32 := Scalar.addi v663 c8_i32_521
  let c8_i32_522 : BitVec 32 := 8#32
  let v665 : BitVec 32 := Scalar.remsi v664 c8_i32_522
  let c256_i32_523 : BitVec 32 := 256#32
  let v666 : BitVec 32 := Scalar.muli v665 c256_i32_523
  let v892 : Index := Scalar.indexCast v666
  let c0_i32_524 : BitVec 32 := 0#32
  let c1_i32_526 : BitVec 32 := 1#32
  let arg22 : BitVec 32 := Scf.iv c0_i32_524 c1_i32_526 k0_t4
  let c128_i32_758 : BitVec 32 := 128#32
  let v891 : BitVec 32 := Scalar.muli arg22 c128_i32_758
  let v893 : Index := Scalar.indexCast v891
  ![v892.toNat, v893.toNat]
def k0_off19 (k0_t4 : Fin k0_t4_loop.trips) : Fin 2 → Nat :=
  let c0_759 : Index := 0#32
  let c0_i32_524 : BitVec 32 := 0#32
  let c1_i32_526 : BitVec 32 := 1#32
  let arg22 : BitVec 32 := Scf.iv c0_i32_524 c1_i32_526 k0_t4
  let c128_i32_758 : BitVec 32 := 128#32
  let v891 : BitVec 32 := Scalar.muli arg22 c128_i32_758
  let v895 : Index := Scalar.indexCast v891
  ![0, v895.toNat]
def k0_off20 (k0_t4 : Fin k0_t4_loop.trips) : Fin 2 → Nat :=
  let c0_765 : Index := 0#32
  let c0_i32_524 : BitVec 32 := 0#32
  let c1_i32_526 : BitVec 32 := 1#32
  let arg22 : BitVec 32 := Scf.iv c0_i32_524 c1_i32_526 k0_t4
  let c128_i32_758 : BitVec 32 := 128#32
  let v891 : BitVec 32 := Scalar.muli arg22 c128_i32_758
  let v908 : Index := Scalar.indexCast v891
  ![0, v908.toNat]
def k0_dev22 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_551 : BitVec 32 := 1#32
  let v693 : BitVec 32 := Scalar.muli v7 c1_i32_551
  let v694 : BitVec 32 := Scalar.addi c0_i32_552 v693
  v694.toNat
@[reducible] def k0_t5_loop : Scf.Loop 32 :=
  let c0_i32_561 : BitVec 32 := 0#32
  let c8_i32_562 : BitVec 32 := 8#32
  let v707 : BitVec 32 := Scalar.addi c0_i32_561 c8_i32_562
  let c1_i32_563 : BitVec 32 := 1#32
  ⟨c0_i32_561, v707, c1_i32_563⟩
def k0_off21 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_556 : BitVec 32 := 4#32
  let v702 : BitVec 32 := Scalar.addi v2 c4_i32_556
  let c2_i32_557 : BitVec 32 := 2#32
  let v703 : BitVec 32 := Scalar.subi v702 c2_i32_557
  let c8_i32_558 : BitVec 32 := 8#32
  let v704 : BitVec 32 := Scalar.addi v703 c8_i32_558
  let c8_i32_559 : BitVec 32 := 8#32
  let v705 : BitVec 32 := Scalar.remsi v704 c8_i32_559
  let c256_i32_560 : BitVec 32 := 256#32
  let v706 : BitVec 32 := Scalar.muli v705 c256_i32_560
  let v892 : Index := Scalar.indexCast v706
  let c0_i32_561 : BitVec 32 := 0#32
  let c1_i32_563 : BitVec 32 := 1#32
  let arg22 : BitVec 32 := Scf.iv c0_i32_561 c1_i32_563 k0_t5
  let c128_i32_758 : BitVec 32 := 128#32
  let v891 : BitVec 32 := Scalar.muli arg22 c128_i32_758
  let v893 : Index := Scalar.indexCast v891
  ![v892.toNat, v893.toNat]
def k0_off22 (k0_t5 : Fin k0_t5_loop.trips) : Fin 2 → Nat :=
  let c0_759 : Index := 0#32
  let c0_i32_561 : BitVec 32 := 0#32
  let c1_i32_563 : BitVec 32 := 1#32
  let arg22 : BitVec 32 := Scf.iv c0_i32_561 c1_i32_563 k0_t5
  let c128_i32_758 : BitVec 32 := 128#32
  let v891 : BitVec 32 := Scalar.muli arg22 c128_i32_758
  let v895 : Index := Scalar.indexCast v891
  ![0, v895.toNat]
def k0_off23 (k0_t5 : Fin k0_t5_loop.trips) : Fin 2 → Nat :=
  let c0_765 : Index := 0#32
  let c0_i32_561 : BitVec 32 := 0#32
  let c1_i32_563 : BitVec 32 := 1#32
  let arg22 : BitVec 32 := Scf.iv c0_i32_561 c1_i32_563 k0_t5
  let c128_i32_758 : BitVec 32 := 128#32
  let v891 : BitVec 32 := Scalar.muli arg22 c128_i32_758
  let v908 : Index := Scalar.indexCast v891
  ![0, v908.toNat]
def k0_dev23 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_588 : BitVec 32 := 1#32
  let v733 : BitVec 32 := Scalar.muli v4 c1_i32_588
  let v734 : BitVec 32 := Scalar.addi c0_i32_589 v733
  v734.toNat
@[reducible] def k0_t6_loop : Scf.Loop 32 :=
  let c0_i32_598 : BitVec 32 := 0#32
  let c8_i32_599 : BitVec 32 := 8#32
  let v747 : BitVec 32 := Scalar.addi c0_i32_598 c8_i32_599
  let c1_i32_600 : BitVec 32 := 1#32
  ⟨c0_i32_598, v747, c1_i32_600⟩
def k0_off24 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_593 : BitVec 32 := 3#32
  let v742 : BitVec 32 := Scalar.subi v2 c3_i32_593
  let c2_i32_594 : BitVec 32 := 2#32
  let v743 : BitVec 32 := Scalar.addi v742 c2_i32_594
  let c8_i32_595 : BitVec 32 := 8#32
  let v744 : BitVec 32 := Scalar.addi v743 c8_i32_595
  let c8_i32_596 : BitVec 32 := 8#32
  let v745 : BitVec 32 := Scalar.remsi v744 c8_i32_596
  let c256_i32_597 : BitVec 32 := 256#32
  let v746 : BitVec 32 := Scalar.muli v745 c256_i32_597
  let v892 : Index := Scalar.indexCast v746
  let c0_i32_598 : BitVec 32 := 0#32
  let c1_i32_600 : BitVec 32 := 1#32
  let arg22 : BitVec 32 := Scf.iv c0_i32_598 c1_i32_600 k0_t6
  let c128_i32_758 : BitVec 32 := 128#32
  let v891 : BitVec 32 := Scalar.muli arg22 c128_i32_758
  let v893 : Index := Scalar.indexCast v891
  ![v892.toNat, v893.toNat]
def k0_off25 (k0_t6 : Fin k0_t6_loop.trips) : Fin 2 → Nat :=
  let c0_759 : Index := 0#32
  let c0_i32_598 : BitVec 32 := 0#32
  let c1_i32_600 : BitVec 32 := 1#32
  let arg22 : BitVec 32 := Scf.iv c0_i32_598 c1_i32_600 k0_t6
  let c128_i32_758 : BitVec 32 := 128#32
  let v891 : BitVec 32 := Scalar.muli arg22 c128_i32_758
  let v895 : Index := Scalar.indexCast v891
  ![0, v895.toNat]
def k0_off26 (k0_t6 : Fin k0_t6_loop.trips) : Fin 2 → Nat :=
  let c0_765 : Index := 0#32
  let c0_i32_598 : BitVec 32 := 0#32
  let c1_i32_600 : BitVec 32 := 1#32
  let arg22 : BitVec 32 := Scf.iv c0_i32_598 c1_i32_600 k0_t6
  let c128_i32_758 : BitVec 32 := 128#32
  let v891 : BitVec 32 := Scalar.muli arg22 c128_i32_758
  let v908 : Index := Scalar.indexCast v891
  ![0, v908.toNat]
def k0_dev24 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_625 : BitVec 32 := 1#32
  let v773 : BitVec 32 := Scalar.muli v7 c1_i32_625
  let v774 : BitVec 32 := Scalar.addi c0_i32_626 v773
  v774.toNat
@[reducible] def k0_t7_loop : Scf.Loop 32 :=
  let c0_i32_635 : BitVec 32 := 0#32
  let c8_i32_636 : BitVec 32 := 8#32
  let v787 : BitVec 32 := Scalar.addi c0_i32_635 c8_i32_636
  let c1_i32_637 : BitVec 32 := 1#32
  ⟨c0_i32_635, v787, c1_i32_637⟩
def k0_off27 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_630 : BitVec 32 := 4#32
  let v782 : BitVec 32 := Scalar.addi v2 c4_i32_630
  let c3_i32_631 : BitVec 32 := 3#32
  let v783 : BitVec 32 := Scalar.subi v782 c3_i32_631
  let c8_i32_632 : BitVec 32 := 8#32
  let v784 : BitVec 32 := Scalar.addi v783 c8_i32_632
  let c8_i32_633 : BitVec 32 := 8#32
  let v785 : BitVec 32 := Scalar.remsi v784 c8_i32_633
  let c256_i32_634 : BitVec 32 := 256#32
  let v786 : BitVec 32 := Scalar.muli v785 c256_i32_634
  let v892 : Index := Scalar.indexCast v786
  let c0_i32_635 : BitVec 32 := 0#32
  let c1_i32_637 : BitVec 32 := 1#32
  let arg22 : BitVec 32 := Scf.iv c0_i32_635 c1_i32_637 k0_t7
  let c128_i32_758 : BitVec 32 := 128#32
  let v891 : BitVec 32 := Scalar.muli arg22 c128_i32_758
  let v893 : Index := Scalar.indexCast v891
  ![v892.toNat, v893.toNat]
def k0_off28 (k0_t7 : Fin k0_t7_loop.trips) : Fin 2 → Nat :=
  let c0_759 : Index := 0#32
  let c0_i32_635 : BitVec 32 := 0#32
  let c1_i32_637 : BitVec 32 := 1#32
  let arg22 : BitVec 32 := Scf.iv c0_i32_635 c1_i32_637 k0_t7
  let c128_i32_758 : BitVec 32 := 128#32
  let v891 : BitVec 32 := Scalar.muli arg22 c128_i32_758
  let v895 : Index := Scalar.indexCast v891
  ![0, v895.toNat]
def k0_off29 (k0_t7 : Fin k0_t7_loop.trips) : Fin 2 → Nat :=
  let c0_765 : Index := 0#32
  let c0_i32_635 : BitVec 32 := 0#32
  let c1_i32_637 : BitVec 32 := 1#32
  let arg22 : BitVec 32 := Scf.iv c0_i32_635 c1_i32_637 k0_t7
  let c128_i32_758 : BitVec 32 := 128#32
  let v891 : BitVec 32 := Scalar.muli arg22 c128_i32_758
  let v908 : Index := Scalar.indexCast v891
  ![0, v908.toNat]
def k0_dev25 (d0 : Dev nD) : Nat :=
  let c0_i32_663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_662 : BitVec 32 := 1#32
  let v813 : BitVec 32 := Scalar.muli v4 c1_i32_662
  let v814 : BitVec 32 := Scalar.addi c0_i32_663 v813
  v814.toNat
@[reducible] def k0_t8_loop : Scf.Loop 32 :=
  let c0_i32_668 : BitVec 32 := 0#32
  let c8_i32_669 : BitVec 32 := 8#32
  let v823 : BitVec 32 := Scalar.addi c0_i32_668 c8_i32_669
  let c1_i32_670 : BitVec 32 := 1#32
  ⟨c0_i32_668, v823, c1_i32_670⟩
def k0_off30 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_667 : BitVec 32 := 256#32
  let v822 : BitVec 32 := Scalar.muli v2 c256_i32_667
  let v892 : Index := Scalar.indexCast v822
  let c0_i32_668 : BitVec 32 := 0#32
  let c1_i32_670 : BitVec 32 := 1#32
  let arg22 : BitVec 32 := Scf.iv c0_i32_668 c1_i32_670 k0_t8
  let c128_i32_758 : BitVec 32 := 128#32
  let v891 : BitVec 32 := Scalar.muli arg22 c128_i32_758
  let v893 : Index := Scalar.indexCast v891
  ![v892.toNat, v893.toNat]
def k0_off31 (k0_t8 : Fin k0_t8_loop.trips) : Fin 2 → Nat :=
  let c0_759 : Index := 0#32
  let c0_i32_668 : BitVec 32 := 0#32
  let c1_i32_670 : BitVec 32 := 1#32
  let arg22 : BitVec 32 := Scf.iv c0_i32_668 c1_i32_670 k0_t8
  let c128_i32_758 : BitVec 32 := 128#32
  let v891 : BitVec 32 := Scalar.muli arg22 c128_i32_758
  let v895 : Index := Scalar.indexCast v891
  ![0, v895.toNat]
def k0_off32 (k0_t8 : Fin k0_t8_loop.trips) : Fin 2 → Nat :=
  let c0_765 : Index := 0#32
  let c0_i32_668 : BitVec 32 := 0#32
  let c1_i32_670 : BitVec 32 := 1#32
  let arg22 : BitVec 32 := Scf.iv c0_i32_668 c1_i32_670 k0_t8
  let c128_i32_758 : BitVec 32 := 128#32
  let v891 : BitVec 32 := Scalar.muli arg22 c128_i32_758
  let v908 : Index := Scalar.indexCast v891
  ![0, v908.toNat]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "qscale" => some (((11863283 / 134217728) * (Real.log 2)⁻¹ : ℝ) : EReal)
  | _ => none
-- ==== ReferenceIdeal.lean ====
abbrev S2048x1024 : Shape := ⟨2, ![2048, 1024]⟩
abbrev S1024x8192 : Shape := ⟨2, ![1024, 8192]⟩
abbrev S8192x1024 : Shape := ⟨2, ![8192, 1024]⟩
abbrev S1x2048x1024 : Shape := ⟨3, ![1, 2048, 1024]⟩
abbrev S1x2048x8192 : Shape := ⟨3, ![1, 2048, 8192]⟩
abbrev S1x2048x64x128 : Shape := ⟨4, ![1, 2048, 64, 128]⟩
abbrev S_ : Shape := ⟨0, ![]⟩
abbrev S1x64x2048x1 : Shape := ⟨4, ![1, 64, 2048, 1]⟩
abbrev S1x1024x64x128 : Shape := ⟨4, ![1, 1024, 64, 128]⟩
abbrev S1x64x2048x1024 : Shape := ⟨4, ![1, 64, 2048, 1024]⟩
abbrev S1x64x2048 : Shape := ⟨3, ![1, 64, 2048]⟩
abbrev S1x2048x64x1 : Shape := ⟨4, ![1, 2048, 64, 1]⟩
abbrev S1x64x128x2048 : Shape := ⟨4, ![1, 64, 128, 2048]⟩

abbrev nBuf : Space → Nat
  | .hbm => 76
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8192, .f32⟩
  | .hbm, ⟨2, _⟩ => ⟨S1024x8192, .f32⟩
  | .hbm, ⟨3, _⟩ => ⟨S1024x8192, .f32⟩
  | .hbm, ⟨4, _⟩ => ⟨S8192x1024, .f32⟩
  | .hbm, ⟨5, _⟩ => ⟨S1x2048x1024, .f32⟩
  | .hbm, ⟨6, _⟩ => ⟨S1x2048x8192, .f32⟩
  | .hbm, ⟨7, _⟩ => ⟨S1x2048x64x128, .f32⟩
  | .hbm, ⟨8, _⟩ => ⟨S1x2048x8192, .f32⟩
  | .hbm, ⟨9, _⟩ => ⟨S1x2048x64x128, .f32⟩
  | .hbm, ⟨10, _⟩ => ⟨S1x2048x8192, .f32⟩
  | .hbm, ⟨11, _⟩ => ⟨S1x2048x64x128, .f32⟩
  | .hbm, ⟨12, _⟩ => ⟨S_, .f32⟩
  | .hbm, ⟨13, _⟩ => ⟨S1x2048x64x128, .f32⟩
  | .hbm, ⟨14, _⟩ => ⟨S_, .f32⟩
  | .hbm, ⟨15, _⟩ => ⟨S1x64x2048x1, .f32⟩
  | .hbm, ⟨16, _⟩ => ⟨S_, .f32⟩
  | .hbm, ⟨17, _⟩ => ⟨S1x64x2048x1, .f32⟩
  | .hbm, ⟨18, _⟩ => ⟨S1x1024x64x128, .f32⟩
  | .hbm, ⟨19, _⟩ => ⟨S1x1024x64x128, .f32⟩
  | .hbm, ⟨20, _⟩ => ⟨S1x64x2048x1024, .f32⟩
  | .hbm, ⟨21, _⟩ => ⟨S_, .f32⟩
  | .hbm, ⟨22, _⟩ => ⟨S1x64x2048x1024, .f32⟩
  | .hbm, ⟨23, _⟩ => ⟨S1x64x2048x1024, .f32⟩
  | .hbm, ⟨24, _⟩ => ⟨S_, .f32⟩
  | .hbm, ⟨25, _⟩ => ⟨S1x64x2048, .f32⟩
  | .hbm, ⟨26, _⟩ => ⟨S1x64x2048x1, .f32⟩
  | .hbm, ⟨27, _⟩ => ⟨S1x64x2048x1, .f32⟩
  | .hbm, ⟨28, _⟩ => ⟨S1x64x2048x1, .f32⟩
  | .hbm, ⟨29, _⟩ => ⟨S1x64x2048x1, .f32⟩
  | .hbm, ⟨30, _⟩ => ⟨S1x64x2048x1024, .f32⟩
  | .hbm, ⟨31, _⟩ => ⟨S1x64x2048x1024, .f32⟩
  | .hbm, ⟨32, _⟩ => ⟨S1x64x2048x1024, .f32⟩
  | .hbm, ⟨33, _⟩ => ⟨S1x64x2048x1, .f32⟩
  | .hbm, ⟨34, _⟩ => ⟨S_, .f32⟩
  | .hbm, ⟨35, _⟩ => ⟨S1x64x2048, .f32⟩
  | .hbm, ⟨36, _⟩ => ⟨S1x64x2048x1, .f32⟩
  | .hbm, ⟨37, _⟩ => ⟨S1x64x2048x1, .f32⟩
  | .hbm, ⟨38, _⟩ => ⟨S1x2048x64x1, .f32⟩
  | .hbm, ⟨39, _⟩ => ⟨S1x2048x64x128, .f32⟩
  | .hbm, ⟨40, _⟩ => ⟨S1x2048x64x128, .f32⟩
  | .hbm, ⟨41, _⟩ => ⟨S1x64x128x2048, .f32⟩
  | .hbm, ⟨42, _⟩ => ⟨S1x2048x64x128, .f32⟩
  | .hbm, ⟨43, _⟩ => ⟨S1x2048x64x128, .f32⟩
  | .hbm, ⟨44, _⟩ => ⟨S1x1024x64x128, .f32⟩
  | .hbm, ⟨45, _⟩ => ⟨S1x1024x64x128, .f32⟩
  | .hbm, ⟨46, _⟩ => ⟨S1x64x2048x1024, .f32⟩
  | .hbm, ⟨47, _⟩ => ⟨S_, .f32⟩
  | .hbm, ⟨48, _⟩ => ⟨S1x64x2048x1024, .f32⟩
  | .hbm, ⟨49, _⟩ => ⟨S1x64x2048x1024, .f32⟩
  | .hbm, ⟨50, _⟩ => ⟨S_, .f32⟩
  | .hbm, ⟨51, _⟩ => ⟨S1x64x2048, .f32⟩
  | .hbm, ⟨52, _⟩ => ⟨S1x64x2048x1, .f32⟩
  | .hbm, ⟨53, _⟩ => ⟨S1x64x2048x1, .f32⟩
  | .hbm, ⟨54, _⟩ => ⟨S1x64x2048x1, .f32⟩
  | .hbm, ⟨55, _⟩ => ⟨S1x64x2048x1, .f32⟩
  | .hbm, ⟨56, _⟩ => ⟨S1x64x2048x1024, .f32⟩
  | .hbm, ⟨57, _⟩ => ⟨S1x64x2048x1024, .f32⟩
  | .hbm, ⟨58, _⟩ => ⟨S1x64x2048x1024, .f32⟩
  | .hbm, ⟨59, _⟩ => ⟨S1x64x2048x1, .f32⟩
  | .hbm, ⟨60, _⟩ => ⟨S_, .f32⟩
  | .hbm, ⟨61, _⟩ => ⟨S1x64x2048, .f32⟩
  | .hbm, ⟨62, _⟩ => ⟨S1x64x2048x1, .f32⟩
  | .hbm, ⟨63, _⟩ => ⟨S1x64x2048x1, .f32⟩
  | .hbm, ⟨64, _⟩ => ⟨S1x2048x64x1, .f32⟩
  | .hbm, ⟨65, _⟩ => ⟨S1x2048x64x128, .f32⟩
  | .hbm, ⟨66, _⟩ => ⟨S1x2048x64x128, .f32⟩
  | .hbm, ⟨67, _⟩ => ⟨S1x64x128x2048, .f32⟩
  | .hbm, ⟨68, _⟩ => ⟨S1x2048x64x128, .f32⟩
  | .hbm, ⟨69, _⟩ => ⟨S1x2048x64x128, .f32⟩
  | .hbm, ⟨70, _⟩ => ⟨S1x2048x64x1, .f32⟩
  | .hbm, ⟨71, _⟩ => ⟨S1x2048x64x128, .f32⟩
  | .hbm, ⟨72, _⟩ => ⟨S1x2048x64x128, .f32⟩
  | .hbm, ⟨73, _⟩ => ⟨S1x2048x8192, .f32⟩
  | .hbm, ⟨74, _⟩ => ⟨S1x2048x1024, .f32⟩
  | .hbm, ⟨75, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== Proof.Ideal.Proto.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic
public import Idealize.SL.ProofMode.BigOp

/-! The protocol of the kernel: the ring of eight devices, what every buffer holds, the cells, the payments
and the schedule. -/

@[expose] public section

set_option maxRecDepth 8192

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

theorem bigSep_ins {I : Type} [DecidableEq I] {s : Finset I} {i : I} (hi : i ∉ s) (Φ : I → sProp 𝕄) :
    bigSep (insert i s) Φ = iprop(Φ i ∗ bigSep s Φ) := BI.bigSep_insert hi

theorem bigSep_get {I : Type} [DecidableEq I] {s : Finset I} {i : I} (hi : i ∈ s) (Φ : I → sProp 𝕄) :
    (bigSep s Φ : sProp 𝕄) ⊢ Φ i := bigSep_elim hi

/-! ## The ring -/

set_option backward.proofsInPublic true in
/-- The device `k` places to the right. -/
def sh (c : Dev nD) (k : ℕ) : Dev nD := ⟨(c.val + k) % 8, Nat.mod_lt _ (by decide)⟩

theorem sh_val (c : Dev nD) (k : ℕ) : (sh c k).val = (c.val + k) % 8 := rfl
theorem sh_zero (c : Dev nD) : sh c 0 = c := Fin.ext (by have h : c.val < 8 := c.isLt; rw [sh_val]; omega)
theorem sh_sh (c : Dev nD) (a b : ℕ) : sh (sh c a) b = sh c ((a + b) % 8) :=
  Fin.ext (by simp only [sh_val]; omega)

abbrev nxt (c : Dev nD) : Dev nD := sh c 1
abbrev prv (c : Dev nD) : Dev nD := sh c 7

theorem prv_nxt (c : Dev nD) : prv (nxt c) = c := (sh_sh c 1 7).trans (sh_zero c)
theorem nxt_prv (c : Dev nD) : nxt (prv c) = c := (sh_sh c 7 1).trans (sh_zero c)

def ring : Dev nD ≃ Dev nD := ⟨nxt, prv, prv_nxt, nxt_prv⟩

/-- The devices counted from `c`. -/
theorem sh_bijective (c : Dev nD) : Function.Bijective (fun k : Fin 8 => sh c k.val) := by
  revert c; decide

/-! ## What the buffers hold -/

set_option backward.proofsInPublic true in
/-- A buffer of eight chunks of 256 rows. -/
def stack {e : EltTy} (V : Dev nD → S256x1024.Idx → Elt F e) : S2048x1024.Idx → Elt F e := fun i =>
  V ⟨(i 0).val / 256, by have : (i 0).val < 2048 := (i 0).isLt; show _ < 8; omega⟩
    (Shape.pair ⟨(i 0).val % 256, Nat.mod_lt _ (by decide)⟩ ⟨(i 1).val, (i 1).isLt⟩)

omit [FloatOps F] [Named F] in
theorem stack_at {e : EltTy} (V : Dev nD → S256x1024.Idx → Elt F e) (j : Dev nD) (i : S2048x1024.Idx) (x : S256x1024.Idx)
    (h0 : (i 0).val = 256 * j.val + (x 0).val) (h1 : (i 1).val = (x 1).val) : stack V i = V j x := by
  have hx : (x 0).val < 256 := (x 0).isLt
  unfold stack
  have hj : (⟨(i 0).val / 256, by have : (i 0).val < 2048 := (i 0).isLt; show _ < 8; omega⟩ : Dev nD) = j := Fin.ext (by
    show (i 0).val / 256 = j.val; omega)
  rw [hj]
  congr 1
  refine Eq.trans ?_ (Shape.pair_eta x)
  congr 1
  · exact Fin.ext (by show (i 0).val % 256 = (x 0).val; omega)
  · exact Fin.ext h1

section Values

/-- A device's block of `x` and its weights. -/
def xin (j : Dev nD) : S256x1024.Idx → Elt F .f32 := m ((j : Thread nD τ).loc main_arg0)
def wq (c : Dev nD) : S1024x1024.Idx → Elt F .f32 := m ((c : Thread nD τ).loc main_arg1)
def wk (c : Dev nD) : S1024x1024.Idx → Elt F .f32 := m ((c : Thread nD τ).loc main_arg2)
def wv (c : Dev nD) : S1024x1024.Idx → Elt F .f32 := m ((c : Thread nD τ).loc main_arg3)
def wo (c : Dev nD) : S1024x1024.Idx → Elt F .f32 := m ((c : Thread nD τ).loc main_arg4)

/-- Chunk `j` of the gathered `x`; its projections at device `c`'s heads. -/
def XC (j : Dev nD) : S256x1024.Idx → Elt F .bf16 := k0_pay1 (xin m j)
def QC (c j : Dev nD) : S256x1024.Idx → Elt F .bf16 := k0_pay3 (XC m j) (wq m c)
def KC (c j : Dev nD) : S256x1024.Idx → Elt F .bf16 := k0_pay4 (XC m j) (wk m c)
def VC (c j : Dev nD) : S256x1024.Idx → Elt F .f32 := k0_pay5 (XC m j) (wv m c)

def XG : S2048x1024.Idx → Elt F .bf16 := stack (XC m)
def QF (c : Dev nD) : S2048x1024.Idx → Elt F .bf16 := stack (QC m c)
def KF (c : Dev nD) : S2048x1024.Idx → Elt F .bf16 := stack (KC m c)
def VF (c : Dev nD) : S2048x1024.Idx → Elt F .f32 := stack (VC m c)

set_option backward.proofsInPublic true in
/-- The columns of head `h`. -/
def head {n : ℕ} {e : EltTy} (h : Fin 8) (f : (⟨2, ![n, 1024]⟩ : Shape).Idx → Elt F e) : (⟨2, ![n, 128]⟩ : Shape).Idx → Elt F e :=
  fun x => f (Shape.pair ⟨(x 0).val, (x 0).isLt⟩ ⟨128 * h.val + (x 1).val, by
    have : (x 1).val < 128 := (x 1).isLt
    have := h.isLt
    show _ < 1024
    omega⟩)

/-- Head `h` of the attention at chunk `j`'s rows. -/
def OH (c j : Dev nD) (h : Fin 8) : S256x128.Idx → Elt F .f32 :=
  k0_pay35 (head h (QC m c j)) (head h (KF m c)) (head h (VF m c))

set_option backward.proofsInPublic true in
/-- The heads side by side. -/
def OB (c j : Dev nD) : S256x1024.Idx → Elt F .f32 := fun i =>
  OH m c j ⟨(i 1).val / 128, by have : (i 1).val < 1024 := (i 1).isLt; omega⟩
    (Shape.pair ⟨(i 0).val, (i 0).isLt⟩ ⟨(i 1).val % 128, Nat.mod_lt _ (by decide)⟩)

/-- Device `c`'s partial output at chunk `j`. -/
def PC (c j : Dev nD) : S256x1024.Idx → Elt F .f32 := k0_pay36 (OB m c j) (wo m c)

theorem numel_flat : S256x1024.numel = S1x256x1024.numel := by decide

/-- A slab without its leading axis. -/
def flat (v : S1x256x1024.Idx → Elt F .bf16) : S256x1024.Idx → Elt F .bf16 := fun x => v (Shape.reshapeEquiv numel_flat x)

/-- The slabs sent to the right, -/
def sbR : ℕ → Dev nD → S1x256x1024.Idx → Elt F .bf16
  | 0, c => k0_pay37 (PC m c (sh c 4))
  | n + 1, c => k0_pay47 (PC m c (sh c (3 - n))) (flat (sbR n (sh c 7)))

/-- and to the left. -/
def sbL : ℕ → Dev nD → S1x256x1024.Idx → Elt F .bf16
  | 0, c => k0_pay37 (PC m c (sh c 5))
  | n + 1, c => k0_pay47 (PC m c (sh c (6 + n))) (flat (sbL n (sh c 1)))

def SB (c : Dev nD) (st : ℕ) : S1x256x1024.Idx → Elt F .bf16 := if st < 4 then sbR m st c else sbL m (st - 4) c

set_option backward.proofsInPublic true in
/-- The sending buffer, slab by slab. -/
def SF (c : Dev nD) : S7x256x1024.Idx → Elt F .bf16 := fun i =>
  flat (SB m c (i 0).val) (Shape.pair ⟨(i 1).val, (i 1).isLt⟩ ⟨(i 2).val, (i 2).isLt⟩)

/-- What lands in the slot `st` of the exchange buffer, -/
def RV (c : Dev nD) (st : Dev nD) : S256x1024.Idx → Elt F .bf16 :=
  flat (SB m (if st.val < 4 then prv c else nxt c) st.val)
/-- and the whole buffer then. -/
def RX (c : Dev nD) : S2048x1024.Idx → Elt F .bf16 := stack (RV m c)

/-- The result on device `c`. -/
def OUT (c : Dev nD) : S256x1024.Idx → Elt F .f32 := k0_pay59 (PC m c c) (RV m c 3) (RV m c 6)

end Values

/-! ## Pieces of the buffers -/

/-- Rows `a` to `a + n`. -/
def rows (a n : ℕ) : Finset S2048x1024.Idx := Finset.univ.filter fun i => a ≤ (i 0).val ∧ (i 0).val < a + n
/-- Slab `st`. -/
def slab (st : ℕ) : Finset S7x256x1024.Idx := Finset.univ.filter fun i => (i 0).val = st

omit [FloatOps F] [Named F] in
theorem mem_rows {a n : ℕ} {i : S2048x1024.Idx} : i ∈ rows a n ↔ a ≤ (i 0).val ∧ (i 0).val < a + n := by
  unfold rows; rw [Finset.mem_filter]; exact and_iff_right (Finset.mem_univ _)
omit [FloatOps F] [Named F] in
theorem mem_slab {st : ℕ} {i : S7x256x1024.Idx} : i ∈ slab st ↔ (i 0).val = st := by
  unfold slab; rw [Finset.mem_filter]; exact and_iff_right (Finset.mem_univ _)

/-- Half `b` of the chunk `k` places to the right of `c`, in device `d`'s exchange buffer. -/
def hp (d : Dev nD) (j : Dev nD) (b : ℕ) (q : PosShare TreeShare) (f : S2048x1024.Idx → Elt F .bf16) : sProp 𝕄 :=
  ((d : Thread nD τ).loc cc0_scratch0 ↦[rows (256 * j.val + 128 * b) 128]{q} f)
/-- Slot `st` of it. -/
def sl (d : Dev nD) (st : ℕ) (f : S2048x1024.Idx → Elt F .bf16) : sProp 𝕄 :=
  ((d : Thread nD τ).loc cc0_scratch0 ↦[rows (256 * st) 256]{fullShare} f)
/-- Slab `st` of device `d`'s sending buffer. -/
def sb (d : Dev nD) (st : ℕ) (f : S7x256x1024.Idx → Elt F .bf16) : sProp 𝕄 :=
  ((d : Thread nD τ).loc cc0_scratch6 ↦[slab st]{fullShare} f)

instance hp_storable (d j b q) (f : S2048x1024.Idx → Elt F .bf16) : BI.Storable (upEmb : UEmb _ 𝕄) (hp d j b q f) := by unfold hp; infer_instance
instance sl_storable (d st) (f : S2048x1024.Idx → Elt F .bf16) : BI.Storable (upEmb : UEmb _ 𝕄) (sl d st f) := by unfold sl; infer_instance
instance sb_storable (d st) (f : S7x256x1024.Idx → Elt F .bf16) : BI.Storable (upEmb : UEmb _ 𝕄) (sb d st f) := by unfold sb; infer_instance

/-- Both halves of a chunk, at any contents. -/
def hp2 (d j : Dev nD) (f : S2048x1024.Idx → Elt F .bf16) : sProp 𝕄 := iprop(hp d j 0 fullShare f ∗ hp d j 1 fullShare f)
instance hp2_storable (d j) (f : S2048x1024.Idx → Elt F .bf16) : BI.Storable (upEmb : UEmb _ 𝕄) (hp2 d j f) := by unfold hp2; infer_instance

/-! ## The cells, in the order a device waits on its own -/

/-- Cell `i`'s semaphore. -/
def csem (i : Fin 44) : SemLoc sig :=
  if i.val = 0 then .reg barrier0
  else if i.val = 29 then .reg 0
  else .dma (![0, 14, 15, 28, 29, 16, 17, 30, 31, 18, 19, 32, 33, 20, 21, 6, 7, 8, 9, 10, 11, 12, 13, 22, 23, 24, 25, 26, 27, 0,
    38, 45, 39, 46, 40, 41, 47, 34, 35, 36, 37, 42, 43, 44] i)

abbrev kcell (ci : Dev nD × Fin 44) : GSem nD τ sig := ((ci.1 : Thread nD τ), csem ci.2)

theorem csem_injective : Function.Injective csem := by decide

/-- The cell of a semaphore. -/
def cix (s : SemLoc sig) : Option (Fin 44) := Function.partialInv csem s

theorem cix_csem (i : Fin 44) : cix (csem i) = some i := Function.partialInv_left csem_injective i

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-- The credit of a half chunk and of a whole one. -/
abbrev NH : ℕ := ((Memref.whole cc0_scratch0 : Memref sig .tc .vmem S2048x1024 .bf16).slice (Rect.unit ![0, 0] ![128, 1024] (by decide)) (by intro k; fin_cases k <;> rfl) : Memref sig .tc .vmem S128x1024 .bf16).view.dmaCredit
abbrev NF : ℕ := ((Memref.whole cc0_scratch0 : Memref sig .tc .vmem S2048x1024 .bf16).slice (Rect.unit ![0, 0] ![256, 1024] (by decide)) (by intro k; fin_cases k <;> rfl) : Memref sig .tc .vmem S256x1024 .bf16).view.dmaCredit

theorem NH_pos : 0 < NH := View.dmaCredit_pos _ (by decide)
theorem NF_pos : 0 < NF := View.dmaCredit_pos _ (by decide)

/-! ## The payments, in the order a device makes them -/

/-- The cell payment `p` goes to, by index; -/
def tix (p : Fin 25) : Fin 44 :=
  ![0, 0, 1, 2, 3, 4, 5, 6, 7, 8, 9, 10, 11, 12, 13, 14, 29, 29, 30, 31, 32, 33, 34, 36, 35] p
/-- the payer's own cell a transfer's source comes back by (0 at a signal); -/
def own (p : Fin 25) : Fin 44 :=
  ![0, 0, 15, 16, 23, 24, 17, 18, 25, 26, 19, 20, 27, 28, 21, 22, 0, 0, 37, 41, 38, 42, 39, 43, 40] p
/-- whether it goes to the right; -/
def rt (p : Fin 25) : Bool :=
  ![false, true, true, true, false, false, true, true, false, false, true, true, false, false, true, true, false, true,
    true, false, true, false, true, false, true] p
/-- the duty it pays. -/
def tbit (p : Fin 25) : Bool := p = 0 || p = 16

def tgt (c : Dev nD) (p : Fin 25) : Dev nD := if rt p then nxt c else prv c

/-- How many payments are made before cell `i` (a transfer's own) can be waited on. -/
def sentBy (i : Fin 44) : ℕ :=
  ![0, 0, 0, 0, 0, 0, 0, 0, 0, 0, 0, 0, 0, 0, 0, 3, 4, 7, 8, 11, 12, 15, 16, 5, 6, 9, 10, 13, 14, 0, 0, 0, 0, 0, 0, 0, 0,
    19, 21, 23, 25, 20, 22, 24] i

/-- The cells' levels. -/
def lvl (i : Fin 44) : ℕ :=
  ![1, 11, 12, 13, 14, 15, 16, 17, 18, 19, 20, 21, 22, 23, 24, 0, 0, 0, 0, 0, 0, 0, 0, 0, 0, 0, 0, 0, 0, 30, 31, 32, 33, 34,
    35, 37, 36, 0, 0, 0, 0, 0, 0, 0] i

/-- A duty's amount at cell `i`, and the round's. -/
def amt (i : Fin 44) : ℕ := if i = 0 ∨ i = 29 then 1 else if i.val < 29 then NH else NF
def tot (i : Fin 44) : ℕ := if i = 0 ∨ i = 29 then 2 else amt i
def dut (i : Fin 44) : Finset Bool := if i = 0 ∨ i = 29 then Finset.univ else {false}

theorem amt_pos (i : Fin 44) : 0 < amt i := by
  unfold amt
  split
  · exact Nat.one_pos
  split
  · exact NH_pos
  · exact NF_pos

/-! ## The schedule -/

/-- What the right neighbour hands over at the start: the pieces of its exchange buffer filled from here, -/
def giveL (c : Dev nD) : sProp 𝕄 := iprop(∃ f : S2048x1024.Idx → Elt F .bf16,
  hp2 (nxt c) (sh c 0) f ∗ hp2 (nxt c) (sh c 7) f ∗ hp2 (nxt c) (sh c 6) f ∗ hp2 (nxt c) (sh c 5) f)
/-- what the left one does. -/
def giveR (c : Dev nD) : sProp 𝕄 := iprop(∃ f : S2048x1024.Idx → Elt F .bf16,
  hp2 (prv c) (sh c 0) f ∗ hp2 (prv c) (sh c 1) f ∗ hp2 (prv c) (sh c 2) f)
/-- And the slots, when the buffer changes its use. -/
def slotL (c : Dev nD) : sProp 𝕄 := iprop(∃ f : S2048x1024.Idx → Elt F .bf16,
  sl (nxt c) 0 f ∗ sl (nxt c) 1 f ∗ sl (nxt c) 2 f ∗ sl (nxt c) 3 f)
def slotR (c : Dev nD) : sProp 𝕄 := iprop(∃ f : S2048x1024.Idx → Elt F .bf16,
  sl (prv c) 4 f ∗ sl (prv c) 5 f ∗ sl (prv c) 6 f)

/-- What payment of duty `d` at device `c`'s cell `i` hands over. -/
def pay (c : Dev nD) (i : Fin 44) (d : Bool) : sProp 𝕄 := match i.val, d with
  | 0, true => giveL c
  | 0, false => giveR c
  | 1, _ => hp c (sh c 7) 0 fullShare (XG m)
  | 2, _ => hp c (sh c 7) 1 fullShare (XG m)
  | 3, _ => hp c (sh c 1) 0 fullShare (XG m)
  | 4, _ => hp c (sh c 1) 1 fullShare (XG m)
  | 5, _ => hp c (sh c 6) 0 fullShare (XG m)
  | 6, _ => hp c (sh c 6) 1 fullShare (XG m)
  | 7, _ => hp c (sh c 2) 0 fullShare (XG m)
  | 8, _ => hp c (sh c 2) 1 fullShare (XG m)
  | 9, _ => hp c (sh c 5) 0 fullShare (XG m)
  | 10, _ => hp c (sh c 5) 1 fullShare (XG m)
  | 11, _ => hp c (sh c 3) 0 fullShare (XG m)
  | 12, _ => hp c (sh c 3) 1 fullShare (XG m)
  | 13, _ => hp c (sh c 4) 0 fullShare (XG m)
  | 14, _ => hp c (sh c 4) 1 fullShare (XG m)
  | 15, _ => hp c (sh c 0) 0 fullShare.left (XG m)
  | 16, _ => hp c (sh c 0) 1 fullShare.left (XG m)
  | 17, _ => hp c (sh c 7) 0 fullShare.left (XG m)
  | 18, _ => hp c (sh c 7) 1 fullShare.left (XG m)
  | 19, _ => hp c (sh c 6) 0 fullShare.left (XG m)
  | 20, _ => hp c (sh c 6) 1 fullShare.left (XG m)
  | 21, _ => hp c (sh c 5) 0 fullShare.left (XG m)
  | 22, _ => hp c (sh c 5) 1 fullShare.left (XG m)
  | 23, _ => hp c (sh c 0) 0 fullShare.right.left (XG m)
  | 24, _ => hp c (sh c 0) 1 fullShare.right.left (XG m)
  | 25, _ => hp c (sh c 1) 0 fullShare.left (XG m)
  | 26, _ => hp c (sh c 1) 1 fullShare.left (XG m)
  | 27, _ => hp c (sh c 2) 0 fullShare.left (XG m)
  | 28, _ => hp c (sh c 2) 1 fullShare.left (XG m)
  | 29, true => slotL c
  | 29, false => slotR c
  | 30, _ => sl c 0 (RX m c)
  | 31, _ => sl c 4 (RX m c)
  | 32, _ => sl c 1 (RX m c)
  | 33, _ => sl c 5 (RX m c)
  | 34, _ => sl c 2 (RX m c)
  | 35, _ => sl c 3 (RX m c)
  | 36, _ => sl c 6 (RX m c)
  | 37, _ => sb c 0 (SF m c)
  | 38, _ => sb c 1 (SF m c)
  | 39, _ => sb c 2 (SF m c)
  | 40, _ => sb c 3 (SF m c)
  | 41, _ => sb c 4 (SF m c)
  | 42, _ => sb c 5 (SF m c)
  | 43, _ => sb c 6 (SF m c)
  | _, _ => iprop(emp)

instance pay_storable (c : Dev nD) (i : Fin 44) (d : Bool) : BI.Storable (upEmb : UEmb _ 𝕄) (pay m c i d) := by
  unfold pay giveL giveR slotL slotR
  split <;> infer_instance

/-- One round, round 0, of every cell. -/
def Rd : Rounds.Schedule (GSem nD τ sig) Bool 𝕄 where
  duties g r := if r = 0 ∧ g.1.2 = .tc then (match cix g.2 with | some i => dut i | none => ∅) else ∅
  unitless _ := False
  amount g _ _ := match cix g.2 with | some i => amt i | none => 1
  payload g _ d := match cix g.2 with | some i => pay m g.1.1 i d | none => iprop(emp)
  amount_pos g _ _ _ := by
    split
    · exact amt_pos _
    · exact Nat.one_pos

instance Rd_payload_storable (g : GSem nD τ sig) (r : ℕ) (d : Bool) : BI.Storable (upEmb : UEmb _ 𝕄) ((Rd m).payload g r d) := by
  dsimp only [Rd]
  split <;> infer_instance

section Sched
variable (c : Dev nD) (i : Fin 44)

theorem duties_eq : (Rd m).duties (kcell (c, i)) 0 = dut i := by
  dsimp only [Rd]; rw [if_pos ⟨rfl, rfl⟩, cix_csem]
theorem duties_later (g : GSem nD τ sig) : ∀ r, 1 ≤ r → (Rd m).duties g r = ∅ := fun r hr => by
  dsimp only [Rd]; exact if_neg fun h => by omega
theorem amount_eq (d : Bool) : (Rd m).amount (kcell (c, i)) 0 d = amt i := by dsimp only [Rd]; rw [cix_csem]
theorem payload_eq (d : Bool) : (Rd m).payload (kcell (c, i)) 0 d = pay m c i d := by dsimp only [Rd]; rw [cix_csem]
theorem expect_eq : (Rd m).expect (kcell (c, i)) 0 = tot i := by
  unfold Schedule.expect Schedule.amountOf
  rw [duties_eq, Finset.sum_congr rfl fun d _ => amount_eq m c i d, Finset.sum_const, smul_eq_mul]
  unfold dut tot
  by_cases h : i = 0 ∨ i = 29
  · rw [if_pos h, if_pos h]; unfold amt; rw [if_pos h]; rfl
  · rw [if_neg h, if_neg h, Finset.card_singleton, Nat.one_mul]

/-- A wait's payloads. -/
def got : sProp 𝕄 := if i = 0 ∨ i = 29 then iprop(pay m c i false ∗ pay m c i true) else pay m c i false

theorem rest_eq : bigSep ((Rd m).duties (kcell (c, i)) 0 \ ∅) (fun d => (Rd m).payload (kcell (c, i)) 0 d) = got m c i := by
  rw [Finset.sdiff_empty, duties_eq, bigSep_congr fun d _ => payload_eq m c i d]
  unfold dut got
  by_cases h : i = 0 ∨ i = 29
  · rw [if_pos h, if_pos h, bigSep_univ_eq_bigSepL [false, true] (by decide) (by decide), bigSepL_cons_cons, bigSepL_singleton]; rfl
  · rw [if_neg h, if_neg h, bigSep_singleton]

end Sched

/-! ## What a device owes; the levels -/

abbrev due (c : Dev nD) (p : Fin 25) : CellTallies nD τ sig Unit := tallyAt (kcell (tgt c p, tix p)) () (amt (tix p))

/-- The payments from the `n`-th on. -/
def paysFrom (n : ℕ) : Finset (Fin 25) := Finset.univ.filter fun p => n ≤ p.val
def owed (c : Dev nD) (n : ℕ) : CellTallies nD τ sig Unit := ∑ p ∈ paysFrom n, due c p

theorem paysFrom_step (p : Fin 25) : paysFrom p.val = insert p (paysFrom (p.val + 1)) := by
  ext q
  unfold paysFrom
  rw [Finset.mem_insert, Finset.mem_filter, Finset.mem_filter, Fin.ext_iff]
  have := Finset.mem_univ q
  constructor
  · rintro ⟨_, h⟩
    rcases Nat.lt_or_ge p.val q.val with h' | h'
    · exact Or.inr ⟨this, h'⟩
    · exact Or.inl (by omega)
  · rintro (h | ⟨_, h⟩)
    · exact ⟨this, by omega⟩
    · exact ⟨this, by omega⟩
theorem not_mem_paysFrom (p : Fin 25) : p ∉ paysFrom (p.val + 1) := by
  unfold paysFrom; rw [Finset.mem_filter]; rintro ⟨_, h⟩; omega

theorem owed_step (c : Dev nD) (p : Fin 25) : owed c p.val = owed c (p.val + 1) + due c p := by
  unfold owed; rw [paysFrom_step, Finset.sum_insert (not_mem_paysFrom p), add_comm]
theorem owed_done (c : Dev nD) : owed c 25 = 0 := by
  unfold owed; rw [show paysFrom 25 = ∅ from by decide]; rfl

def L (g : GSem nD τ sig) : Finset Unit := if g.1.2 = .tc then {()} else ∅
def lv (g : GSem nD τ sig) (_ : Unit) : ℕ := match cix g.2 with | some i => lvl i | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (ci : Dev nD × Fin 44) (u : Unit) : lv (kcell ci) u = lvl ci.2 := by unfold lv; rw [cix_csem]

theorem owed_apply_pos {c : Dev nD} {n : ℕ} {g : GSem nD τ sig} {u : Unit} (h : 0 < owed c n g u) :
    ∃ p ∈ paysFrom n, g = kcell (tgt c p, tix p) := by
  unfold owed at h
  rw [Finset.sum_apply, Finsupp.finset_sum_apply] at h
  obtain ⟨p, hp, h'⟩ := Finset.exists_ne_zero_of_sum_ne_zero (Nat.pos_iff_ne_zero.mp h)
  refine ⟨p, hp, ?_⟩
  rw [tallyAt_apply] at h'
  by_contra hg
  exact h' (if_neg fun hh => hg hh.1)

/-- A device may wait on a cell below everything it still owes. -/
theorem mayWait_of (c : Dev nD) (sm : SemLoc sig) (n b : ℕ) (hb : lv ((c : Thread nD τ), sm) () ≤ b)
    (h : ∀ p ∈ paysFrom n, b < lvl (tix p)) :
    (levAts L lv : sProp 𝕄) ⊢ MayWait (c : Thread nD τ) sm () (owed c n) :=
  MayOwe.of_cut (L := L) (lev := lv) b (fun p hp => by rw [Finset.mem_singleton.mp hp, L_tc]; exact Finset.mem_singleton_self _)
    (fun g u hg => by
      obtain ⟨p, _, rfl⟩ := owed_apply_pos hg
      exact Finset.mem_singleton_self _)
    (fun p hp => by rw [Finset.mem_singleton.mp hp]; exact hb)
    (fun g u hg => by
      obtain ⟨p, hp, rfl⟩ := owed_apply_pos hg
      rw [lv_kcell]; exact h p hp)

theorem mayWait_cell (c : Dev nD) (i : Fin 44) (n : ℕ) (h : ∀ p ∈ paysFrom n, lvl i < lvl (tix p)) :
    (levAts L lv : sProp 𝕄) ⊢ MayWait (c : Thread nD τ) (csem i) () (owed c n) :=
  mayWait_of c _ n (lvl i) (le_of_eq (lv_kcell (c, i) ())) h

end Cert.KernelIdeal.Run

end
-- ==== Proof.Ideal.Ledger.lean ====
module

public import proofs.«01_k».proof.Proof.Ideal.Proto

/-! What a device carries through the kernel for its semaphores, and one rule for each of a signal, a transfer and a wait. -/

@[expose] public section

set_option maxRecDepth 8192

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-- Every cell's invariant and that its round 0 is reached. -/
def records (K : Dev nD × Fin 44 → ℕ) : sProp 𝕄 :=
  iprop((bigSep Finset.univ fun ck : Dev nD × Fin 44 => cellInv ER (Rd m) (K ck) (kcell ck))
    ∗ bigSep Finset.univ fun ck : Dev nD × Fin 44 => reached ER (kcell ck) 0)

instance records_persistent (K : Dev nD × Fin 44 → ℕ) : BI.Persistent (records m K) := by unfold records; infer_instance

theorem inv_at (K : Dev nD × Fin 44 → ℕ) (ck : Dev nD × Fin 44) : records m K ⊢ cellInv ER (Rd m) (K ck) (kcell ck) := by
  unfold records
  iintro ⟨#H, -⟩
  iapply (bigSep_get (Finset.mem_univ ck) fun ck : Dev nD × Fin 44 => (cellInv ER (Rd m) (K ck) (kcell ck) : sProp 𝕄))
  iexact H
theorem reached_at (K : Dev nD × Fin 44 → ℕ) (ck : Dev nD × Fin 44) : records m K ⊢ reached ER (kcell ck) 0 := by
  unfold records
  iintro ⟨-, #H⟩
  iapply (bigSep_get (Finset.mem_univ ck) fun ck : Dev nD × Fin 44 => (reached ER (kcell ck) 0 : sProp 𝕄))
  iexact H

/-- The transfers from the `n`-th payment on. -/
def sendsFrom (n : ℕ) : Finset (Fin 25) := Finset.univ.filter fun p => n ≤ p.val ∧ own p ≠ 0
/-- The cells not yet waited on, -/
def waitsFrom (w : ℕ) : Finset (Fin 44) := Finset.univ.filter fun i => w ≤ i.val
/-- those of them whose credit is at hand, -/
def credAt (n w : ℕ) : Finset (Fin 44) := Finset.univ.filter fun i => w ≤ i.val ∧ sentBy i ≤ n
/-- and those closed. -/
def closedTo (w : ℕ) : Finset (Fin 44) := Finset.univ.filter fun i => i.val < w

/-- After `n` payments and `w` waits. -/
def Led (K : Dev nD × Fin 44 → ℕ) (c : Dev nD) (n w : ℕ) : sProp 𝕄 := iprop(∃ W,
  records m K ∗ levAts L lv ∗ owes (c : Thread nD τ) (owed c n) W
    ∗ (bigSep (paysFrom n) fun p => dutyTok ER (kcell (tgt c p, tix p)) 0 (tbit p))
    ∗ (bigSep (sendsFrom n) fun p => dutyTok ER (kcell (c, own p)) 0 false)
    ∗ (bigSep (waitsFrom w) fun i => atPos ER (kcell (c, i)) 0 ∅ 0)
    ∗ (bigSep (credAt n w) fun i => cred (tallyAt (kcell (c, i)) () (tot i)))
    ∗ (bigSep (closedTo w) fun i => semVal (kcell (c, i)) 0))

section Sets

theorem sendsFrom_signal (p : Fin 25) (h : own p = 0) : sendsFrom p.val = sendsFrom (p.val + 1) := by
  ext q
  unfold sendsFrom
  rw [Finset.mem_filter, Finset.mem_filter]
  refine and_congr_right fun _ => ⟨fun ⟨h1, h2⟩ => ⟨?_, h2⟩, fun ⟨h1, h2⟩ => ⟨by omega, h2⟩⟩
  rcases Nat.lt_or_ge p.val q.val with h' | h'
  · exact h'
  · exact absurd (show own q = 0 by rw [show q = p from Fin.ext (by omega)]; exact h) h2

theorem sendsFrom_send (p : Fin 25) (h : own p ≠ 0) : sendsFrom p.val = insert p (sendsFrom (p.val + 1)) := by
  ext q
  unfold sendsFrom
  rw [Finset.mem_insert, Finset.mem_filter, Finset.mem_filter]
  refine ⟨fun ⟨_, h1, h2⟩ => ?_, fun hh => ?_⟩
  · rcases Nat.lt_or_ge p.val q.val with h' | h'
    · exact Or.inr ⟨Finset.mem_univ _, h', h2⟩
    · exact Or.inl (Fin.ext (by omega))
  · rcases hh with rfl | ⟨_, h1, h2⟩
    · exact ⟨Finset.mem_univ _, le_refl _, h⟩
    · exact ⟨Finset.mem_univ _, by omega, h2⟩
theorem not_mem_sendsFrom (p : Fin 25) : p ∉ sendsFrom (p.val + 1) := by
  unfold sendsFrom; rw [Finset.mem_filter]; rintro ⟨_, h, _⟩; omega

theorem sentBy_own (p : Fin 25) (h : own p ≠ 0) : sentBy (own p) = p.val + 1 := by revert h; revert p; decide
theorem own_of_sentBy (p : Fin 25) (i : Fin 44) (h : sentBy i = p.val + 1) : i = own p ∧ own p ≠ 0 := by
  revert h; revert i; revert p; decide

theorem credAt_signal (p : Fin 25) (w : ℕ) (h : own p = 0) : credAt (p.val + 1) w = credAt p.val w := by
  ext i
  unfold credAt
  rw [Finset.mem_filter, Finset.mem_filter]
  refine and_congr_right fun _ => and_congr_right fun _ => ⟨fun h1 => ?_, fun h1 => by omega⟩
  rcases Nat.lt_or_ge (sentBy i) (p.val + 1) with h' | h'
  · omega
  · exact absurd h (own_of_sentBy p i (by omega)).2

theorem credAt_send (p : Fin 25) (w : ℕ) (h : own p ≠ 0) (hw : w ≤ (own p).val) :
    credAt (p.val + 1) w = insert (own p) (credAt p.val w) := by
  ext i
  unfold credAt
  rw [Finset.mem_insert, Finset.mem_filter, Finset.mem_filter]
  refine ⟨fun ⟨_, h1, h2⟩ => ?_, fun hh => ?_⟩
  · rcases Nat.lt_or_ge (sentBy i) (p.val + 1) with h' | h'
    · exact Or.inr ⟨Finset.mem_univ _, h1, by omega⟩
    · exact Or.inl (own_of_sentBy p i (by omega)).1
  · rcases hh with rfl | ⟨_, h1, h2⟩
    · exact ⟨Finset.mem_univ _, hw, le_of_eq (sentBy_own p h)⟩
    · exact ⟨Finset.mem_univ _, h1, by omega⟩
theorem not_mem_credAt (p : Fin 25) (w : ℕ) (h : own p ≠ 0) : own p ∉ credAt p.val w := by
  unfold credAt; rw [Finset.mem_filter]; rintro ⟨_, _, h'⟩; rw [sentBy_own p h] at h'; omega

theorem waitsFrom_step (i : Fin 44) : waitsFrom i.val = insert i (waitsFrom (i.val + 1)) := by
  ext j
  unfold waitsFrom
  rw [Finset.mem_insert, Finset.mem_filter, Finset.mem_filter, Fin.ext_iff]
  have := Finset.mem_univ j
  constructor
  · rintro ⟨_, h⟩
    rcases Nat.lt_or_ge i.val j.val with h' | h'
    · exact Or.inr ⟨this, h'⟩
    · exact Or.inl (by omega)
  · rintro (h | ⟨_, h⟩)
    · exact ⟨this, by omega⟩
    · exact ⟨this, by omega⟩
theorem not_mem_waitsFrom (i : Fin 44) : i ∉ waitsFrom (i.val + 1) := by
  unfold waitsFrom; rw [Finset.mem_filter]; rintro ⟨_, h⟩; omega

theorem credAt_wait (i : Fin 44) (n : ℕ) (h : sentBy i ≤ n) : credAt n i.val = insert i (credAt n (i.val + 1)) := by
  ext j
  unfold credAt
  rw [Finset.mem_insert, Finset.mem_filter, Finset.mem_filter]
  refine ⟨fun ⟨_, h1, h2⟩ => ?_, fun hh => ?_⟩
  · rcases Nat.lt_or_ge i.val j.val with h' | h'
    · exact Or.inr ⟨Finset.mem_univ _, h', h2⟩
    · exact Or.inl (Fin.ext (by omega))
  · rcases hh with rfl | ⟨_, h1, h2⟩
    · exact ⟨Finset.mem_univ _, le_refl _, h⟩
    · exact ⟨Finset.mem_univ _, by omega, h2⟩
theorem not_mem_credAt_wait (i : Fin 44) (n : ℕ) : i ∉ credAt n (i.val + 1) := by
  unfold credAt; rw [Finset.mem_filter]; rintro ⟨_, h, _⟩; omega

theorem closedTo_step (i : Fin 44) : closedTo (i.val + 1) = insert i (closedTo i.val) := by
  ext j
  unfold closedTo
  rw [Finset.mem_insert, Finset.mem_filter, Finset.mem_filter, Fin.ext_iff]
  have := Finset.mem_univ j
  constructor
  · rintro ⟨_, h⟩
    rcases Nat.lt_or_ge j.val i.val with h' | h'
    · exact Or.inr ⟨this, h'⟩
    · exact Or.inl (by omega)
  · rintro (h | ⟨_, h⟩)
    · exact ⟨this, by omega⟩
    · exact ⟨this, by omega⟩
theorem not_mem_closedTo (i : Fin 44) : i ∉ closedTo i.val := by
  unfold closedTo; rw [Finset.mem_filter]; rintro ⟨_, h⟩; omega

end Sets

variable (K : Dev nD × Fin 44 → ℕ) (c : Dev nD)
variable {α : Type}
variable {Q : α → sProp (MT nD τ sig Unit (Elt F) ℕ UU ℕ)}

/-- A signal: payment `p`. -/
theorem led_signal (p : Fin 25) (w : ℕ) (h0 : own p = 0) (h1 : tix p = 0 ∨ tix p = 29) {sem : Sem sig} (hs : csem (tix p) = .reg sem)
    {d : Dev nD} (hd : d = tgt c p) {k : PUnit → Prog (TpuEff nD τ sig (Elt F) Λ₀ .tc) α} {b : BitVec 32} (hb : b.toInt = 1) :
    iprop(Led m K c p.val w ∗ pay m (tgt c p) (tix p) (tbit p))
      ⊢ iprop((Led m K c (p.val + 1) w -∗ wp frame (wpE (defs₀ (F := F)) 𝒱₀ (c : Thread nD τ) none) Set.univ (k ⟨⟩) Q) -∗ wp frame (wpE (defs₀ (F := F)) 𝒱₀ (c : Thread nD τ) none) Set.univ (.op (.semSignal (d : Thread nD τ) sem b.toInt) k) Q) := by
  subst hd
  have hamt : amt (tix p) = 1 := by unfold amt; rw [if_pos h1]
  have hc : kcell (tgt c p, tix p) = ((tgt c p : Thread nD τ), .reg sem) := by unfold kcell; rw [hs]
  have hpay : pay m (tgt c p) (tix p) (tbit p) = (Rd m).payload ((tgt c p : Thread nD τ), .reg sem) 0 (tbit p) := by
    rw [← hc, payload_eq]
  have hdut : tbit p ∈ (Rd m).duties ((tgt c p : Thread nD τ), .reg sem) 0 := by
    rw [← hc, duties_eq]; unfold dut; rw [if_pos h1]; exact Finset.mem_univ _
  have ham : (Rd m).amount ((tgt c p : Thread nD τ), .reg sem) 0 (tbit p) = 1 := by rw [← hc, amount_eq, hamt]
  have hO : owed c p.val = owed c (p.val + 1) + tallyAt ((tgt c p : Thread nD τ), .reg sem) () 1 := by
    rw [owed_step]; unfold due; rw [hc, hamt]
  rw [show b.toInt = ((1 : ℕ) : ℤ) from hb, hpay]
  unfold Led
  rw [paysFrom_step, sendsFrom_signal p h0, credAt_signal p w h0, bigSep_ins (not_mem_paysFrom p), hc]
  iintro ⟨⟨%W, #HR, #HL, Ho, ⟨Ht, Hts⟩, Hss, Hat, Hcr, Hz⟩, Hp⟩ Hk
  ihave #HI := ((inv_at m K (tgt c p, tix p)).trans (Entails.of_eq (by rw [hc]))) $$ HR
  ihave #Hre := ((reached_at m K (tgt c p, tix p)).trans (Entails.of_eq (by rw [hc]))) $$ HR
  iapply (Rounds.wp_signal 𝒱₀ ER (Rd m) (c : Thread nD τ) none (dst := (tgt c p : Thread nD τ)) (κ := K (tgt c p, tix p))
    (d := tbit p) hdut ham () (owed c (p.val + 1)) hO) $$ [Ho Ht Hp]
  · isplitr; · iexact HI
    isplitl [Ho]; · iexact Ho
    isplitl [Ht]; · iexact Ht
    isplitl [Hp]; · iexact Hp
    iexact Hre
  iintro Ho
  iapply Hk
  iexists W
  isplitr; · iexact HR
  isplitr; · iexact HL
  isplitl [Ho]; · iexact Ho
  isplitl [Hts]; · iexact Hts
  isplitl [Hss]; · iexact Hss
  isplitl [Hat]; · iexact Hat
  isplitl [Hcr]; · iexact Hcr
  iexact Hz

/-- A transfer: payment `p`. -/
theorem led_send (p : Fin 25) (w : ℕ) (h0 : own p ≠ 0) (hw : w ≤ (own p).val) (h29 : own p ≠ 29) (h1 : tix p ≠ 0 ∧ tix p ≠ 29)
    (h2 : tbit p = false) (h3 : amt (own p) = amt (tix p))
    {d : Dev nD} (hd : d = tgt c p) {s : Shape} {e : EltTy}
    {src : Memref sig .tc .vmem s e} {dst : Memref sig (Dev.tc d : Thread nD τ).2.kind .vmem s e} {hsc : dst.view.ref.isScScratch = false} {sS sem : DmaSem sig}
    (hs : csem (own p) = .dma sS) (ht : csem (tix p) = .dma sem)
    {hsrc : src.view.WordExact} {hdst : dst.view.WordExact}
    {hsem : DmaTarget.Typed .vmem (.dma sem) (.remote (Dev.tc d : Thread nD τ) dst (.dma sS) hsc)}
    {k : PUnit → Prog (TpuEff nD τ sig (Elt F) Λ₀ .tc) α} {q : PosShare TreeShare}
    {fs : Buf (Elt F) (src.view.loc (c : Thread nD τ))} {fd : Buf (Elt F) (dst.view.loc (Dev.tc d : Thread nD τ))}
    (hN : dst.view.amount (.dma sem) = amt (tix p))
    (hp1 : (src.view.loc (c : Thread nD τ) ↦[src.view.set]{q} fs) ⊢ pay m c (own p) false)
    (hp2 : (dst.view.loc (Dev.tc d : Thread nD τ) ↦[dst.view.set]{fullShare} (dst.view.write (Elt F) fd (src.view.read (Elt F) fs) Finset.univ))
      ⊢ pay m d (tix p) false) :
    iprop(Led m K c p.val w ∗ (src.view.loc (c : Thread nD τ) ↦[src.view.set]{q} fs) ∗ (dst.view.loc (Dev.tc d : Thread nD τ) ↦[dst.view.set]{fullShare} fd))
      ⊢ iprop((Led m K c (p.val + 1) w -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (Dev.tc d : Thread nD τ) dst (.dma sS) hsc) (.dma sem) hsrc hdst hsem) k) Q) := by
  subst hd
  have hct : kcell (tgt c p, tix p) = ((tgt c p : Thread nD τ), .dma sem) := by unfold kcell; rw [ht]
  have hcs : kcell (c, own p) = ((c : Thread nD τ), .dma sS) := by unfold kcell; rw [hs]
  have hd1 : ¬ (tix p = 0 ∨ tix p = 29) := by rintro (h | h); exacts [h1.1 h, h1.2 h]
  have hd0 : ¬ (own p = 0 ∨ own p = 29) := by rintro (h | h); exacts [h0 h, h29 h]
  unfold Led
  rw [paysFrom_step, sendsFrom_send p h0, credAt_send p w h0 hw, bigSep_ins (not_mem_paysFrom p), bigSep_ins (not_mem_sendsFrom p),
    bigSep_ins (not_mem_credAt p w h0)]
  iintro ⟨⟨%W, #HR, #HL, Ho, ⟨Ht, Hts⟩, ⟨Hs, Hss⟩, Hat, Hcr, Hz⟩, Hsrc, Hdst⟩ Hk
  ihave #HI := (inv_at m K (tgt c p, tix p)) $$ HR
  ihave #Hre := (reached_at m K (tgt c p, tix p)) $$ HR
  ihave #HIs := (inv_at m K (c, own p)) $$ HR
  ihave #Hres := (reached_at m K (c, own p)) $$ HR
  have hdut1 : false ∈ (Rd m).duties ((c : Thread nD τ), .dma sS) 0 := by
    rw [← hcs, duties_eq]; unfold dut; rw [if_neg hd0]; exact Finset.mem_singleton_self _
  have hdut2 : false ∈ (Rd m).duties ((tgt c p : Thread nD τ), .dma sem) 0 := by
    rw [← hct, duties_eq]; unfold dut; rw [if_neg hd1]; exact Finset.mem_singleton_self _
  have ham1 : (Rd m).amount ((c : Thread nD τ), .dma sS) 0 false = amt (tix p) := by rw [← hcs, amount_eq, h3]
  have ham2 : (Rd m).amount ((tgt c p : Thread nD τ), .dma sem) 0 false = amt (tix p) := by rw [← hct, amount_eq]
  have hO : owed c p.val = owed c (p.val + 1) + tallyAt ((tgt c p : Thread nD τ), .dma sem) () (amt (tix p)) := by
    rw [owed_step]; unfold due; rw [hct]
  have hq1 : (src.view.loc (c : Thread nD τ) ↦[src.view.set]{q} fs) ⊢ (Rd m).payload ((c : Thread nD τ), .dma sS) 0 false := by
    rw [← hcs, payload_eq]; exact hp1
  have hq2 : (dst.view.loc (Dev.tc (tgt c p) : Thread nD τ) ↦[dst.view.set]{fullShare} (dst.view.write (Elt F) fd (src.view.read (Elt F) fs) Finset.univ))
      ⊢ (Rd m).payload ((tgt c p : Thread nD τ), .dma sem) 0 false := by
    rw [← hct, payload_eq]; exact hp2
  have htot : tot (own p) = amt (tix p) := by unfold tot; rw [if_neg hd0, h3]
  rw [h2, hct, hcs, htot]
  iapply (Rounds.wp_send_pointsTo 𝒱₀ ER (Rd m) (c : Thread nD τ) none (κ₁ := K (c, own p)) (κ₂ := K (tgt c p, tix p))
    (r₁ := 0) (r₂ := 0) (d₁ := false) (d₂ := false) hdut1 hdut2 () () (amt (tix p)) hN ham1 ham2 (owed c (p.val + 1)) hO hq1 hq2)
    $$ [Hsrc Hdst Ho Ht Hs]
  · isplitr; · iexact HIs
    isplitr; · iexact HI
    isplitl [Hsrc]; · iexact Hsrc
    isplitl [Hdst]; · iexact Hdst
    isplitl [Ho]; · iexact Ho
    isplitl [Hs]; · iexact Hs
    isplitr; · iexact Hres
    isplitl [Ht]; · iexact Ht
    iexact Hre
  iintro ⟨Hc, Ho⟩
  iapply Hk
  iexists W
  isplitr; · iexact HR
  isplitr; · iexact HL
  isplitl [Ho]; · iexact Ho
  isplitl [Hts]; · iexact Hts
  isplitl [Hss]; · iexact Hss
  isplitl [Hat]; · iexact Hat
  isplitl [Hc Hcr]
  · isplitl [Hc] <;> iassumption
  iexact Hz

/-- A wait on cell `i`, which closes it. -/
theorem led_wait (i : Fin 44) (n : ℕ) (hn : sentBy i ≤ n) (hl : ∀ p ∈ paysFrom n, lvl i < lvl (tix p))
    {ef : TpuEff nD τ sig (Elt F) Λ₀ .tc PUnit} {k' : ℕ} {sm : SemLoc sig} (hs : csem i = sm)
    (hef : ∀ P : PUnit → sProp 𝕄, wpE (defs₀ (F := F)) 𝒱₀ (c : Thread nD τ) none Set.univ ef P = waitSpec (c : Thread nD τ) Set.univ sm k' P)
    (hk : k' = tot i) {k : PUnit → Prog (TpuEff nD τ sig (Elt F) Λ₀ .tc) α} :
    Led m K c n i.val ⊢ iprop(((Led m K c n (i.val + 1) ∗ got m c i) -∗ wp frame (wpE (defs₀ (F := F)) 𝒱₀ (c : Thread nD τ) none) Set.univ (k ⟨⟩) Q) -∗ wp frame (wpE (defs₀ (F := F)) 𝒱₀ (c : Thread nD τ) none) Set.univ (.op ef k) Q) := by
  subst hs
  subst hk
  unfold Led
  rw [waitsFrom_step, credAt_wait i n hn, closedTo_step, bigSep_ins (not_mem_waitsFrom i), bigSep_ins (not_mem_credAt_wait i n),
    bigSep_ins (not_mem_closedTo i)]
  iintro ⟨%W, #HR, #HL, Ho, Hts, Hss, ⟨Ha, Hat⟩, ⟨Hc, Hcr⟩, Hz⟩ Hk
  ihave #HI := (inv_at m K (c, i)) $$ HR
  iapply (Rounds.wp_wait_rest_token 𝒱₀ ER (Rd m) (c : Thread nD τ) none (κ := K (c, i)) hef (Set.mem_univ _) () (O := owed c n) (W := W) (R := 0) (m := 0) (T := ∅)
      ((Nat.zero_add _).trans (expect_eq m c i).symm)) $$ [Hc Ho Ha]
  · isplitr; · iexact HI
    isplitl [Hc]; · iexact Hc
    isplitl [Ho]; · iexact Ho
    isplitr; · iapply (mayWait_cell c i n hl); iexact HL
    iexact Ha
  iintro ⟨Ho, Ha, -, Hpay⟩
  ihave Hp := (Entails.of_eq (rest_eq m c i)) $$ Hpay
  imod (Rounds.cell_close ER (Rd m) (Set.mem_univ (K (c, i))) (fun h => h) (R := 0 + 1) (duties_later m (kcell (c, i)))) $$ [Ha] with Hzi
  · isplitr; · iexact HI
    iexact Ha
  iapply Hk
  isplitr [Hp]
  · iexists (insert (csem i, ()) W)
    isplitr; · iexact HR
    isplitr; · iexact HL
    isplitl [Ho]; · iexact Ho
    isplitl [Hts]; · iexact Hts
    isplitl [Hss]; · iexact Hss
    isplitl [Hat]; · iexact Hat
    isplitl [Hcr]; · iexact Hcr
    isplitl [Hzi] <;> iassumption
  · iexact Hp

end Cert.KernelIdeal.Run

end
-- ==== Proof.Ideal.Steps.lean ====
module

public import proofs.«01_k».proof.Proof.Ideal.Ledger
public import Idealize.ShloMosaic.Lib.Scf

/-! What one memory operation of the kernel does to the pieces of the buffers. -/

@[expose] public section

set_option maxRecDepth 8192

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (c : Dev nD)
variable {α : Type}
variable {Q : α → sProp (MT nD τ sig Unit (Elt F) ℕ UU ℕ)}

section Geometry

theorem emb_unit {s : Shape} (off size : Fin s.rank → ℕ) (inb) (x : (Rect.unit (s := s) off size inb).shape.Idx) (a : Fin s.rank) :
    (((Rect.unit (s := s) off size inb).emb x) a).val = off a + (x a).val := by
  rw [Rect.emb_apply]; show off a + 1 * (x a).val = _; rw [Nat.one_mul]

/-- A band of whole rows, as a rectangle. -/
theorem unit_rows {a n : ℕ} {off size : Fin 2 → ℕ} (inb) (hoff : off = ![a, 0]) (hsz : size = ![n, 1024]) :
    (Rect.unit (s := S2048x1024) off size inb).set = rows a n := by
  subst hoff hsz
  ext i
  rw [Rect.mem_set_unit, mem_rows]
  constructor
  · intro h; exact h 0
  · intro h k
    refine Fin.cases h (fun k => ?_) k
    have h1 : (i 1).val < 1024 := (i 1).isLt
    fin_cases k
    exact ⟨Nat.zero_le _, by show (i 1).val < 0 + 1024; omega⟩

theorem rows_disj {a n a' n' : ℕ} (h : a + n ≤ a' ∨ a' + n' ≤ a) : Disjoint (rows a n) (rows a' n') := by
  rw [Finset.disjoint_left]
  intro i h1 h2
  rw [mem_rows] at h1 h2
  omega

theorem rows_add (a n n' : ℕ) : rows a (n + n') = rows a n ∪ rows (a + n) n' := by
  ext i
  rw [Finset.mem_union, mem_rows, mem_rows, mem_rows]
  omega

theorem rows_sub {a n a' n' : ℕ} (h : a' ≤ a) (h' : a + n ≤ a' + n') : rows a n ⊆ rows a' n' := by
  intro i hi
  rw [mem_rows] at hi ⊢
  omega

theorem rows_univ : rows 0 2048 = Finset.univ := by
  ext i
  rw [mem_rows]
  have : (i 0).val < 2048 := (i 0).isLt
  exact ⟨fun _ => Finset.mem_univ _, fun _ => ⟨Nat.zero_le _, by omega⟩⟩

/-- An index in a chunk's rows comes from the chunk. -/
theorem rows_chunk {j : Dev nD} {off : Fin 2 → ℕ} (inb) (hoff : off = ![256 * j.val, 0]) {i : S2048x1024.Idx} (hi : i ∈ rows (256 * j.val) 256) :
    ∃ x : S256x1024.Idx, (Rect.unit (s := S2048x1024) off S256x1024.size inb).emb x = i ∧ ∀ {e : EltTy} (V : Dev nD → S256x1024.Idx → Elt F e), stack V i = V j x := by
  rw [← unit_rows (size := S256x1024.size) inb hoff rfl, ← Rect.map_emb_univ, Finset.mem_map] at hi
  obtain ⟨x, _, rfl⟩ := hi
  refine ⟨x, rfl, fun V => stack_at V j _ x ?_ ?_⟩
  · have h0 : off 0 = 256 * j.val := congrFun hoff 0
    rw [emb_unit]; exact congrArg (· + _) h0
  · have h1 : off 1 = 0 := congrFun hoff 1
    rw [emb_unit]; exact (congrArg (· + _) h1).trans (Nat.zero_add _)

end Geometry

section Held

variable {e : EltTy} (M : Memref sig .tc .vmem S2048x1024 e)

/-- Rows `a` to `a + n` of a buffer of 2048 rows, at the values of `X`, -/
def Hd (a n : ℕ) (q : PosShare TreeShare) (X : S2048x1024.Idx → Elt F e) : sProp 𝕄 :=
  iprop(∃ f : Buf (Elt F) (M.view.loc (c : Thread nD τ)), ⌜∀ i ∈ rows a n, M.view.read (Elt F) f i = X i⌝
    ∗ (M.view.loc (c : Thread nD τ) ↦[M.view.setOn (rows a n)]{q} f))
/-- and at any values. -/
def An (a n : ℕ) : sProp 𝕄 :=
  iprop(∃ f : Buf (Elt F) (M.view.loc (c : Thread nD τ)), (M.view.loc (c : Thread nD τ) ↦[M.view.setOn (rows a n)]{fullShare} f))

theorem Hd_An (a n : ℕ) (X : S2048x1024.Idx → Elt F e) : Hd c M a n fullShare X ⊢ An c M a n := by
  unfold Hd An
  iintro ⟨%f, -, H⟩
  iexists f
  iexact H

theorem Hd_join (a n n' : ℕ) (q : PosShare TreeShare) (X : S2048x1024.Idx → Elt F e) :
    iprop(Hd c M a n q X ∗ Hd c M (a + n) n' q X) ⊢ Hd c M a (n + n') q X := by
  have hd : Disjoint (M.view.setOn (rows a n)) (M.view.setOn (rows (a + n) n')) :=
    (Finset.disjoint_map M.view.emb).mpr (rows_disj (Or.inl (le_refl _)))
  unfold Hd
  iintro ⟨⟨%f, %hf, Hf⟩, %g, %hg, Hg⟩
  ihave H := (pointsTo_join (ℓ := M.view.loc (c : Thread nD τ)) hd) $$ [Hf Hg]
  · isplitl [Hf] <;> iassumption
  iexists ((M.view.setOn (rows (a + n) n')).piecewise g f)
  isplitr
  · ipureintro
    intro i hi
    rw [rows_add, Finset.mem_union] at hi
    rw [View.read_apply]
    rcases hi with h | h
    · rw [Finset.piecewise_eq_of_notMem _ _ _ (Finset.disjoint_left.mp hd (Finset.mem_map_of_mem _ h)), ← View.read_apply]
      exact hf i h
    · have hm : M.view.emb i ∈ M.view.setOn (rows (a + n) n') := Finset.mem_map_of_mem _ h
      rw [Finset.piecewise_eq_of_mem _ _ _ hm, ← View.read_apply]
      exact hg i h
  · rw [rows_add, show M.view.setOn (rows a n ∪ rows (a + n) n') = M.view.setOn (rows a n) ∪ M.view.setOn (rows (a + n) n') from Finset.map_union _ _]
    iexact H

/-- A load of a chunk. -/
theorem ld_rows {j : Dev nD} {q : PosShare TreeShare} {V : Dev nD → S256x1024.Idx → Elt F e} {off : Fin 2 → ℕ} {inb}
    {hl : M.view.LoadsAt (Rect.unit (s := S2048x1024) off S256x1024.size inb).toLoadRect} (hoff : off = ![256 * j.val, 0])
    {k : (S256x1024.Idx → Elt F e) → Prog (TpuEff nD τ sig (Elt F) Λ₀ .tc) α} :
    Hd c M (256 * j.val) 256 q (stack V)
      ⊢ iprop((Hd c M (256 * j.val) 256 q (stack V) -∗ wp frame (wpE (defs₀ (F := F)) 𝒱₀ (c : Thread nD τ) none) Set.univ (k (V j)) Q)
        -∗ wp frame (wpE (defs₀ (F := F)) 𝒱₀ (c : Thread nD τ) none) Set.univ
          (.op (.load M (Rect.unit (s := S2048x1024) off S256x1024.size inb).toLoadRect hl) k) Q) := by
  have hset : (Rect.unit (s := S2048x1024) off S256x1024.size inb).set = rows (256 * j.val) 256 := unit_rows inb hoff rfl
  unfold Hd
  iintro ⟨%f, %hf, H⟩ Hk
  iapply (wp_load 𝒱₀ (c : Thread nD τ) none Set.univ (S := M.view.setOn (rows (256 * j.val) 256)) (f := f)
    (by rw [show (Rect.unit (s := S2048x1024) off S256x1024.size inb).toLoadRect.set = rows (256 * j.val) 256 from hset])) $$ H
  iintro H
  have hv : M.view.readAt (Elt F) (Rect.unit (s := S2048x1024) off S256x1024.size inb).toLoadRect f = V j := by
    funext x
    rw [View.readAt_apply]
    have hx : (Rect.unit (s := S2048x1024) off S256x1024.size inb).emb x ∈ rows (256 * j.val) 256 := by
      rw [← hset]; exact LoadRect.idx_mem (r := (Rect.unit (s := S2048x1024) off S256x1024.size inb).toLoadRect) x
    refine (hf _ hx).trans (stack_at V j _ x ?_ ?_)
    · have h0 : off 0 = 256 * j.val := congrFun hoff 0
      rw [emb_unit]; exact congrArg (· + _) h0
    · have h1 : off 1 = 0 := congrFun hoff 1
      rw [emb_unit]; exact (congrArg (· + _) h1).trans (Nat.zero_add _)
  rw [hv]
  iapply Hk
  iexists f
  isplitr
  · ipureintro; exact hf
  · iexact H

/-- A store of a chunk, after the load the compiler puts before it. -/
theorem st_rows {j : Dev nD} {V : Dev nD → S256x1024.Idx → Elt F e} {off : Fin 2 → ℕ} {inb}
    {hl : M.view.LoadsAt (Rect.unit (s := S2048x1024) off S256x1024.size inb).toLoadRect}
    {w : S256x1024.Idx → Elt F e} {hx : (M.access (Rect.unit (s := S2048x1024) off S256x1024.size inb)).Stores Finset.univ}
    {hm} (hoff : off = ![256 * j.val, 0]) (hw : w = V j) {k : PUnit → Prog (TpuEff nD τ sig (Elt F) Λ₀ .tc) α} :
    An c M (256 * j.val) 256
      ⊢ iprop((Hd c M (256 * j.val) 256 fullShare (stack V) -∗ wp frame (wpE (defs₀ (F := F)) 𝒱₀ (c : Thread nD τ) none) Set.univ (k ⟨⟩) Q)
        -∗ wp frame (wpE (defs₀ (F := F)) 𝒱₀ (c : Thread nD τ) none) Set.univ
          (.op (.load M (Rect.unit (s := S2048x1024) off S256x1024.size inb).toLoadRect hl) fun _ =>
            .op (.store M (Rect.unit (s := S2048x1024) off S256x1024.size inb) w Finset.univ hx hm) k) Q) := by
  have hset : (Rect.unit (s := S2048x1024) off S256x1024.size inb).set = rows (256 * j.val) 256 := unit_rows inb hoff rfl
  have hS : (M.access (Rect.unit (s := S2048x1024) off S256x1024.size inb)).setOn Finset.univ ⊆ M.view.setOn (rows (256 * j.val) 256) := by
    show (M.view.slice (Rect.unit (s := S2048x1024) off S256x1024.size inb)).set ⊆ _
    rw [View.set_slice, hset]; exact fun _ h => h
  unfold An Hd
  iintro ⟨%f, H⟩ Hk
  iapply (wp_load 𝒱₀ (c : Thread nD τ) none Set.univ (S := M.view.setOn (rows (256 * j.val) 256)) (f := f)
    (by rw [show (Rect.unit (s := S2048x1024) off S256x1024.size inb).toLoadRect.set = rows (256 * j.val) 256 from hset])) $$ H
  iintro H
  iapply (wp_store 𝒱₀ (c : Thread nD τ) none Set.univ (m := M) (r := Rect.unit (s := S2048x1024) off S256x1024.size inb) (S := M.view.setOn (rows (256 * j.val) 256)) (f := f) hS) $$ H
  iintro H
  iapply Hk
  iexists ((M.access (Rect.unit (s := S2048x1024) off S256x1024.size inb)).write (Elt F) f w Finset.univ)
  isplitr
  · ipureintro
    intro i hi
    obtain ⟨x, rfl, hV⟩ := rows_chunk (F := F) inb hoff hi
    rw [hV V, ← hw]
    have h := View.read_slice_write_emb (v := M.view) (Rect.unit (s := S2048x1024) off S256x1024.size inb) f w (Finset.mem_univ x)
    exact h
  · iexact H

end Held

section Whole

variable {e : EltTy} {s : Shape} (M : Memref sig .tc .vmem s e)

/-- A whole buffer at `X`. -/
def Fl (q : PosShare TreeShare) (X : s.Idx → Elt F e) : sProp 𝕄 :=
  iprop(∃ f : Buf (Elt F) (M.view.loc (c : Thread nD τ)), ⌜M.view.read (Elt F) f = X⌝
    ∗ (M.view.loc (c : Thread nD τ) ↦[M.view.set]{q} f))
def Fa : sProp 𝕄 :=
  iprop(∃ f : Buf (Elt F) (M.view.loc (c : Thread nD τ)), (M.view.loc (c : Thread nD τ) ↦[M.view.set]{fullShare} f))

theorem ld_whole {q : PosShare TreeShare} {X : s.Idx → Elt F e} {off : Fin s.rank → ℕ} {inb}
    {hl : M.view.LoadsAt (Rect.unit (s := s) off s.size inb).toLoadRect} (hoff : ∀ a, off a = 0)
    {k : (s.Idx → Elt F e) → Prog (TpuEff nD τ sig (Elt F) Λ₀ .tc) α} :
    Fl c M q X
      ⊢ iprop((Fl c M q X -∗ wp frame (wpE (defs₀ (F := F)) 𝒱₀ (c : Thread nD τ) none) Set.univ (k X) Q)
        -∗ wp frame (wpE (defs₀ (F := F)) 𝒱₀ (c : Thread nD τ) none) Set.univ
          (.op (.load M (Rect.unit (s := s) off s.size inb).toLoadRect hl) k) Q) := by
  unfold Fl
  iintro ⟨%f, %hf, H⟩ Hk
  iapply (wp_load 𝒱₀ (c : Thread nD τ) none Set.univ (S := M.view.set) (f := f)
    (Finset.map_subset_map.mpr (Finset.subset_univ _))) $$ H
  iintro H
  have hv : M.view.readAt (Elt F) (Rect.unit (s := s) off s.size inb).toLoadRect f = X := by
    funext x
    rw [View.readAt_apply, hf]
    exact congrArg X (funext fun a => Fin.ext (by
      show off a + 1 * (x a).val = (x a).val; rw [hoff]; omega))
  rw [hv]
  iapply Hk
  iexists f
  isplitr
  · ipureintro; exact hf
  · iexact H

theorem st_whole {off : Fin s.rank → ℕ} {inb}
    {hl : M.view.LoadsAt (Rect.unit (s := s) off s.size inb).toLoadRect} (hoff : ∀ a, off a = 0)
    {w : s.Idx → Elt F e} {hx : (M.access (Rect.unit (s := s) off s.size inb)).Stores Finset.univ}
    {hm} {k : PUnit → Prog (TpuEff nD τ sig (Elt F) Λ₀ .tc) α} :
    Fa c M
      ⊢ iprop((Fl c M fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.load M (Rect.unit (s := s) off s.size inb).toLoadRect hl) fun _ =>
            .op (.store M (Rect.unit (s := s) off s.size inb) w Finset.univ hx hm) k) Q) := by
  unfold Fl Fa
  iintro ⟨%f, H⟩ Hk
  iapply (wp_load 𝒱₀ (c : Thread nD τ) none Set.univ (S := M.view.set) (f := f)
    (Finset.map_subset_map.mpr (Finset.subset_univ _))) $$ H
  iintro H
  iapply (wp_store 𝒱₀ (c : Thread nD τ) none Set.univ (m := M) (r := Rect.unit (s := s) off s.size inb) (S := M.view.set) (f := f) (by
    show (M.view.slice (Rect.unit (s := s) off s.size inb)).set ⊆ _
    rw [View.set_slice]; exact Finset.map_subset_map.mpr (Finset.subset_univ _))) $$ H
  iintro H
  iapply Hk
  iexists ((M.access (Rect.unit (s := s) off s.size inb)).write (Elt F) f w Finset.univ)
  isplitr
  · ipureintro
    funext x
    have hxx : (Rect.unit (s := s) off s.size inb).emb x = x := funext fun a => Fin.ext (by
      show off a + 1 * (x a).val = (x a).val; rw [hoff]; omega)
    have := View.read_slice_write_emb (v := M.view) (Rect.unit (s := s) off s.size inb) f w (Finset.mem_univ x)
    rw [hxx] at this
    exact this
  · iexact H

end Whole

section Attention

variable (Mq Mk : Memref sig .tc .vmem S2048x1024 .bf16) (Mv : Memref sig .tc .vmem S2048x1024 .f32)
  (Mo : Memref sig .tc .vmem S256x1024 .f32)

/-- The attention's block with its first `t` heads in place. -/
def Ob (X : S256x1024.Idx → Elt F .f32) (t : ℕ) : sProp 𝕄 :=
  iprop(∃ f : Buf (Elt F) (Mo.view.loc (c : Thread nD τ)), ⌜∀ i, (i 1).val < 128 * t → Mo.view.read (Elt F) f i = X i⌝
    ∗ (Mo.view.loc (c : Thread nD τ) ↦[Mo.view.set]{fullShare} f))

/-- A load of a head's columns. -/
theorem ld_head {e : EltTy} (M : Memref sig .tc .vmem S2048x1024 e) {a n : ℕ} {q : PosShare TreeShare} {X : S2048x1024.Idx → Elt F e}
    {Y : (⟨2, ![n, 1024]⟩ : Shape).Idx → Elt F e} {t : Fin 8}
    {off size : Fin 2 → ℕ} {inb}
    {hl : M.view.LoadsAt (Rect.unit (s := S2048x1024) off size inb).toLoadRect} (hoff : off = ![a, 128 * t.val])
    (hsz : size = ![n, 128]) (hY : ∀ (i : S2048x1024.Idx) (x : (⟨2, ![n, 1024]⟩ : Shape).Idx), (i 0).val = a + (x 0).val → (i 1).val = (x 1).val → X i = Y x)
    {k : ((⟨2, size⟩ : Shape).Idx → Elt F e) → Prog (TpuEff nD τ sig (Elt F) Λ₀ .tc) α} :
    Hd c M a n q X
      ⊢ iprop((Hd c M a n q X -∗ wp frame (wpE (defs₀ (F := F)) 𝒱₀ (c : Thread nD τ) none) Set.univ (k (hsz ▸ head t Y)) Q)
        -∗ wp frame (wpE (defs₀ (F := F)) 𝒱₀ (c : Thread nD τ) none) Set.univ
          (.op (.load M (Rect.unit (s := S2048x1024) off size inb).toLoadRect hl) k) Q) := by
  subst hsz
  have hset : (Rect.unit (s := S2048x1024) off ![n, 128] inb).set ⊆ rows a n := by
    intro i hi
    rw [Rect.mem_set_unit] at hi
    have h0 : off 0 = a := congrFun hoff 0
    have := hi 0
    rw [mem_rows, ← h0]
    exact this
  unfold Hd
  iintro ⟨%f, %hf, H⟩ Hk
  iapply (wp_load 𝒱₀ (c : Thread nD τ) none Set.univ (S := M.view.setOn (rows a n)) (f := f)
    (Finset.map_subset_map.mpr hset)) $$ H
  iintro H
  have hv : M.view.readAt (Elt F) (Rect.unit (s := S2048x1024) off ![n, 128] inb).toLoadRect f = head t Y := by
    funext x
    rw [View.readAt_apply]
    have hx : (Rect.unit (s := S2048x1024) off ![n, 128] inb).emb x ∈ rows a n := hset (LoadRect.idx_mem (r := (Rect.unit (s := S2048x1024) off ![n, 128] inb).toLoadRect) x)
    refine (hf _ hx).trans (hY _ _ ?_ ?_)
    · have h0 : off 0 = a := congrFun hoff 0
      rw [emb_unit]; exact congrArg (· + _) h0
    · have h1 : off 1 = 128 * t.val := congrFun hoff 1
      rw [emb_unit]; exact congrArg (· + _) h1
  rw [hv]
  iapply Hk
  iexists f
  isplitr
  · ipureintro; exact hf
  · iexact H

theorem attn_step {j : Dev nD} {t : Fin 8} {q : PosShare TreeShare} {oq okv oo : Fin 2 → ℕ} {iq ikv io}
    {hq1 : Mq.view.LoadsAt (Rect.unit (s := S2048x1024) oq S256x128.size iq).toLoadRect}
    {hk1 : Mk.view.LoadsAt (Rect.unit (s := S2048x1024) okv S2048x128.size ikv).toLoadRect}
    {hv1 : Mv.view.LoadsAt (Rect.unit (s := S2048x1024) okv S2048x128.size ikv).toLoadRect}
    {ho1 : Mo.view.LoadsAt (Rect.unit (s := S256x1024) oo S256x128.size io).toLoadRect}
    {p : FVec F S256x128 .bf16 → FVec F S2048x128 .bf16 → FVec F S2048x128 .f32 → FVec F S256x128 .f32}
    {hx : (Mo.access (Rect.unit (s := S256x1024) oo S256x128.size io)).Stores Finset.univ} {hm}
    (hoq : oq = ![256 * j.val, 128 * t.val]) (hokv : okv = ![0, 128 * t.val]) (hoo : oo = ![0, 128 * t.val]) (hp : p = k0_pay35)
    {k : PUnit → Prog (TpuEff nD τ sig (Elt F) Λ₀ .tc) α} :
    iprop(Hd c Mq (256 * j.val) 256 q (QF m c) ∗ Hd c Mk 0 2048 fullShare (KF m c) ∗ Hd c Mv 0 2048 fullShare (VF m c) ∗ Ob c Mo (OB m c j) t.val)
      ⊢ iprop(((Hd c Mq (256 * j.val) 256 q (QF m c) ∗ Hd c Mk 0 2048 fullShare (KF m c) ∗ Hd c Mv 0 2048 fullShare (VF m c) ∗ Ob c Mo (OB m c j) (t.val + 1))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load Mq (Rect.unit (s := S2048x1024) oq S256x128.size iq).toLoadRect hq1) fun (a : Vec F S256x128 .bf16) =>
            .op (.load Mk (Rect.unit (s := S2048x1024) okv S2048x128.size ikv).toLoadRect hk1) fun (b : Vec F S2048x128 .bf16) =>
            .op (.load Mv (Rect.unit (s := S2048x1024) okv S2048x128.size ikv).toLoadRect hv1) fun (d : Vec F S2048x128 .f32) =>
            .op (.load Mo (Rect.unit (s := S256x1024) oo S256x128.size io).toLoadRect ho1) fun _ =>
            .op (.store Mo (Rect.unit (s := S256x1024) oo S256x128.size io) (p a b d) Finset.univ hx hm) k) Q) := by
  subst hp
  have hi : ∀ (i x : S2048x1024.Idx), (i 0).val = 0 + (x 0).val → (i 1).val = (x 1).val → i = x := fun i x h0 h1 => by
    funext a
    refine Fin.cases (Fin.ext (h0.trans (Nat.zero_add _))) (fun a => ?_) a
    fin_cases a
    exact Fin.ext h1
  iintro ⟨Hq, Hk, Hv, Ho⟩ Hc
  iapply (ld_head c Mq (t := t) (X := QF m c) (Y := QC m c j) hoq rfl (fun i x h0 h1 => stack_at (QC m c) j i x h0 h1)) $$ Hq
  iintro Hq
  iapply (ld_head c Mk (t := t) (X := KF m c) (Y := KF m c) hokv rfl (fun i x h0 h1 => congrArg (KF m c) (hi i x h0 h1))) $$ Hk
  iintro Hk
  iapply (ld_head c Mv (t := t) (X := VF m c) (Y := VF m c) hokv rfl (fun i x h0 h1 => congrArg (VF m c) (hi i x h0 h1))) $$ Hv
  iintro Hv
  unfold Ob
  icases Ho with ⟨%f, %hf, Ho⟩
  iapply (wp_load 𝒱₀ (c : Thread nD τ) none Set.univ (S := Mo.view.set) (f := f)
    (Finset.map_subset_map.mpr (Finset.subset_univ _))) $$ Ho
  iintro Ho
  iapply (wp_store 𝒱₀ (c : Thread nD τ) none Set.univ (m := Mo) (r := Rect.unit (s := S256x1024) oo S256x128.size io) (S := Mo.view.set) (f := f) (by
    show (Mo.view.slice (Rect.unit (s := S256x1024) oo S256x128.size io)).set ⊆ _
    rw [View.set_slice]; exact Finset.map_subset_map.mpr (Finset.subset_univ _))) $$ Ho
  iintro Ho
  iapply Hc
  isplitl [Hq]; · iexact Hq
  isplitl [Hk]; · iexact Hk
  isplitl [Hv]; · iexact Hv
  iexists ((Mo.access (Rect.unit (s := S256x1024) oo S256x128.size io)).write (Elt F) f (OH m c j t) Finset.univ)
  isplitr
  · ipureintro
    intro i hi
    have ho0 : oo 0 = 0 := congrFun hoo 0
    have ho1 : oo 1 = 128 * t.val := congrFun hoo 1
    by_cases h : (i 1).val < 128 * t.val
    · refine (View.read_slice_write_of_not_mem (v := Mo.view) _ f _ _ ?_).trans (hf i h)
      rw [Finset.mem_map]
      rintro ⟨x, -, rfl⟩
      rw [emb_unit] at h
      have : oo 1 + (x 1).val < 128 * t.val := h
      omega
    · have h2 : (i 1).val < 128 * (t.val + 1) := hi
      let x : S256x128.Idx := Shape.pair ⟨(i 0).val, (i 0).isLt⟩ ⟨(i 1).val % 128, Nat.mod_lt _ (by decide)⟩
      have hix : (Rect.unit (s := S256x1024) oo S256x128.size io).emb x = i := by
        funext a
        apply Fin.ext
        rw [emb_unit]
        refine Fin.cases ?_ (fun a => ?_) a
        · show oo 0 + (i 0).val = (i 0).val
          omega
        · fin_cases a
          show oo 1 + (i 1).val % 128 = (i 1).val
          omega
      have ht : (⟨(i 1).val / 128, by have : (i 1).val < 1024 := (i 1).isLt; omega⟩ : Fin 8) = t := Fin.ext (by
        show (i 1).val / 128 = t.val; omega)
      have hO : OB m c j i = OH m c j t x := by
        show OH m c j ⟨(i 1).val / 128, _⟩ x = _
        rw [ht]
      rw [hO]
      conv_lhs => rw [← hix]
      exact View.read_slice_write_emb (v := Mo.view) _ f _ (Finset.mem_univ x)
  · iexact Ho

theorem Fa_Ob (X : S256x1024.Idx → Elt F .f32) : Fa c Mo ⊢ Ob c Mo X 0 := by
  unfold Fa Ob
  iintro ⟨%f, H⟩
  iexists f
  isplitr
  · ipureintro; intro i h; exact absurd h (Nat.not_lt_zero _)
  · iexact H
theorem Ob_Fl (X : S256x1024.Idx → Elt F .f32) : Ob c Mo X 8 ⊢ Fl c Mo fullShare X := by
  unfold Fl Ob
  iintro ⟨%f, %hf, H⟩
  iexists f
  isplitr
  · ipureintro
    funext i
    exact hf i (i 1).isLt
  · iexact H
theorem Fl_Fa {e : EltTy} {s : Shape} (M : Memref sig .tc .vmem s e) (X : s.Idx → Elt F e) : Fl c M fullShare X ⊢ Fa c M := by
  unfold Fl Fa
  iintro ⟨%f, -, H⟩
  iexists f
  iexact H

end Attention

end Cert.KernelIdeal.Run

end
-- ==== Proof.Ideal.Moves.lean ====
module

public import proofs.«01_k».proof.Proof.Ideal.Steps

/-! The pieces of the exchange and of the sending buffer, and the transfers between them. -/

@[expose] public section

set_option maxRecDepth 8192

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (c : Dev nD)
variable {α : Type}
variable {Q : α → sProp (MT nD τ sig Unit (Elt F) ℕ UU ℕ)}

abbrev xgM : Memref sig .tc .vmem S2048x1024 .bf16 := Memref.whole cc0_scratch0
abbrev qM : Memref sig .tc .vmem S2048x1024 .bf16 := Memref.whole cc0_scratch1
abbrev kM : Memref sig .tc .vmem S2048x1024 .bf16 := Memref.whole cc0_scratch2
abbrev vM : Memref sig .tc .vmem S2048x1024 .f32 := Memref.whole cc0_scratch3
abbrev oM : Memref sig .tc .vmem S256x1024 .f32 := Memref.whole cc0_scratch4
abbrev tM : Memref sig .tc .vmem S2048x1024 .f32 := Memref.whole cc0_scratch5
abbrev sbM : Memref sig .tc .vmem S7x256x1024 .bf16 := Memref.whole cc0_scratch6

theorem setOn_whole {b : Ref sig .tc} (S : Finset b.ty.shape.Idx) : (View.whole b : View sig .tc _ _ _).setOn S = S :=
  Finset.map_refl

/-- Rows of the exchange buffer, as a piece of it and by what it reads. -/
theorem xg_Hd (d : Dev nD) (a n : ℕ) (q : PosShare TreeShare) (f : S2048x1024.Idx → Elt F .bf16) :
    ((d : Thread nD τ).loc cc0_scratch0 ↦[rows a n]{q} f) ⊢ Hd d xgM a n q f := by
  unfold Hd
  iintro H
  iexists f
  isplitr
  · ipureintro; intro i _; rfl
  · rw [show (xgM.view).setOn (rows a n) = rows a n from setOn_whole _]; iexact H

theorem Hd_xg (d : Dev nD) (a n : ℕ) (q : PosShare TreeShare) (f : S2048x1024.Idx → Elt F .bf16) :
    Hd d xgM a n q f ⊢ ((d : Thread nD τ).loc cc0_scratch0 ↦[rows a n]{q} f) := by
  unfold Hd
  rw [show (xgM.view).setOn (rows a n) = rows a n from setOn_whole _]
  iintro ⟨%g, %hg, H⟩
  rw [← pointsTo_congr (ℓ := (d : Thread nD τ).loc cc0_scratch0) (f := g) (g := f) hg]
  iexact H

theorem hp_eq (d j : Dev nD) (q : PosShare TreeShare) (f : S2048x1024.Idx → Elt F .bf16) :
    ((d : Thread nD τ).loc cc0_scratch0 ↦[rows (256 * j.val) 256]{q} f : sProp 𝕄) ⊣⊢ iprop(hp d j 0 q f ∗ hp d j 1 q f) := by
  unfold hp
  rw [show rows (256 * j.val) 256 = rows (256 * j.val + 128 * 0) 128 ∪ rows (256 * j.val + 128 * 1) 128 from rows_add (256 * j.val) 128 128]
  exact pointsTo_union (rows_disj (Or.inl (by omega)))

/-- A chunk of the exchange buffer from its halves, -/
theorem hp_Hd (d j : Dev nD) (q : PosShare TreeShare) (f : S2048x1024.Idx → Elt F .bf16) :
    iprop(hp d j 0 q f ∗ hp d j 1 q f) ⊢ Hd d xgM (256 * j.val) 256 q f :=
  (hp_eq d j q f).2.trans (xg_Hd d _ _ q f)
/-- and back. -/
theorem Hd_hp (d j : Dev nD) (q : PosShare TreeShare) (f : S2048x1024.Idx → Elt F .bf16) :
    Hd d xgM (256 * j.val) 256 q f ⊢ iprop(hp d j 0 q f ∗ hp d j 1 q f) :=
  (Hd_xg d _ _ q f).trans (hp_eq d j q f).1
theorem sl_Hd (d : Dev nD) (st : ℕ) (f : S2048x1024.Idx → Elt F .bf16) : sl d st f ⊢ Hd d xgM (256 * st) 256 fullShare f := by
  unfold sl; exact xg_Hd d _ _ _ f

/-- The two shares of a piece. -/
theorem hp_share (d j : Dev nD) (b : ℕ) (q : PosShare TreeShare) (f : S2048x1024.Idx → Elt F .bf16) :
    hp d j b q f ⊣⊢ iprop(hp d j b q.left f ∗ hp d j b q.right f) := by
  unfold hp; exact pointsTo_share (PosShare.mem_left_op_right q)

theorem credit_half {off : Fin 2 → ℕ} (inb) (hu) :
    ((Memref.whole cc0_scratch0 : Memref sig .tc .vmem S2048x1024 .bf16).slice (Rect.unit (s := S2048x1024) off S128x1024.size inb) hu).view.dmaCredit = NH := rfl
theorem credit_full {off : Fin 2 → ℕ} (inb) (hu) :
    ((Memref.whole cc0_scratch0 : Memref sig .tc .vmem S2048x1024 .bf16).slice (Rect.unit (s := S2048x1024) off S256x1024.size inb) hu).view.dmaCredit = NF := rfl
theorem credit_slab {off : Fin 3 → ℕ} (inb) (hu) (hq) :
    ((sbM.slice (Rect.unit (s := S7x256x1024) off S1x256x1024.size inb) hu).squeeze S256x1024 hq).view.dmaCredit = NF := rfl

variable (K : Dev nD × Fin 44 → ℕ)

/-- A half chunk sent on. -/
theorem ag_send (p : Fin 25) (w : ℕ) (j : Dev nD) (b : ℕ) (q : PosShare TreeShare)
    (h0 : own p ≠ 0) (hw : w ≤ (own p).val) (h29 : own p ≠ 29) (h1 : tix p ≠ 0 ∧ tix p ≠ 29)
    (h2 : tbit p = false) (h3 : amt (own p) = amt (tix p)) (hN : NH = amt (tix p))
    {d : Dev nD} (hd : d = tgt c p) {off : Fin 2 → ℕ} (hoff : off = ![256 * j.val + 128 * b, 0])
    (hp1 : hp c j b q (XG m) = pay m c (own p) false) (hp2 : hp (tgt c p) j b fullShare (XG m) = pay m (tgt c p) (tix p) false)
    {inb inb' hu hu'} {hsc} {sS sem : DmaSem sig} (hs : csem (own p) = .dma sS) (ht : csem (tix p) = .dma sem)
    {hsrc hdst hsem} {k : PUnit → Prog (TpuEff nD τ sig (Elt F) Λ₀ .tc) α} :
    iprop(Led m K c p.val w ∗ hp c j b q (XG m) ∗ ∃ f : S2048x1024.Idx → Elt F .bf16, hp (tgt c p) j b fullShare f)
      ⊢ iprop((Led m K c (p.val + 1) w -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (xgM.slice (Rect.unit (s := S2048x1024) off S128x1024.size inb) hu)
            (.remote (Dev.tc d : Thread nD τ) ((Memref.whole cc0_scratch0 : Memref sig (Dev.tc d : Thread nD τ).2.kind .vmem S2048x1024 .bf16).slice (Rect.unit (s := S2048x1024) off S128x1024.size inb') hu') (.dma sS) hsc)
            (.dma sem) hsrc hdst hsem) k) Q) := by
  subst hd
  have hset : ∀ inb, (Rect.unit (s := S2048x1024) off S128x1024.size inb).set = rows (256 * j.val + 128 * b) 128 := fun inb => unit_rows inb hoff rfl
  have hS1 : (xgM.slice (Rect.unit (s := S2048x1024) off S128x1024.size inb) hu).view.set = rows (256 * j.val + 128 * b) 128 :=
    (View.set_slice_whole _ _).trans (hset inb)
  have hS2 : ((Memref.whole cc0_scratch0 : Memref sig (Dev.tc (tgt c p) : Thread nD τ).2.kind .vmem S2048x1024 .bf16).slice (Rect.unit (s := S2048x1024) off S128x1024.size inb') hu').view.set = rows (256 * j.val + 128 * b) 128 :=
    (View.set_slice_whole _ _).trans (hset inb')
  iintro ⟨HL, Hs, %f, Hd⟩
  iapply (led_send m K c p w h0 hw h29 h1 h2 h3 rfl hs ht (q := q) (fs := XG m) (fd := f) ((credit_half inb' hu').trans hN)
    (by rw [hS1, ← hp1]; exact .rfl)
    (by
      rw [hS2, ← hp2]
      unfold hp
      refine Entails.of_eq (pointsTo_congr (ℓ := (tgt c p : Thread nD τ).loc cc0_scratch0) fun i hi => ?_)
      rw [← hset inb', ← Rect.map_emb_univ, Finset.mem_map] at hi
      obtain ⟨x, -, rfl⟩ := hi
      exact View.write_emb_of_mem (v := (View.whole cc0_scratch0 : View sig .tc _ _ _).slice (Rect.unit (s := S2048x1024) off S128x1024.size inb')) f _ (Finset.mem_univ x)))
  isplitl [HL]; · iexact HL
  rw [hS1]
  unfold hp
  isplitl [Hs] <;> iassumption

section Slabs

variable {st : ℕ}

theorem unit_slab {off : Fin 3 → ℕ} (inb) (hoff : off = ![st, 0, 0]) :
    (Rect.unit (s := S7x256x1024) off S1x256x1024.size inb).set = slab st := by
  subst hoff
  ext i
  rw [Rect.mem_set_unit, mem_slab]
  constructor
  · intro h
    have h0 : st ≤ (i 0).val ∧ (i 0).val < st + 1 := h 0
    omega
  · intro h k
    have h1 : (i 1).val < 256 := (i 1).isLt
    have h2 : (i 2).val < 1024 := (i 2).isLt
    fin_cases k
    · exact ⟨le_of_eq h.symm, by show (i 0).val < st + 1; omega⟩
    · exact ⟨Nat.zero_le _, by show (i 1).val < 0 + 256; omega⟩
    · exact ⟨Nat.zero_le _, by show (i 2).val < 0 + 1024; omega⟩

/-- What the sending buffer holds at a slab. -/
theorem SF_at {off : Fin 3 → ℕ} (inb) (hoff : off = ![st, 0, 0]) (x : S1x256x1024.Idx) :
    SF m c ((Rect.unit (s := S7x256x1024) off S1x256x1024.size inb).emb x) = SB m c st x := by
  have h0 : off 0 = st := congrFun hoff 0
  have h1 : off 1 = 0 := congrFun hoff 1
  have h2 : off 2 = 0 := congrFun hoff 2
  have hx0 : (x 0).val < 1 := (x 0).isLt
  have e0 : (((Rect.unit (s := S7x256x1024) off S1x256x1024.size inb).emb x) 0).val = st := by
    rw [emb_unit]; show off 0 + (x 0).val = st; omega
  unfold SF flat
  rw [e0]
  refine congrArg (SB m c st) ?_
  refine (Shape.reshapeEquiv_cons_one numel_flat _).trans ?_
  funext a
  apply Fin.ext
  fin_cases a
  · show 0 = (x 0).val
    omega
  · show (((Rect.unit (s := S7x256x1024) off S1x256x1024.size inb).emb x) 1).val = (x 1).val
    rw [emb_unit]; show off 1 + (x 1).val = _; omega
  · show (((Rect.unit (s := S7x256x1024) off S1x256x1024.size inb).emb x) 2).val = (x 2).val
    rw [emb_unit]; show off 2 + (x 2).val = _; omega

theorem st_slab {off : Fin 3 → ℕ} {inb} (hoff : off = ![st, 0, 0])
    {hl : sbM.view.LoadsAt (Rect.unit (s := S7x256x1024) off S1x256x1024.size inb).toLoadRect}
    {w : S1x256x1024.Idx → Elt F .bf16} {hx : (sbM.access (Rect.unit (s := S7x256x1024) off S1x256x1024.size inb)).Stores Finset.univ}
    {hm} (hw : w = SB m c st) {k : PUnit → Prog (TpuEff nD τ sig (Elt F) Λ₀ .tc) α} :
    iprop(∃ f : S7x256x1024.Idx → Elt F .bf16, sb c st f)
      ⊢ iprop((sb c st (SF m c) -∗ wp frame (wpE (defs₀ (F := F)) 𝒱₀ (c : Thread nD τ) none) Set.univ (k ⟨⟩) Q)
        -∗ wp frame (wpE (defs₀ (F := F)) 𝒱₀ (c : Thread nD τ) none) Set.univ
          (.op (.load sbM (Rect.unit (s := S7x256x1024) off S1x256x1024.size inb).toLoadRect hl) fun _ =>
            .op (.store sbM (Rect.unit (s := S7x256x1024) off S1x256x1024.size inb) w Finset.univ hx hm) k) Q) := by
  subst hw
  have hset := unit_slab inb hoff
  unfold sb
  iintro ⟨%f, H⟩ Hk
  iapply (wp_load 𝒱₀ (c : Thread nD τ) none Set.univ (m := sbM) (S := slab st) (f := f)
    (by rw [show (Rect.unit (s := S7x256x1024) off S1x256x1024.size inb).toLoadRect.set = slab st from hset]
        exact (setOn_whole (b := cc0_scratch6) _).subset)) $$ H
  iintro H
  iapply (wp_store 𝒱₀ (c : Thread nD τ) none Set.univ (m := sbM) (r := Rect.unit (s := S7x256x1024) off S1x256x1024.size inb) (S := slab st) (f := f)
    ((View.set_slice_whole cc0_scratch6 (Rect.unit (s := S7x256x1024) off S1x256x1024.size inb)).trans hset).subset) $$ H
  iintro H
  iapply Hk
  refine Entails.of_eq (pointsTo_congr (ℓ := (c : Thread nD τ).loc cc0_scratch6) fun i hi => ?_)
  rw [← hset, ← Rect.map_emb_univ, Finset.mem_map] at hi
  obtain ⟨x, -, rfl⟩ := hi
  rw [SF_at m c inb hoff x]
  exact View.write_emb_of_mem (v := (View.whole cc0_scratch6 : View sig .tc _ _ _).slice (Rect.unit (s := S7x256x1024) off S1x256x1024.size inb)) f _ (Finset.mem_univ x)

/-- A slab sent. -/
theorem rs_send (p : Fin 25) (w : ℕ) (st : Dev nD)
    (h0 : own p ≠ 0) (hw : w ≤ (own p).val) (h29 : own p ≠ 29) (h1 : tix p ≠ 0 ∧ tix p ≠ 29)
    (h2 : tbit p = false) (h3 : amt (own p) = amt (tix p)) (hN : NF = amt (tix p))
    {d : Dev nD} (hd : d = tgt c p) (hback : (if st.val < 4 then prv (tgt c p) else nxt (tgt c p)) = c)
    {off : Fin 2 → ℕ} (hoff : off = ![256 * st.val, 0]) {offs : Fin 3 → ℕ} (hoffs : offs = ![st.val, 0, 0])
    (hp1 : sb c st.val (SF m c) = pay m c (own p) false) (hp2 : sl (tgt c p) st.val (RX m (tgt c p)) = pay m (tgt c p) (tix p) false)
    {inb inb' hu hu' hq} {hsc} {sS sem : DmaSem sig} (hs : csem (own p) = .dma sS) (ht : csem (tix p) = .dma sem)
    {hsrc hdst hsem} {k : PUnit → Prog (TpuEff nD τ sig (Elt F) Λ₀ .tc) α} :
    iprop(Led m K c p.val w ∗ sb c st.val (SF m c) ∗ ∃ f : S2048x1024.Idx → Elt F .bf16, sl (tgt c p) st.val f)
      ⊢ iprop((Led m K c (p.val + 1) w -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ((sbM.slice (Rect.unit (s := S7x256x1024) offs S1x256x1024.size inb) hu).squeeze S256x1024 hq)
            (.remote (Dev.tc d : Thread nD τ) ((Memref.whole cc0_scratch0 : Memref sig (Dev.tc d : Thread nD τ).2.kind .vmem S2048x1024 .bf16).slice (Rect.unit (s := S2048x1024) off S256x1024.size inb') hu') (.dma sS) hsc)
            (.dma sem) hsrc hdst hsem) k) Q) := by
  subst hd
  have hset : (Rect.unit (s := S2048x1024) off S256x1024.size inb').set = rows (256 * st.val) 256 := unit_rows inb' hoff rfl
  have hS1 : ((sbM.slice (Rect.unit (s := S7x256x1024) offs S1x256x1024.size inb) hu).squeeze S256x1024 hq).view.set = slab st.val := by
    exact (View.set_reshape _ _).trans ((View.set_slice_whole cc0_scratch6 _).trans (unit_slab inb hoffs))
  have hS2 : ((Memref.whole cc0_scratch0 : Memref sig (Dev.tc (tgt c p) : Thread nD τ).2.kind .vmem S2048x1024 .bf16).slice (Rect.unit (s := S2048x1024) off S256x1024.size inb') hu').view.set = rows (256 * st.val) 256 :=
    (View.set_slice_whole _ _).trans hset
  iintro ⟨HL, Hs, %f, Hd⟩
  iapply (led_send m K c p w h0 hw h29 h1 h2 h3 rfl hs ht (q := fullShare) (fs := SF m c) (fd := f) ((credit_full inb' hu').trans hN)
    (by rw [hS1, ← hp1]; exact .rfl)
    (by
      rw [hS2, ← hp2]
      unfold sl
      refine Entails.of_eq (pointsTo_congr (ℓ := (tgt c p : Thread nD τ).loc cc0_scratch0) fun i hi => ?_)
      obtain ⟨x, rfl, hV⟩ := rows_chunk (F := F) inb' hoff hi
      refine (View.write_emb_of_mem (v := (View.whole cc0_scratch0 : View sig .tc _ _ _).slice (Rect.unit (s := S2048x1024) off S256x1024.size inb')) f _ (Finset.mem_univ x)).trans ?_
      unfold RX
      rw [hV]
      unfold RV
      rw [hback]
      unfold flat
      exact SF_at m c inb hoffs _))
  isplitl [HL]; · iexact HL
  rw [hS1, hS2]
  unfold sb sl
  isplitl [Hs] <;> iassumption

end Slabs

end Cert.KernelIdeal.Run

end
-- ==== Proof.Ideal.Segs.lean ====
module

public import proofs.«01_k».proof.Proof.Ideal.Moves

/-! The kernel's recurring steps, each at a symbolic device: a transfer, a wait, a chunk's projections, a block of the output
projection; and the program's offsets and device numbers as the ring counts them. -/

@[expose] public section

set_option maxRecDepth 8192

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section Offsets
variable (c : Dev nD)

theorem o1 : k0_off1 c = ![256 * (sh c 0).val, 0] := by rw [sh_zero]; exact k0_off1_eq c
theorem o2 (r : Fin 2) : k0_off2 c (BitVec.ofNat 32 (128 * r.val)) = ![256 * (sh c 0).val + 128 * r.val, 0] := by
  rw [sh_zero]; exact k0_off2_eq c r
theorem o3 (a : Fin 3) (r : Fin 2) : k0_off3 c (BitVec.ofNat 32 a.val) (BitVec.ofNat 32 (128 * r.val)) = ![256 * (sh c (7 - a.val)).val + 128 * r.val, 0] := by
  rw [k0_off3_eq c a r, sh_val, Nat.add_sub_assoc (by omega)]
theorem o4 (a : Fin 4) : k0_off4 c (BitVec.ofNat 32 a.val) = ![256 * (sh c (7 - a.val)).val, 0] := by
  rw [k0_off4_eq c a, sh_val, Nat.add_sub_assoc (by omega)]
theorem o5 (a : Fin 2) (r : Fin 2) : k0_off5 c (BitVec.ofNat 32 a.val) (BitVec.ofNat 32 (128 * r.val)) = ![256 * (sh c (a.val + 1)).val + 128 * r.val, 0] := by
  rw [k0_off5_eq c a r, sh_val, Nat.add_assoc]
theorem o6 (a : Fin 3) : k0_off6 c (BitVec.ofNat 32 a.val) = ![256 * (sh c (a.val + 1)).val, 0] := by
  rw [k0_off6_eq c a, sh_val, Nat.add_assoc]
theorem o10 (a : Fin 4) : k0_off10 c (BitVec.ofNat 32 a.val) = ![256 * (sh c (4 - a.val)).val, 0] := by
  rw [k0_off10_eq c a, sh_val, show (c.val + 12 - a.val) % 8 = (c.val + (4 - a.val)) % 8 by omega]
theorem o14 (a : Fin 3) : k0_off14 c (BitVec.ofNat 32 a.val) = ![256 * (sh c (a.val + 5)).val, 0] := by
  rw [k0_off14_eq c a, sh_val, Nat.add_assoc]
theorem o2_0 : k0_off2 c 0#32 = ![256 * (sh c 0).val + 128 * 0, 0] := o2 c 0
theorem o2_1 : k0_off2 c 128#32 = ![256 * (sh c 0).val + 128 * 1, 0] := o2 c 1
theorem o3_00 : k0_off3 c 0#32 0#32 = ![256 * (sh c 7).val + 128 * 0, 0] := o3 c 0 0
theorem o3_01 : k0_off3 c 0#32 128#32 = ![256 * (sh c 7).val + 128 * 1, 0] := o3 c 0 1
theorem o3_10 : k0_off3 c 1#32 0#32 = ![256 * (sh c 6).val + 128 * 0, 0] := o3 c 1 0
theorem o3_11 : k0_off3 c 1#32 128#32 = ![256 * (sh c 6).val + 128 * 1, 0] := o3 c 1 1
theorem o3_20 : k0_off3 c 2#32 0#32 = ![256 * (sh c 5).val + 128 * 0, 0] := o3 c 2 0
theorem o3_21 : k0_off3 c 2#32 128#32 = ![256 * (sh c 5).val + 128 * 1, 0] := o3 c 2 1
theorem o4_0 : k0_off4 c 0#32 = ![256 * (sh c 7).val, 0] := o4 c 0
theorem o4_1 : k0_off4 c 1#32 = ![256 * (sh c 6).val, 0] := o4 c 1
theorem o4_2 : k0_off4 c 2#32 = ![256 * (sh c 5).val, 0] := o4 c 2
theorem o4_3 : k0_off4 c 3#32 = ![256 * (sh c 4).val, 0] := o4 c 3
theorem o5_00 : k0_off5 c 0#32 0#32 = ![256 * (sh c 1).val + 128 * 0, 0] := o5 c 0 0
theorem o5_01 : k0_off5 c 0#32 128#32 = ![256 * (sh c 1).val + 128 * 1, 0] := o5 c 0 1
theorem o5_10 : k0_off5 c 1#32 0#32 = ![256 * (sh c 2).val + 128 * 0, 0] := o5 c 1 0
theorem o5_11 : k0_off5 c 1#32 128#32 = ![256 * (sh c 2).val + 128 * 1, 0] := o5 c 1 1
theorem o6_0 : k0_off6 c 0#32 = ![256 * (sh c 1).val, 0] := o6 c 0
theorem o6_1 : k0_off6 c 1#32 = ![256 * (sh c 2).val, 0] := o6 c 1
theorem o6_2 : k0_off6 c 2#32 = ![256 * (sh c 3).val, 0] := o6 c 2
theorem o10_0 : k0_off10 c 0#32 = ![256 * (sh c 4).val, 0] := o10 c 0
theorem o10_1 : k0_off10 c 1#32 = ![256 * (sh c 3).val, 0] := o10 c 1
theorem o10_2 : k0_off10 c 2#32 = ![256 * (sh c 2).val, 0] := o10 c 2
theorem o10_3 : k0_off10 c 3#32 = ![256 * (sh c 1).val, 0] := o10 c 3
theorem o14_0 : k0_off14 c 0#32 = ![256 * (sh c 5).val, 0] := o14 c 0
theorem o14_1 : k0_off14 c 1#32 = ![256 * (sh c 6).val, 0] := o14 c 1
theorem o14_2 : k0_off14 c 2#32 = ![256 * (sh c 7).val, 0] := o14 c 2

end Offsets

variable (m : (ℓ : Loc nD τ sig) → Buf (Elt F) ℓ)
variable (c : Dev nD)
variable {α : Type}
variable {Q : α → sProp (MT nD τ sig Unit (Elt F) ℕ UU ℕ)}
variable (K : Dev nD × Fin 44 → ℕ)

/-- What makes payment `p` a transfer of halves, -/
abbrev okH (p : Fin 25) (n n' w : ℕ) : Prop := p.val = n ∧ n' = n + 1 ∧ own p ≠ 0 ∧ w ≤ (own p).val ∧ (own p).val < 29 ∧ tix p ≠ 0 ∧ (tix p).val < 29 ∧ tbit p = false
/-- or of slabs. -/
abbrev okF (p : Fin 25) (n n' w : ℕ) : Prop := p.val = n ∧ n' = n + 1 ∧ 29 < (own p).val ∧ w ≤ (own p).val ∧ 29 < (tix p).val ∧ tbit p = false

theorem amt_half {i : Fin 44} (h0 : i ≠ 0) (h : i.val < 29) : amt i = NH := by
  unfold amt
  rw [if_neg (by rintro (h' | h'); exacts [h0 h', absurd (h' ▸ h) (by decide)]), if_pos h]
theorem amt_full {i : Fin 44} (h : 29 < i.val) : amt i = NF := by
  unfold amt
  rw [if_neg (by rintro (h' | h') <;> exact absurd (h' ▸ h) (by decide)), if_neg (by omega)]
theorem tot_half {i : Fin 44} (h0 : i ≠ 0) (h : i.val < 29) : tot i = NH := by
  unfold tot
  rw [if_neg (by rintro (h' | h'); exacts [h0 h', absurd (h' ▸ h) (by decide)]), amt_half h0 h]
theorem tot_full {i : Fin 44} (h : 29 < i.val) : tot i = NF := by
  unfold tot
  rw [if_neg (by rintro (h' | h') <;> exact absurd (h' ▸ h) (by decide)), amt_full h]
theorem got_one {i : Fin 44} (h0 : i ≠ 0) (h : i ≠ 29) : got m c i = pay m c i false := by
  unfold got; exact if_neg (by rintro (h' | h'); exacts [h0 h', h h'])

/-- A half chunk sent on. -/
theorem send_half (p : Fin 25) (n n' w : ℕ) (hok : okH p n n' w) {j : Dev nD} {b : ℕ} {q : PosShare TreeShare}
    {d : Dev nD} (hd : d = tgt c p) {off : Fin 2 → ℕ} (hoff : off = ![256 * j.val + 128 * b, 0]) {t : Dev nD} (htt : t = tgt c p)
    (hp1 : hp c j b q (XG m) = pay m c (own p) false) (hp2 : hp t j b fullShare (XG m) = pay m t (tix p) false)
    {inb inb' hu hu'} {hsc} {sS sem : DmaSem sig} (hs : csem (own p) = .dma sS) (ht : csem (tix p) = .dma sem)
    {hsrc hdst hsem} {k : PUnit → Prog (TpuEff nD τ sig (Elt F) Λ₀ .tc) α} :
    iprop(Led m K c n w ∗ hp c j b q (XG m) ∗ ∃ f : S2048x1024.Idx → Elt F .bf16, hp t j b fullShare f)
      ⊢ iprop((Led m K c n' w -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (xgM.slice (Rect.unit (s := S2048x1024) off S128x1024.size inb) hu)
            (.remote (Dev.tc d : Thread nD τ) ((Memref.whole cc0_scratch0 : Memref sig (Dev.tc d : Thread nD τ).2.kind .vmem S2048x1024 .bf16).slice (Rect.unit (s := S2048x1024) off S128x1024.size inb') hu') (.dma sS) hsc)
            (.dma sem) hsrc hdst hsem) k) Q) := by
  subst htt
  obtain ⟨rfl, rfl, h0, hw, h29, h1, h1', h2⟩ := hok
  have ht29 : tix p ≠ 29 := fun h => absurd (h ▸ h1') (by decide)
  exact ag_send m c K p w j b q h0 hw (fun h => absurd (h ▸ h29) (by decide)) ⟨h1, ht29⟩ h2 ((amt_half h0 h29).trans (amt_half h1 h1').symm)
    (amt_half h1 h1').symm hd hoff hp1 hp2 hs ht

/-- A slab sent. -/
theorem send_slab (p : Fin 25) (n n' w : ℕ) (hok : okF p n n' w) (st : Dev nD)
    {d : Dev nD} (hd : d = tgt c p) {t : Dev nD} (htt : t = tgt c p) (hback : (if st.val < 4 then prv t else nxt t) = c)
    {off : Fin 2 → ℕ} (hoff : off = ![256 * st.val, 0]) {offs : Fin 3 → ℕ} (hoffs : offs = ![st.val, 0, 0])
    (hp1 : sb c st.val (SF m c) = pay m c (own p) false) (hp2 : sl t st.val (RX m t) = pay m t (tix p) false)
    {inb inb' hu hu' hq} {hsc} {sS sem : DmaSem sig} (hs : csem (own p) = .dma sS) (ht : csem (tix p) = .dma sem)
    {hsrc hdst hsem} {k : PUnit → Prog (TpuEff nD τ sig (Elt F) Λ₀ .tc) α} :
    iprop(Led m K c n w ∗ sb c st.val (SF m c) ∗ ∃ f : S2048x1024.Idx → Elt F .bf16, sl t st.val f)
      ⊢ iprop((Led m K c n' w -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma ((sbM.slice (Rect.unit (s := S7x256x1024) offs S1x256x1024.size inb) hu).squeeze S256x1024 hq)
            (.remote (Dev.tc d : Thread nD τ) ((Memref.whole cc0_scratch0 : Memref sig (Dev.tc d : Thread nD τ).2.kind .vmem S2048x1024 .bf16).slice (Rect.unit (s := S2048x1024) off S256x1024.size inb') hu') (.dma sS) hsc)
            (.dma sem) hsrc hdst hsem) k) Q) := by
  subst htt
  obtain ⟨rfl, rfl, h0, hw, h1, h2⟩ := hok
  have ne : ∀ i : Fin 44, 29 < i.val → i ≠ 0 ∧ i ≠ 29 := fun i hi => ⟨fun h => absurd (h ▸ hi) (by decide), fun h => absurd (h ▸ hi) (by decide)⟩
  exact rs_send m c K p w st (ne _ h0).1 hw (ne _ h0).2 (ne _ h1) h2 ((amt_full h0).trans (amt_full h1).symm)
    (amt_full h1).symm hd hback hoff hoffs hp1 hp2 hs ht

/-- What makes cell `i` one that can be waited on after `n` payments. -/
abbrev okW (i : Fin 44) (n w w' : ℕ) : Prop := i.val = w ∧ w' = w + 1 ∧ sentBy i ≤ n ∧ (∀ p ∈ paysFrom n, lvl i < lvl (tix p)) ∧ i ≠ 0 ∧ i ≠ 29

/-- A wait at a cell a transfer pays. -/
theorem wait_dma (i : Fin 44) (n w w' : ℕ) (hok : okW i n w w') {P : sProp 𝕄} (hP : pay m c i false = P)
    {sp sp' : Space} {s s' : Shape} {e e' : EltTy} {sem : DmaSem sig} (hs : csem i = .dma sem)
    {src : Memref sig .tc sp' s' e'} {dst : Memref sig .tc sp s e} {hsrc : src.view.WordExact} {hdst : dst.view.WordExact}
    (hk : dst.view.dmaCredit = tot i) {k : PUnit → Prog (TpuEff nD τ sig (Elt F) Λ₀ .tc) α} :
    Led m K c n w ⊢ iprop(((Led m K c n w' ∗ P) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  obtain ⟨rfl, rfl, h1, h2, h3, h4⟩ := hok
  subst hP
  rw [← got_one m c h3 h4]
  exact led_wait m K c i n h1 h2 hs (wpE_waitDma2_eq 𝒱₀ (c : Thread nD τ) none Set.univ) hk

/-- A signal at the barrier or between the two halves. -/
theorem signal_at (p : Fin 25) (n n' w : ℕ) (hok : p.val = n ∧ n' = n + 1 ∧ own p = 0 ∧ (tix p = 0 ∨ tix p = 29)) {P : sProp 𝕄}
    (hP : pay m (tgt c p) (tix p) (tbit p) = P) {sem : Sem sig} (hs : csem (tix p) = .reg sem)
    {d : Dev nD} (hd : d = tgt c p) {k : PUnit → Prog (TpuEff nD τ sig (Elt F) Λ₀ .tc) α} {b : BitVec 32} (hb : b.toInt = 1) :
    iprop(Led m K c n w ∗ P)
      ⊢ iprop((Led m K c n' w -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (d : Thread nD τ) sem b.toInt) k) Q) := by
  obtain ⟨rfl, rfl, h0, h1⟩ := hok
  subst hP
  exact led_signal m K c p w h0 h1 hs hd hb

/-- The wait that meets the neighbours' two signals. -/
theorem wait_two (i : Fin 44) (n w w' : ℕ) (hok : i.val = w ∧ w' = w + 1 ∧ sentBy i ≤ n ∧ (∀ p ∈ paysFrom n, lvl i < lvl (tix p)) ∧ (i = 0 ∨ i = 29))
    {P P' : sProp 𝕄} (hP : pay m c i false = P) (hP' : pay m c i true = P')
    {sem : Sem sig} (hs : csem i = .reg sem) {b : ℤ} (hb : b = (tot i : ℕ))
    {k : PUnit → Prog (TpuEff nD τ sig (Elt F) Λ₀ .tc) α} :
    Led m K c n w ⊢ iprop(((Led m K c n w' ∗ P ∗ P') -∗ wp frame (wpE (defs₀ (F := F)) 𝒱₀ (c : Thread nD τ) none) Set.univ (k ⟨⟩) Q)
      -∗ wp frame (wpE (defs₀ (F := F)) 𝒱₀ (c : Thread nD τ) none) Set.univ (.op (.semWait sem b) k) Q) := by
  obtain ⟨rfl, rfl, h1, h2, h3⟩ := hok
  subst hP hP' hb
  have hg : got m c i = iprop(pay m c i false ∗ pay m c i true) := by unfold got; exact if_pos h3
  rw [← hg]
  exact led_wait m K c i n h1 h2 hs (wpE_semWait_eq 𝒱₀ (c : Thread nD τ) none Set.univ) rfl

section Halves
variable {off offs : Fin 2 → ℕ} {inb : ∀ a, off a + S128x1024.size a ≤ S2048x1024.size a} {hu}
  {inb' : ∀ a, off a + S256x1024.size a ≤ S2048x1024.size a} {hu'}

theorem half_tot (i : Fin 44) (h : i ≠ 0 ∧ i.val < 29) :
    (xgM.slice (Rect.unit (s := S2048x1024) off S128x1024.size inb) hu).view.dmaCredit = tot i :=
  (credit_half inb hu).trans (tot_half h.1 h.2).symm
theorem full_tot (i : Fin 44) (h : 29 < i.val) :
    (xgM.slice (Rect.unit (s := S2048x1024) off S256x1024.size inb') hu').view.dmaCredit = tot i :=
  (credit_full inb' hu').trans (tot_full h).symm
end Halves
theorem slab_tot {off : Fin 3 → ℕ} {inb : ∀ a, off a + S1x256x1024.size a ≤ S7x256x1024.size a} {hu hq} (i : Fin 44) (h : 29 < i.val) :
    ((sbM.slice (Rect.unit (s := S7x256x1024) off S1x256x1024.size inb) hu).squeeze S256x1024 hq).view.dmaCredit = tot i :=
  (credit_slab inb hu hq).trans (tot_full h).symm

/-! ## A chunk's projections -/

abbrev aX : Memref sig .tc .vmem S256x1024 .f32 := Memref.whole cc0_stg0_0
abbrev aWq : Memref sig .tc .vmem S1024x1024 .f32 := Memref.whole cc0_stg1_0
abbrev aWo : Memref sig .tc .vmem S1024x1024 .f32 := Memref.whole cc0_stg2_0
abbrev aWk : Memref sig .tc .vmem S1024x1024 .f32 := Memref.whole cc0_stg3_0
abbrev aWv : Memref sig .tc .vmem S1024x1024 .f32 := Memref.whole cc0_stg4_0
abbrev aOut : Memref sig .tc .vmem S256x1024 .f32 := Memref.whole cc0_stg5_0

/-- The three weights, -/
def Wt : sProp 𝕄 := iprop(Fl c aWq fullShare (wq m c) ∗ Fl c aWk fullShare (wk m c) ∗ Fl c aWv fullShare (wv m c))
/-- a chunk of the projections before they are computed, -/
def raw (j : Dev nD) : sProp 𝕄 := iprop(An c qM (256 * j.val) 256 ∗ An c kM (256 * j.val) 256 ∗ An c vM (256 * j.val) 256)
/-- and after. -/
def don (j : Dev nD) : sProp 𝕄 := iprop(Hd c qM (256 * j.val) 256 fullShare (QF m c) ∗ Hd c kM (256 * j.val) 256 fullShare (KF m c)
  ∗ Hd c vM (256 * j.val) 256 fullShare (VF m c))

theorem z2 (a : Fin 2) : (![0, 0] : Fin 2 → ℕ) a = 0 := by revert a; decide

theorem qkv {j : Dev nD} {off : Fin 2 → ℕ} {inb} (hoff : off = ![256 * j.val, 0]) {iw}
    {hlw1 : aWq.view.LoadsAt (Rect.unit (s := S1024x1024) ![0, 0] S1024x1024.size iw).toLoadRect}
    {hlw2 : aWk.view.LoadsAt (Rect.unit (s := S1024x1024) ![0, 0] S1024x1024.size iw).toLoadRect}
    {hlw3 : aWv.view.LoadsAt (Rect.unit (s := S1024x1024) ![0, 0] S1024x1024.size iw).toLoadRect}
    {hl1 : qM.view.LoadsAt (Rect.unit (s := S2048x1024) off S256x1024.size inb).toLoadRect}
    {hl2 : kM.view.LoadsAt (Rect.unit (s := S2048x1024) off S256x1024.size inb).toLoadRect}
    {hl3 : vM.view.LoadsAt (Rect.unit (s := S2048x1024) off S256x1024.size inb).toLoadRect}
    {p1 p2 : Vec F S1024x1024 .f32 → FVec F S256x1024 .bf16} {p3 : Vec F S1024x1024 .f32 → FVec F S256x1024 .f32}
    {hx1 : (qM.access (Rect.unit (s := S2048x1024) off S256x1024.size inb)).Stores Finset.univ} {hm1}
    {hx2 : (kM.access (Rect.unit (s := S2048x1024) off S256x1024.size inb)).Stores Finset.univ} {hm2}
    {hx3 : (vM.access (Rect.unit (s := S2048x1024) off S256x1024.size inb)).Stores Finset.univ} {hm3}
    (h1 : p1 (wq m c) = QC m c j) (h2 : p2 (wk m c) = KC m c j) (h3 : p3 (wv m c) = VC m c j)
    {k : PUnit → Prog (TpuEff nD τ sig (Elt F) Λ₀ .tc) α} :
    iprop(Wt m c ∗ raw c j)
      ⊢ iprop(((Wt m c ∗ don m c j) -∗ wp frame (wpE (defs₀ (F := F)) 𝒱₀ (c : Thread nD τ) none) Set.univ (k ⟨⟩) Q)
        -∗ wp frame (wpE (defs₀ (F := F)) 𝒱₀ (c : Thread nD τ) none) Set.univ
          (.op (.load aWq (Rect.unit (s := S1024x1024) ![0, 0] S1024x1024.size iw).toLoadRect hlw1) fun (a : Vec F S1024x1024 .f32) =>
            .op (.load qM (Rect.unit (s := S2048x1024) off S256x1024.size inb).toLoadRect hl1) fun _ =>
            .op (.store qM (Rect.unit (s := S2048x1024) off S256x1024.size inb) (p1 a) Finset.univ hx1 hm1) fun _ =>
            .op (.load aWk (Rect.unit (s := S1024x1024) ![0, 0] S1024x1024.size iw).toLoadRect hlw2) fun (a : Vec F S1024x1024 .f32) =>
            .op (.load kM (Rect.unit (s := S2048x1024) off S256x1024.size inb).toLoadRect hl2) fun _ =>
            .op (.store kM (Rect.unit (s := S2048x1024) off S256x1024.size inb) (p2 a) Finset.univ hx2 hm2) fun _ =>
            .op (.load aWv (Rect.unit (s := S1024x1024) ![0, 0] S1024x1024.size iw).toLoadRect hlw3) fun (a : Vec F S1024x1024 .f32) =>
            .op (.load vM (Rect.unit (s := S2048x1024) off S256x1024.size inb).toLoadRect hl3) fun _ =>
            .op (.store vM (Rect.unit (s := S2048x1024) off S256x1024.size inb) (p3 a) Finset.univ hx3 hm3) k) Q) := by
  unfold Wt raw don
  iintro ⟨⟨Wq, Wk, Wv⟩, Hq, Hk, Hv⟩ Hc
  iapply (ld_whole c aWq z2) $$ Wq
  iintro Wq
  iapply (st_rows c qM (V := QC m c) hoff h1) $$ Hq
  iintro Hq
  iapply (ld_whole c aWk z2) $$ Wk
  iintro Wk
  iapply (st_rows c kM (V := KC m c) hoff h2) $$ Hk
  iintro Hk
  iapply (ld_whole c aWv z2) $$ Wv
  iintro Wv
  iapply (st_rows c vM (V := VC m c) hoff h3) $$ Hv
  iintro Hv
  iapply Hc
  isplitl [Wq Wk Wv]
  · isplitl [Wq]; · iexact Wq
    isplitl [Wk] <;> iassumption
  isplitl [Hq]; · iexact Hq
  isplitl [Hk]; · iexact Hk
  iexact Hv

/-! ## A block of the output projection -/

def PF : S2048x1024.Idx → Elt F .f32 := stack (PC m c)

theorem proj {j : Dev nD} {off : Fin 2 → ℕ} {inb} (hoff : off = ![256 * j.val, 0]) {iw io}
    {hlo : oM.view.LoadsAt (Rect.unit (s := S256x1024) ![0, 0] S256x1024.size io).toLoadRect}
    {hlw : aWo.view.LoadsAt (Rect.unit (s := S1024x1024) ![0, 0] S1024x1024.size iw).toLoadRect}
    {hl : tM.view.LoadsAt (Rect.unit (s := S2048x1024) off S256x1024.size inb).toLoadRect}
    {p : Vec F S256x1024 .f32 → Vec F S1024x1024 .f32 → FVec F S256x1024 .f32}
    {hx : (tM.access (Rect.unit (s := S2048x1024) off S256x1024.size inb)).Stores Finset.univ} {hm}
    (h : p (OB m c j) (wo m c) = PC m c j)
    {k : PUnit → Prog (TpuEff nD τ sig (Elt F) Λ₀ .tc) α} :
    iprop(Fl c oM fullShare (OB m c j) ∗ Fl c aWo fullShare (wo m c) ∗ An c tM (256 * j.val) 256)
      ⊢ iprop(((Fl c oM fullShare (OB m c j) ∗ Fl c aWo fullShare (wo m c) ∗ Hd c tM (256 * j.val) 256 fullShare (PF m c))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.load oM (Rect.unit (s := S256x1024) ![0, 0] S256x1024.size io).toLoadRect hlo) fun (a : Vec F S256x1024 .f32) =>
            .op (.load aWo (Rect.unit (s := S1024x1024) ![0, 0] S1024x1024.size iw).toLoadRect hlw) fun (b : Vec F S1024x1024 .f32) =>
            .op (.load tM (Rect.unit (s := S2048x1024) off S256x1024.size inb).toLoadRect hl) fun _ =>
            .op (.store tM (Rect.unit (s := S2048x1024) off S256x1024.size inb) (p a b) Finset.univ hx hm) k) Q) := by
  iintro ⟨Ho, Hw, Ht⟩ Hc
  iapply (ld_whole c oM z2) $$ Ho
  iintro Ho
  iapply (ld_whole c aWo z2) $$ Hw
  iintro Hw
  iapply (st_rows c tM (V := PC m c) hoff h) $$ Ht
  iintro Ht
  iapply Hc
  isplitl [Ho]; · iexact Ho
  isplitl [Hw]; · iexact Hw
  iexact Ht

end Cert.KernelIdeal.Run

end
-- ==== Proof.Ideal.BodyA.lean ====
module

public import proofs.«01_k».proof.Proof.Ideal.Segs

/-! The first half of the kernel, part by part: the ring all-gather of `x` and the projections of each chunk as it arrives. -/

@[expose] public section

set_option maxRecDepth 8192

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (c : Dev nD)
variable (K : Dev nD × Fin 44 → ℕ)

/-- Room for a chunk at `t`, in halves. -/
def rh (t j : Dev nD) (b : ℕ) : sProp 𝕄 := iprop(∃ f : S2048x1024.Idx → Elt F .bf16, hp t j b fullShare f)
def rm (t j : Dev nD) : sProp 𝕄 := iprop(rh t j 0 ∗ rh t j 1)

theorem hp2_rm (t j : Dev nD) (f : S2048x1024.Idx → Elt F .bf16) : hp2 t j f ⊢ rm t j := by
  unfold hp2 rm rh
  iintro ⟨A, B⟩
  isplitl [A]
  · iexists f; iexact A
  · iexists f; iexact B

/-- A chunk of the gathered `x` at share `q`. -/
def ch (j : Dev nD) (q : PosShare TreeShare) : sProp 𝕄 := Hd c xgM (256 * j.val) 256 q (XG m)

variable {α : Type}
variable {Q : α → sProp (MT nD τ sig Unit (Elt F) ℕ UU ℕ)}

/-- A chunk received in two halves, each sent on as it arrives. -/
theorem relay (i i' : Fin 44) (p p' : Fin 25) (n n1 n2 w w1 w2 : ℕ) (hw : (i.val < 29 ∧ i'.val < 29) ∧ okW i n w w1 ∧ okH p n n1 w1 ∧ okW i' n1 w1 w2 ∧ okH p' n1 n2 w2)
    (j t : Dev nD) (hi : pay m c i false = hp c j 0 fullShare (XG m)) (hi' : pay m c i' false = hp c j 1 fullShare (XG m))
    {d d' : Dev nD} (ht : t = tgt c p) (ht' : t = tgt c p') (hd : d = tgt c p) (hd' : d' = tgt c p')
    (hp1 : hp c j 0 (fullShare : PosShare TreeShare).left (XG m) = pay m c (own p) false) (hp2 : hp t j 0 fullShare (XG m) = pay m t (tix p) false)
    (hp1' : hp c j 1 (fullShare : PosShare TreeShare).left (XG m) = pay m c (own p') false) (hp2' : hp t j 1 fullShare (XG m) = pay m t (tix p') false)
    {offw offw' off off' : Fin 2 → ℕ} (hoff : off = ![256 * j.val + 128 * 0, 0]) (hoff' : off' = ![256 * j.val + 128 * 1, 0])
    {iw iw' inb inb' uw uw' hu hu'} {hsc hsc'} {s0 s0' s1 s1' s2 s2' : DmaSem sig} (hs0 : csem i = .dma s0) (hs0' : csem i' = .dma s0')
    (hs1 : csem (own p) = .dma s1) (hs1' : csem (own p') = .dma s1') (hs2 : csem (tix p) = .dma s2) (hs2' : csem (tix p') = .dma s2')
    {h1 h2 h3 h4 h5 h1' h2' h3' h4' h5'} {k : PUnit → Prog (TpuEff nD τ sig (Elt F) Λ₀ .tc) α} :
    iprop(Led m K c n w ∗ rm t j)
      ⊢ iprop(((Led m K c n2 w2 ∗ ch m c j (fullShare : PosShare TreeShare).right) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s0 (xgM.slice (Rect.unit (s := S2048x1024) offw S128x1024.size iw) uw) (xgM.slice (Rect.unit (s := S2048x1024) offw S128x1024.size iw) uw) h1 h2) fun _ =>
          .op (.enqueueDma (xgM.slice (Rect.unit (s := S2048x1024) off S128x1024.size inb) hu)
            (.remote (Dev.tc d : Thread nD τ) ((Memref.whole cc0_scratch0 : Memref sig (Dev.tc d : Thread nD τ).2.kind .vmem S2048x1024 .bf16).slice (Rect.unit (s := S2048x1024) off S128x1024.size inb) hu) (.dma s1) hsc)
            (.dma s2) h3 h4 h5) fun _ =>
          .op (.waitDma2 s0' (xgM.slice (Rect.unit (s := S2048x1024) offw' S128x1024.size iw') uw') (xgM.slice (Rect.unit (s := S2048x1024) offw' S128x1024.size iw') uw') h1' h2') fun _ =>
          .op (.enqueueDma (xgM.slice (Rect.unit (s := S2048x1024) off' S128x1024.size inb') hu')
            (.remote (Dev.tc d' : Thread nD τ) ((Memref.whole cc0_scratch0 : Memref sig (Dev.tc d' : Thread nD τ).2.kind .vmem S2048x1024 .bf16).slice (Rect.unit (s := S2048x1024) off' S128x1024.size inb') hu') (.dma s1') hsc')
            (.dma s2') h3' h4' h5') k) Q) := by
  obtain ⟨⟨hlt, hlt'⟩, w0, k0, w0', k0'⟩ := hw
  unfold rm rh
  iintro ⟨HL, A, B⟩ Hc
  iapply (wait_dma m c K i n w w1 w0 hi hs0 (half_tot i ⟨w0.2.2.2.2.1, hlt⟩)) $$ HL
  iintro ⟨HL, R0⟩
  ihave R := (hp_share c j 0 fullShare (XG m)).1 $$ R0
  icases R with ⟨R0, K0⟩
  iapply (send_half m c K p n n1 w1 k0 hd hoff ht hp1 hp2 hs1 hs2) $$ [HL R0 A]
  · isplitl [HL]; · iexact HL
    isplitl [R0]; · iexact R0
    iexact A
  iintro HL
  iapply (wait_dma m c K i' n1 w1 w2 w0' hi' hs0' (half_tot i' ⟨w0'.2.2.2.2.1, hlt'⟩)) $$ HL
  iintro ⟨HL, R1⟩
  ihave R := (hp_share c j 1 fullShare (XG m)).1 $$ R1
  icases R with ⟨R1, K1⟩
  iapply (send_half m c K p' n1 n2 w2 k0' hd' hoff' ht' hp1' hp2' hs1' hs2') $$ [HL R1 B]
  · isplitl [HL]; · iexact HL
    isplitl [R1]; · iexact R1
    iexact B
  iintro HL
  iapply Hc
  isplitl [HL]; · iexact HL
  unfold ch
  iapply (hp_Hd c j _ (XG m)) $$ [K0 K1]
  isplitl [K0] <;> iassumption

theorem p1 {Q : (Σ' (_ : Dev nD) (_ : BitVec 32) (_ : BitVec 32), BitVec 32) → sProp 𝕄} :
    iprop(Led m K c 0 0 ∗ giveL (prv c) ∗ giveR (nxt c) ∗ Fl c aX fullShare (xin m c) ∗ An c xgM (256 * (sh c 0).val) 256)
      ⊢ iprop((∀ v2 v4 v7, (Led m K c 2 1 ∗ giveR c ∗ giveL c ∗ Fl c aX fullShare (xin m c) ∗ ch m c (sh c 0) fullShare) -∗ Q ⟨c, v2, v4, v7⟩)
        -∗ wp frame (wpE (defs₀ (F := F)) 𝒱₀ (c : Thread nD τ) none) Set.univ (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15) Q) := by
  rw [k0_part1_eq_skeleton]
  unfold k0_part1_skel
  simp only [semSignalWord, semWaitWord, Prog.lift, Prog.bind_op, Prog.bind_ret, Prog.pure_eq_ret, wp_deviceId]
  have e6 : k0_pay1 (xin m c) = XC m (sh c 0) := by rw [sh_zero]; rfl
  have e7 : (⟨k0_dev1 c, k0_dev1_lt c⟩ : Dev nD) = tgt c 0 := Fin.ext (k0_dev1_eq c)
  have e8 : (⟨k0_dev2 c, k0_dev2_lt c⟩ : Dev nD) = tgt c 1 := Fin.ext (k0_dev2_eq c)
  have e9 : pay m (tgt c 0) (tix 0) (tbit 0) = giveL (prv c) := rfl
  have e10 : pay m (tgt c 1) (tix 1) (tbit 1) = giveR (nxt c) := rfl
  have e11 : csem (tix 0) = .reg barrier0 := rfl
  have e12 : csem (tix 1) = .reg barrier0 := rfl
  have e1 : pay m c 0 false = giveR c := rfl
  have e2 : pay m c 0 true = giveL c := rfl
  have e3 : (0 : Fin 44).val = 0 ∧ 1 = 0 + 1 ∧ sentBy 0 ≤ 2 ∧ (∀ p ∈ paysFrom 2, lvl 0 < lvl (tix p)) ∧ ((0 : Fin 44) = 0 ∨ (0 : Fin 44) = 29) := by decide
  have e4 : csem 0 = .reg barrier0 := rfl
  have e5 : (2#32).toInt = (tot 0 : ℕ) := rfl
  iintro ⟨HL, Ga, Gb, Hx, Hg⟩ Hc
  iapply (signal_at m c K 0 0 1 0 (by decide) e9 e11 e7 rfl) $$ [HL Ga]
  · isplitl [HL]; · iexact HL
    iexact Ga
  iintro HL
  iapply (signal_at m c K 1 1 2 0 (by decide) e10 e12 e8 rfl) $$ [HL Gb]
  · isplitl [HL]; · iexact HL
    iexact Gb
  iintro HL
  iapply (wait_two m c K 0 2 0 1 e3 e1 e2 e4 e5) $$ HL
  iintro ⟨HL, Gb, Ga⟩
  iapply (ld_whole c aX z2) $$ Hx
  iintro Hx
  iapply (st_rows c xgM (V := XC m) (o1 c) e6) $$ Hg
  iintro Hg
  rw [wp_ret]
  imodintro
  iapply Hc
  isplitl [HL]; · iexact HL
  isplitl [Gb]; · iexact Gb
  isplitl [Ga]; · iexact Ga
  isplitl [Hx]; · iexact Hx
  unfold ch
  iexact Hg

theorem hop_n (k k' : ℕ) (h : k % 8 = (1 + k') % 8) (b : ℕ) :
    hp (nxt c) (sh c k) b fullShare (XG m) = hp (nxt c) (sh (nxt c) k') b fullShare (XG m) := by
  rw [show sh (nxt c) k' = sh c k from Fin.ext (by simp only [sh_val]; omega)]
theorem hop_p (k k' : ℕ) (h : k % 8 = (7 + k') % 8) (b : ℕ) :
    hp (prv c) (sh c k) b fullShare (XG m) = hp (prv c) (sh (prv c) k') b fullShare (XG m) := by
  rw [show sh (prv c) k' = sh c k from Fin.ext (by simp only [sh_val]; omega)]

theorem p2 {v2 v4 v7 : BitVec 32} {Q : PUnit → sProp 𝕄} :
    iprop(Led m K c 2 1 ∗ hp c (sh c 0) 0 (fullShare : PosShare TreeShare) (XG m) ∗ hp c (sh c 0) 1 (fullShare : PosShare TreeShare) (XG m) ∗ rh (nxt c) (sh c 0) 0 ∗ rh (nxt c) (sh c 0) 1 ∗ rh (prv c) (sh c 0) 0)
      ⊢ iprop(((Led m K c 5 1 ∗ hp c (sh c 0) 0 (fullShare : PosShare TreeShare).right.right (XG m) ∗ hp c (sh c 0) 1 (fullShare : PosShare TreeShare).right (XG m)) -∗ Q ⟨⟩) -∗ wp frame (wpE (defs₀ (F := F)) 𝒱₀ (c : Thread nD τ) none) Set.univ (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 v7) Q) := by
  rw [k0_part2_eq_skeleton]
  unfold k0_part2_skel
  simp only [semSignalWord, semWaitWord, Prog.lift, Prog.bind_op, Prog.bind_ret, Prog.pure_eq_ret]
  iintro ⟨HL, Ha, Hb, Na, Nb, Pa⟩ Hc
  unfold rh
  ihave T := (hp_share c (sh c 0) 0 (fullShare : PosShare TreeShare) (XG m)).1 $$ Ha
  icases T with ⟨Al, Ar⟩
  iapply (send_half m c K 2 2 3 1 (by decide) (j := (sh c 0)) (b := 0) (q := (fullShare : PosShare TreeShare).left) (show (⟨k0_dev3 c, k0_dev3_lt c⟩ : Dev nD) = tgt c 2 from Fin.ext (k0_dev3_eq c)) (o2_0 c) (t := (nxt c)) rfl
    (show hp c (sh c 0) 0 (fullShare : PosShare TreeShare).left (XG m) = pay m c (own 2) false from rfl) (show hp (nxt c) (sh c 0) 0 (fullShare : PosShare TreeShare) (XG m) = pay m (nxt c) (tix 2) false from (hop_n m c 0 7 (by decide) 0))
    (show csem 15 = .dma (6 : DmaSem sig) from rfl) (show csem 1 = .dma (14 : DmaSem sig) from rfl)) $$ [HL Al Na]
  · isplitl [HL]; · iexact HL
    isplitl [Al]; · iexact Al
    iexact Na
  iintro HL
  ihave T := (hp_share c (sh c 0) 1 (fullShare : PosShare TreeShare) (XG m)).1 $$ Hb
  icases T with ⟨Bl, Br⟩
  iapply (send_half m c K 3 3 4 1 (by decide) (j := (sh c 0)) (b := 1) (q := (fullShare : PosShare TreeShare).left) (show (⟨k0_dev4 c, k0_dev4_lt c⟩ : Dev nD) = tgt c 3 from Fin.ext (k0_dev4_eq c)) (o2_1 c) (t := (nxt c)) rfl
    (show hp c (sh c 0) 1 (fullShare : PosShare TreeShare).left (XG m) = pay m c (own 3) false from rfl) (show hp (nxt c) (sh c 0) 1 (fullShare : PosShare TreeShare) (XG m) = pay m (nxt c) (tix 3) false from (hop_n m c 0 7 (by decide) 1))
    (show csem 16 = .dma (7 : DmaSem sig) from rfl) (show csem 2 = .dma (15 : DmaSem sig) from rfl)) $$ [HL Bl Nb]
  · isplitl [HL]; · iexact HL
    isplitl [Bl]; · iexact Bl
    iexact Nb
  iintro HL
  ihave T := (hp_share c (sh c 0) 0 (fullShare : PosShare TreeShare).right (XG m)).1 $$ Ar
  icases T with ⟨Al, Ar⟩
  iapply (send_half m c K 4 4 5 1 (by decide) (j := (sh c 0)) (b := 0) (q := (fullShare : PosShare TreeShare).right.left) (show (⟨k0_dev5 c, k0_dev5_lt c⟩ : Dev nD) = tgt c 4 from Fin.ext (k0_dev5_eq c)) (o2_0 c) (t := (prv c)) rfl
    (show hp c (sh c 0) 0 (fullShare : PosShare TreeShare).right.left (XG m) = pay m c (own 4) false from rfl) (show hp (prv c) (sh c 0) 0 (fullShare : PosShare TreeShare) (XG m) = pay m (prv c) (tix 4) false from (hop_p m c 0 1 (by decide) 0))
    (show csem 23 = .dma (22 : DmaSem sig) from rfl) (show csem 3 = .dma (28 : DmaSem sig) from rfl)) $$ [HL Al Pa]
  · isplitl [HL]; · iexact HL
    isplitl [Al]; · iexact Al
    iexact Pa
  iintro HL
  rw [wp_ret]
  imodintro
  iapply Hc
  isplitl [HL]; · iexact HL
  isplitl [Ar]; · iexact Ar
  iexact Br

theorem p3 {v2 v4 : BitVec 32} {Q : (Σ' (_ : BitVec 32), BitVec 32) → sProp 𝕄} :
    iprop(Led m K c 5 1 ∗ hp c (sh c 0) 0 (fullShare : PosShare TreeShare).right.right (XG m) ∗ hp c (sh c 0) 1 (fullShare : PosShare TreeShare).right (XG m) ∗ rh (prv c) (sh c 0) 1 ∗ Wt m c ∗ raw c (sh c 0))
      ⊢ iprop((∀ v v', (Led m K c 6 1 ∗ ch m c (sh c 0) (fullShare : PosShare TreeShare).right.right ∗ Wt m c ∗ don m c (sh c 0)) -∗ Q ⟨v, v'⟩) -∗ wp frame (wpE (defs₀ (F := F)) 𝒱₀ (c : Thread nD τ) none) Set.univ (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4) Q) := by
  rw [k0_part3_eq_skeleton]
  unfold k0_part3_skel
  simp only [semSignalWord, semWaitWord, Prog.lift, Prog.bind_op, Prog.bind_ret, Prog.pure_eq_ret]
  iintro ⟨HL, Ar, Br, Pb, Hw, Hd⟩ Hc
  unfold rh
  ihave T := (hp_share c (sh c 0) 1 (fullShare : PosShare TreeShare).right (XG m)).1 $$ Br
  icases T with ⟨Bl, Br⟩
  iapply (send_half m c K 5 5 6 1 (by decide) (j := (sh c 0)) (b := 1) (q := (fullShare : PosShare TreeShare).right.left) (show (⟨k0_dev6 c, k0_dev6_lt c⟩ : Dev nD) = tgt c 5 from Fin.ext (k0_dev6_eq c)) (o2_1 c) (t := (prv c)) rfl
    (show hp c (sh c 0) 1 (fullShare : PosShare TreeShare).right.left (XG m) = pay m c (own 5) false from rfl) (show hp (prv c) (sh c 0) 1 (fullShare : PosShare TreeShare) (XG m) = pay m (prv c) (tix 5) false from (hop_p m c 0 1 (by decide) 1))
    (show csem 24 = .dma (23 : DmaSem sig) from rfl) (show csem 4 = .dma (29 : DmaSem sig) from rfl)) $$ [HL Bl Pb]
  · isplitl [HL]; · iexact HL
    isplitl [Bl]; · iexact Bl
    iexact Pb
  iintro HL
  ihave Hg := (hp_Hd c (sh c 0) _ (XG m)) $$ [Ar Br]
  · isplitl [Ar] <;> iassumption
  unfold ch XG
  iapply (ld_rows c xgM (V := XC m) (o1 c)) $$ Hg
  iintro Hg
  iapply (qkv m c (j := (sh c 0)) (o1 c) (p1 := k0_pay3 (XC m (sh c 0))) (p2 := k0_pay4 (XC m (sh c 0))) (p3 := k0_pay5 (XC m (sh c 0))) rfl rfl rfl) $$ [Hw Hd]
  · isplitl [Hw] <;> iassumption
  iintro ⟨Hw, Hd⟩
  rw [wp_ret]
  imodintro
  iapply Hc
  isplitl [HL]; · iexact HL
  isplitl [Hg]; · iexact Hg
  isplitl [Hw]; · iexact Hw
  iexact Hd

theorem p4 {v4 v93 v94 : BitVec 32} {Q : PUnit → sProp 𝕄} :
    iprop(Led m K c 6 1 ∗ rm (nxt c) (sh c 7))
      ⊢ iprop(((Led m K c 8 3 ∗ ch m c (sh c 7) (fullShare : PosShare TreeShare).right) -∗ Q ⟨⟩) -∗ wp frame (wpE (defs₀ (F := F)) 𝒱₀ (c : Thread nD τ) none) Set.univ (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v4 v93 v94) Q) := by
  rw [k0_part4_eq_skeleton]
  unfold k0_part4_skel
  simp only [semSignalWord, semWaitWord, Prog.lift, Prog.bind_op, Prog.bind_ret, Prog.pure_eq_ret]
  iintro ⟨HL, Hr⟩ Hc
  iapply (relay m c K 1 2 6 7 6 7 8 1 2 3 (by decide) (sh c 7) (nxt c) rfl rfl rfl rfl (show (⟨k0_dev7 c, k0_dev7_lt c⟩ : Dev nD) = tgt c 6 from Fin.ext (k0_dev7_eq c)) (show (⟨k0_dev8 c, k0_dev8_lt c⟩ : Dev nD) = tgt c 7 from Fin.ext (k0_dev8_eq c))
    (show hp c (sh c 7) 0 (fullShare : PosShare TreeShare).left (XG m) = pay m c (own 6) false from rfl) (show hp (nxt c) (sh c 7) 0 (fullShare : PosShare TreeShare) (XG m) = pay m (nxt c) (tix 6) false from (hop_n m c 7 6 (by decide) 0))
    (show hp c (sh c 7) 1 (fullShare : PosShare TreeShare).left (XG m) = pay m c (own 7) false from rfl) (show hp (nxt c) (sh c 7) 1 (fullShare : PosShare TreeShare) (XG m) = pay m (nxt c) (tix 7) false from (hop_n m c 7 6 (by decide) 1))
    (o3_00 c) (o3_01 c) (show csem 1 = .dma (14 : DmaSem sig) from rfl) (show csem 2 = .dma (15 : DmaSem sig) from rfl) (show csem 17 = .dma (8 : DmaSem sig) from rfl) (show csem 18 = .dma (9 : DmaSem sig) from rfl) (show csem 5 = .dma (16 : DmaSem sig) from rfl) (show csem 6 = .dma (17 : DmaSem sig) from rfl)) $$ [HL Hr]
  · isplitl [HL] <;> iassumption
  iintro ⟨HL, Hg⟩
  rw [wp_ret]
  imodintro
  iapply Hc
  isplitl [HL]; · iexact HL
  iexact Hg

theorem p5 {v2 v7 v93 : BitVec 32} {Q : BitVec 32 → sProp 𝕄} :
    iprop(ch m c (sh c 7) (fullShare : PosShare TreeShare).right ∗ Wt m c ∗ raw c (sh c 7))
      ⊢ iprop((∀ v, (ch m c (sh c 7) (fullShare : PosShare TreeShare).right ∗ Wt m c ∗ don m c (sh c 7)) -∗ Q v) -∗ wp frame (wpE (defs₀ (F := F)) 𝒱₀ (c : Thread nD τ) none) Set.univ (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v7 v93) Q) := by
  rw [k0_part5_eq_skeleton]
  unfold k0_part5_skel
  simp only [semSignalWord, semWaitWord, Prog.lift, Prog.bind_op, Prog.bind_ret, Prog.pure_eq_ret]
  iintro ⟨Hg, Hw, Hd⟩ Hc
  unfold ch XG
  iapply (ld_rows c xgM (V := XC m) (o4_0 c)) $$ Hg
  iintro Hg
  iapply (qkv m c (j := (sh c 7)) (o4_0 c) (p1 := k0_pay7 (XC m (sh c 7))) (p2 := k0_pay8 (XC m (sh c 7))) (p3 := k0_pay9 (XC m (sh c 7))) rfl rfl rfl) $$ [Hw Hd]
  · isplitl [Hw] <;> iassumption
  iintro ⟨Hw, Hd⟩
  rw [wp_ret]
  imodintro
  iapply Hc
  isplitl [Hg]; · iexact Hg
  isplitl [Hw]; · iexact Hw
  iexact Hd

theorem p6 {v7 v157 : BitVec 32} {Q : BitVec 32 → sProp 𝕄} :
    iprop(Led m K c 8 3 ∗ rm (prv c) (sh c 1))
      ⊢ iprop((∀ v, (Led m K c 10 5 ∗ ch m c (sh c 1) (fullShare : PosShare TreeShare).right) -∗ Q v) -∗ wp frame (wpE (defs₀ (F := F)) 𝒱₀ (c : Thread nD τ) none) Set.univ (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v7 v157) Q) := by
  rw [k0_part6_eq_skeleton]
  unfold k0_part6_skel
  simp only [semSignalWord, semWaitWord, Prog.lift, Prog.bind_op, Prog.bind_ret, Prog.pure_eq_ret]
  iintro ⟨HL, Hr⟩ Hc
  iapply (relay m c K 3 4 8 9 8 9 10 3 4 5 (by decide) (sh c 1) (prv c) rfl rfl rfl rfl (show (⟨k0_dev9 c, k0_dev9_lt c⟩ : Dev nD) = tgt c 8 from Fin.ext (k0_dev9_eq c)) (show (⟨k0_dev10 c, k0_dev10_lt c⟩ : Dev nD) = tgt c 9 from Fin.ext (k0_dev10_eq c))
    (show hp c (sh c 1) 0 (fullShare : PosShare TreeShare).left (XG m) = pay m c (own 8) false from rfl) (show hp (prv c) (sh c 1) 0 (fullShare : PosShare TreeShare) (XG m) = pay m (prv c) (tix 8) false from (hop_p m c 1 2 (by decide) 0))
    (show hp c (sh c 1) 1 (fullShare : PosShare TreeShare).left (XG m) = pay m c (own 9) false from rfl) (show hp (prv c) (sh c 1) 1 (fullShare : PosShare TreeShare) (XG m) = pay m (prv c) (tix 9) false from (hop_p m c 1 2 (by decide) 1))
    (o5_00 c) (o5_01 c) (show csem 3 = .dma (28 : DmaSem sig) from rfl) (show csem 4 = .dma (29 : DmaSem sig) from rfl) (show csem 25 = .dma (24 : DmaSem sig) from rfl) (show csem 26 = .dma (25 : DmaSem sig) from rfl) (show csem 7 = .dma (30 : DmaSem sig) from rfl) (show csem 8 = .dma (31 : DmaSem sig) from rfl)) $$ [HL Hr]
  · isplitl [HL] <;> iassumption
  iintro ⟨HL, Hg⟩
  rw [wp_ret]
  imodintro
  iapply Hc
  isplitl [HL]; · iexact HL
  iexact Hg

theorem p7 {v2 v4 v190 : BitVec 32} {Q : BitVec 32 → sProp 𝕄} :
    iprop(ch m c (sh c 1) (fullShare : PosShare TreeShare).right ∗ Wt m c ∗ raw c (sh c 1))
      ⊢ iprop((∀ v, (ch m c (sh c 1) (fullShare : PosShare TreeShare).right ∗ Wt m c ∗ don m c (sh c 1)) -∗ Q v) -∗ wp frame (wpE (defs₀ (F := F)) 𝒱₀ (c : Thread nD τ) none) Set.univ (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 v190) Q) := by
  rw [k0_part7_eq_skeleton]
  unfold k0_part7_skel
  simp only [semSignalWord, semWaitWord, Prog.lift, Prog.bind_op, Prog.bind_ret, Prog.pure_eq_ret]
  iintro ⟨Hg, Hw, Hd⟩ Hc
  unfold ch XG
  iapply (ld_rows c xgM (V := XC m) (o6_0 c)) $$ Hg
  iintro Hg
  iapply (qkv m c (j := (sh c 1)) (o6_0 c) (p1 := k0_pay11 (XC m (sh c 1))) (p2 := k0_pay12 (XC m (sh c 1))) (p3 := k0_pay13 (XC m (sh c 1))) rfl rfl rfl) $$ [Hw Hd]
  · isplitl [Hw] <;> iassumption
  iintro ⟨Hw, Hd⟩
  rw [wp_ret]
  imodintro
  iapply Hc
  isplitl [Hg]; · iexact Hg
  isplitl [Hw]; · iexact Hw
  iexact Hd

theorem p8 {v4 v222 : BitVec 32} {Q : BitVec 32 → sProp 𝕄} :
    iprop(Led m K c 10 5 ∗ rm (nxt c) (sh c 6))
      ⊢ iprop((∀ v, (Led m K c 12 7 ∗ ch m c (sh c 6) (fullShare : PosShare TreeShare).right) -∗ Q v) -∗ wp frame (wpE (defs₀ (F := F)) 𝒱₀ (c : Thread nD τ) none) Set.univ (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v4 v222) Q) := by
  rw [k0_part8_eq_skeleton]
  unfold k0_part8_skel
  simp only [semSignalWord, semWaitWord, Prog.lift, Prog.bind_op, Prog.bind_ret, Prog.pure_eq_ret]
  iintro ⟨HL, Hr⟩ Hc
  iapply (relay m c K 5 6 10 11 10 11 12 5 6 7 (by decide) (sh c 6) (nxt c) rfl rfl rfl rfl (show (⟨k0_dev11 c, k0_dev11_lt c⟩ : Dev nD) = tgt c 10 from Fin.ext (k0_dev11_eq c)) (show (⟨k0_dev12 c, k0_dev12_lt c⟩ : Dev nD) = tgt c 11 from Fin.ext (k0_dev12_eq c))
    (show hp c (sh c 6) 0 (fullShare : PosShare TreeShare).left (XG m) = pay m c (own 10) false from rfl) (show hp (nxt c) (sh c 6) 0 (fullShare : PosShare TreeShare) (XG m) = pay m (nxt c) (tix 10) false from (hop_n m c 6 5 (by decide) 0))
    (show hp c (sh c 6) 1 (fullShare : PosShare TreeShare).left (XG m) = pay m c (own 11) false from rfl) (show hp (nxt c) (sh c 6) 1 (fullShare : PosShare TreeShare) (XG m) = pay m (nxt c) (tix 11) false from (hop_n m c 6 5 (by decide) 1))
    (o3_10 c) (o3_11 c) (show csem 5 = .dma (16 : DmaSem sig) from rfl) (show csem 6 = .dma (17 : DmaSem sig) from rfl) (show csem 19 = .dma (10 : DmaSem sig) from rfl) (show csem 20 = .dma (11 : DmaSem sig) from rfl) (show csem 9 = .dma (18 : DmaSem sig) from rfl) (show csem 10 = .dma (19 : DmaSem sig) from rfl)) $$ [HL Hr]
  · isplitl [HL] <;> iassumption
  iintro ⟨HL, Hg⟩
  rw [wp_ret]
  imodintro
  iapply Hc
  isplitl [HL]; · iexact HL
  iexact Hg

theorem p9 {v2 v7 v255 : BitVec 32} {Q : BitVec 32 → sProp 𝕄} :
    iprop(ch m c (sh c 6) (fullShare : PosShare TreeShare).right ∗ Wt m c ∗ raw c (sh c 6))
      ⊢ iprop((∀ v, (ch m c (sh c 6) (fullShare : PosShare TreeShare).right ∗ Wt m c ∗ don m c (sh c 6)) -∗ Q v) -∗ wp frame (wpE (defs₀ (F := F)) 𝒱₀ (c : Thread nD τ) none) Set.univ (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v7 v255) Q) := by
  rw [k0_part9_eq_skeleton]
  unfold k0_part9_skel
  simp only [semSignalWord, semWaitWord, Prog.lift, Prog.bind_op, Prog.bind_ret, Prog.pure_eq_ret]
  iintro ⟨Hg, Hw, Hd⟩ Hc
  unfold ch XG
  iapply (ld_rows c xgM (V := XC m) (o4_1 c)) $$ Hg
  iintro Hg
  iapply (qkv m c (j := (sh c 6)) (o4_1 c) (p1 := k0_pay15 (XC m (sh c 6))) (p2 := k0_pay16 (XC m (sh c 6))) (p3 := k0_pay17 (XC m (sh c 6))) rfl rfl rfl) $$ [Hw Hd]
  · isplitl [Hw] <;> iassumption
  iintro ⟨Hw, Hd⟩
  rw [wp_ret]
  imodintro
  iapply Hc
  isplitl [Hg]; · iexact Hg
  isplitl [Hw]; · iexact Hw
  iexact Hd

theorem p10 {v7 v286 : BitVec 32} {Q : (Σ' (_ : BitVec 32), FVec F S256x1024 .f32) → sProp 𝕄} :
    iprop(Led m K c 12 7 ∗ rm (prv c) (sh c 2))
      ⊢ iprop((∀ v, (Led m K c 14 9 ∗ ch m c (sh c 2) (fullShare : PosShare TreeShare).right) -∗ Q ⟨v, k0_pay18 (XC m (sh c 2))⟩) -∗ wp frame (wpE (defs₀ (F := F)) 𝒱₀ (c : Thread nD τ) none) Set.univ (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v7 v286) Q) := by
  rw [k0_part10_eq_skeleton]
  unfold k0_part10_skel
  simp only [semSignalWord, semWaitWord, Prog.lift, Prog.bind_op, Prog.bind_ret, Prog.pure_eq_ret]
  iintro ⟨HL, Hr⟩ Hc
  iapply (relay m c K 7 8 12 13 12 13 14 7 8 9 (by decide) (sh c 2) (prv c) rfl rfl rfl rfl (show (⟨k0_dev13 c, k0_dev13_lt c⟩ : Dev nD) = tgt c 12 from Fin.ext (k0_dev13_eq c)) (show (⟨k0_dev14 c, k0_dev14_lt c⟩ : Dev nD) = tgt c 13 from Fin.ext (k0_dev14_eq c))
    (show hp c (sh c 2) 0 (fullShare : PosShare TreeShare).left (XG m) = pay m c (own 12) false from rfl) (show hp (prv c) (sh c 2) 0 (fullShare : PosShare TreeShare) (XG m) = pay m (prv c) (tix 12) false from (hop_p m c 2 3 (by decide) 0))
    (show hp c (sh c 2) 1 (fullShare : PosShare TreeShare).left (XG m) = pay m c (own 13) false from rfl) (show hp (prv c) (sh c 2) 1 (fullShare : PosShare TreeShare) (XG m) = pay m (prv c) (tix 13) false from (hop_p m c 2 3 (by decide) 1))
    (o5_10 c) (o5_11 c) (show csem 7 = .dma (30 : DmaSem sig) from rfl) (show csem 8 = .dma (31 : DmaSem sig) from rfl) (show csem 27 = .dma (26 : DmaSem sig) from rfl) (show csem 28 = .dma (27 : DmaSem sig) from rfl) (show csem 11 = .dma (32 : DmaSem sig) from rfl) (show csem 12 = .dma (33 : DmaSem sig) from rfl)) $$ [HL Hr]
  · isplitl [HL] <;> iassumption
  iintro ⟨HL, Hg⟩
  unfold ch XG
  iapply (ld_rows c xgM (V := XC m) (o6_1 c)) $$ Hg
  iintro Hg
  rw [wp_ret]
  imodintro
  iapply Hc
  isplitl [HL]; · iexact HL
  iexact Hg

theorem p11 {v2 v4 v319 : BitVec 32} {Q : BitVec 32 → sProp 𝕄} :
    iprop(Wt m c ∗ raw c (sh c 2))
      ⊢ iprop((∀ v, (Wt m c ∗ don m c (sh c 2)) -∗ Q v) -∗ wp frame (wpE (defs₀ (F := F)) 𝒱₀ (c : Thread nD τ) none) Set.univ (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 v319 (k0_pay18 (XC m (sh c 2)))) Q) := by
  rw [k0_part11_eq_skeleton]
  unfold k0_part11_skel
  simp only [semSignalWord, semWaitWord, Prog.lift, Prog.bind_op, Prog.bind_ret, Prog.pure_eq_ret]
  iintro ⟨Hw, Hd⟩ Hc
  iapply (qkv m c (j := (sh c 2)) (o6_1 c) (p1 := k0_pay19 (k0_pay18 (XC m (sh c 2)))) (p2 := k0_pay20 (k0_pay18 (XC m (sh c 2)))) (p3 := k0_pay21 (k0_pay18 (XC m (sh c 2)))) rfl rfl rfl) $$ [Hw Hd]
  · isplitl [Hw] <;> iassumption
  iintro ⟨Hw, Hd⟩
  rw [wp_ret]
  imodintro
  iapply Hc
  isplitl [Hw]; · iexact Hw
  iexact Hd

theorem p12 {v4 v351 : BitVec 32} {Q : (Σ' (_ : BitVec 32), FVec F S256x1024 .f32) → sProp 𝕄} :
    iprop(Led m K c 14 9 ∗ rm (nxt c) (sh c 5))
      ⊢ iprop((∀ v, (Led m K c 16 11 ∗ ch m c (sh c 5) (fullShare : PosShare TreeShare).right) -∗ Q ⟨v, k0_pay22 (XC m (sh c 5))⟩) -∗ wp frame (wpE (defs₀ (F := F)) 𝒱₀ (c : Thread nD τ) none) Set.univ (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v4 v351) Q) := by
  rw [k0_part12_eq_skeleton]
  unfold k0_part12_skel
  simp only [semSignalWord, semWaitWord, Prog.lift, Prog.bind_op, Prog.bind_ret, Prog.pure_eq_ret]
  iintro ⟨HL, Hr⟩ Hc
  iapply (relay m c K 9 10 14 15 14 15 16 9 10 11 (by decide) (sh c 5) (nxt c) rfl rfl rfl rfl (show (⟨k0_dev15 c, k0_dev15_lt c⟩ : Dev nD) = tgt c 14 from Fin.ext (k0_dev15_eq c)) (show (⟨k0_dev16 c, k0_dev16_lt c⟩ : Dev nD) = tgt c 15 from Fin.ext (k0_dev16_eq c))
    (show hp c (sh c 5) 0 (fullShare : PosShare TreeShare).left (XG m) = pay m c (own 14) false from rfl) (show hp (nxt c) (sh c 5) 0 (fullShare : PosShare TreeShare) (XG m) = pay m (nxt c) (tix 14) false from (hop_n m c 5 4 (by decide) 0))
    (show hp c (sh c 5) 1 (fullShare : PosShare TreeShare).left (XG m) = pay m c (own 15) false from rfl) (show hp (nxt c) (sh c 5) 1 (fullShare : PosShare TreeShare) (XG m) = pay m (nxt c) (tix 15) false from (hop_n m c 5 4 (by decide) 1))
    (o3_20 c) (o3_21 c) (show csem 9 = .dma (18 : DmaSem sig) from rfl) (show csem 10 = .dma (19 : DmaSem sig) from rfl) (show csem 21 = .dma (12 : DmaSem sig) from rfl) (show csem 22 = .dma (13 : DmaSem sig) from rfl) (show csem 13 = .dma (20 : DmaSem sig) from rfl) (show csem 14 = .dma (21 : DmaSem sig) from rfl)) $$ [HL Hr]
  · isplitl [HL] <;> iassumption
  iintro ⟨HL, Hg⟩
  unfold ch XG
  iapply (ld_rows c xgM (V := XC m) (o4_2 c)) $$ Hg
  iintro Hg
  rw [wp_ret]
  imodintro
  iapply Hc
  isplitl [HL]; · iexact HL
  iexact Hg

theorem p13 {v2 v7 v384 : BitVec 32} {Q : BitVec 32 → sProp 𝕄} :
    iprop(Led m K c 16 11 ∗ Wt m c ∗ raw c (sh c 5))
      ⊢ iprop((∀ v, (Led m K c 16 12 ∗ Wt m c ∗ don m c (sh c 5) ∗ hp c (sh c 3) 0 (fullShare : PosShare TreeShare) (XG m)) -∗ Q v) -∗ wp frame (wpE (defs₀ (F := F)) 𝒱₀ (c : Thread nD τ) none) Set.univ (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v7 v384 (k0_pay22 (XC m (sh c 5)))) Q) := by
  rw [k0_part13_eq_skeleton]
  unfold k0_part13_skel
  simp only [semSignalWord, semWaitWord, Prog.lift, Prog.bind_op, Prog.bind_ret, Prog.pure_eq_ret]
  iintro ⟨HL, Hw, Hd⟩ Hc
  iapply (qkv m c (j := (sh c 5)) (o4_2 c) (p1 := k0_pay23 (k0_pay22 (XC m (sh c 5)))) (p2 := k0_pay24 (k0_pay22 (XC m (sh c 5)))) (p3 := k0_pay25 (k0_pay22 (XC m (sh c 5)))) rfl rfl rfl) $$ [Hw Hd]
  · isplitl [Hw] <;> iassumption
  iintro ⟨Hw, Hd⟩
  iapply (wait_dma m c K 11 16 11 12 (by decide) (P := hp c (sh c 3) 0 (fullShare : PosShare TreeShare) (XG m)) rfl (show csem 11 = .dma (32 : DmaSem sig) from rfl) (half_tot 11 (by decide))) $$ HL
  iintro ⟨HL, Hp⟩
  rw [wp_ret]
  imodintro
  iapply Hc
  isplitl [HL]; · iexact HL
  isplitl [Hw]; · iexact Hw
  isplitl [Hd]; · iexact Hd
  iexact Hp

theorem p14 {v2 v7 v415 : BitVec 32} {Q : BitVec 32 → sProp 𝕄} :
    iprop(Led m K c 16 12 ∗ hp c (sh c 3) 0 (fullShare : PosShare TreeShare) (XG m) ∗ Wt m c ∗ raw c (sh c 3))
      ⊢ iprop((∀ v, (Led m K c 16 13 ∗ ch m c (sh c 3) (fullShare : PosShare TreeShare) ∗ Wt m c ∗ don m c (sh c 3)) -∗ Q v) -∗ wp frame (wpE (defs₀ (F := F)) 𝒱₀ (c : Thread nD τ) none) Set.univ (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v7 v415) Q) := by
  rw [k0_part14_eq_skeleton]
  unfold k0_part14_skel
  simp only [semSignalWord, semWaitWord, Prog.lift, Prog.bind_op, Prog.bind_ret, Prog.pure_eq_ret]
  iintro ⟨HL, Ha, Hw, Hd⟩ Hc
  iapply (wait_dma m c K 12 16 12 13 (by decide) (P := hp c (sh c 3) 1 (fullShare : PosShare TreeShare) (XG m)) rfl (show csem 12 = .dma (33 : DmaSem sig) from rfl) (half_tot 12 (by decide))) $$ HL
  iintro ⟨HL, Hb⟩
  ihave Hg := (hp_Hd c (sh c 3) _ (XG m)) $$ [Ha Hb]
  · isplitl [Ha] <;> iassumption
  unfold ch XG
  iapply (ld_rows c xgM (V := XC m) (o6_2 c)) $$ Hg
  iintro Hg
  iapply (qkv m c (j := (sh c 3)) (o6_2 c) (p1 := k0_pay27 (XC m (sh c 3))) (p2 := k0_pay28 (XC m (sh c 3))) (p3 := k0_pay29 (XC m (sh c 3))) rfl rfl rfl) $$ [Hw Hd]
  · isplitl [Hw] <;> iassumption
  iintro ⟨Hw, Hd⟩
  rw [wp_ret]
  imodintro
  iapply Hc
  isplitl [HL]; · iexact HL
  isplitl [Hg]; · iexact Hg
  isplitl [Hw]; · iexact Hw
  iexact Hd

theorem p15 {v4 v457 : BitVec 32} {Q : (Σ' (_ : BitVec 32) (_ : FVec F S256x1024 .f32), FVec F S256x1024 .f32) → sProp 𝕄} :
    iprop(Led m K c 16 13 ∗ Wt m c ∗ An c qM (256 * (sh c 4).val) 256)
      ⊢ iprop((∀ v, (Led m K c 16 15 ∗ ch m c (sh c 4) (fullShare : PosShare TreeShare) ∗ Wt m c ∗ Hd c qM (256 * (sh c 4).val) 256 fullShare (QF m c)) -∗ Q ⟨v, k0_pay30 (XC m (sh c 4)), k0_pay32 (XC m (sh c 4)) (wk m c)⟩) -∗ wp frame (wpE (defs₀ (F := F)) 𝒱₀ (c : Thread nD τ) none) Set.univ (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v4 v457) Q) := by
  rw [k0_part15_eq_skeleton]
  unfold k0_part15_skel
  simp only [semSignalWord, semWaitWord, Prog.lift, Prog.bind_op, Prog.bind_ret, Prog.pure_eq_ret]
  iintro ⟨HL, Hw, Hd⟩ Hc
  iapply (wait_dma m c K 13 16 13 14 (by decide) (P := hp c (sh c 4) 0 (fullShare : PosShare TreeShare) (XG m)) rfl (show csem 13 = .dma (20 : DmaSem sig) from rfl) (half_tot 13 (by decide))) $$ HL
  iintro ⟨HL, Ha⟩
  iapply (wait_dma m c K 14 16 14 15 (by decide) (P := hp c (sh c 4) 1 (fullShare : PosShare TreeShare) (XG m)) rfl (show csem 14 = .dma (21 : DmaSem sig) from rfl) (half_tot 14 (by decide))) $$ HL
  iintro ⟨HL, Hb⟩
  ihave Hg := (hp_Hd c (sh c 4) _ (XG m)) $$ [Ha Hb]
  · isplitl [Ha] <;> iassumption
  unfold ch XG Wt QF
  icases Hw with ⟨Hq, Hk, Hv⟩
  iapply (ld_rows c xgM (V := XC m) (o4_3 c)) $$ Hg
  iintro Hg
  iapply (ld_whole c aWq z2) $$ Hq
  iintro Hq
  iapply (st_rows c qM (V := QC m c) (j := (sh c 4)) (w := k0_pay31 (XC m (sh c 4)) (wq m c)) (o4_3 c) rfl) $$ Hd
  iintro Hd
  iapply (ld_whole c aWk z2) $$ Hk
  iintro Hk
  rw [wp_ret]
  imodintro
  iapply Hc
  isplitl [HL]; · iexact HL
  isplitl [Hg]; · iexact Hg
  isplitl [Hq Hk Hv]
  · isplitl [Hq]; · iexact Hq
    isplitl [Hk] <;> iassumption
  iexact Hd

theorem p16 {v473 : BitVec 32} {Q : PUnit → sProp 𝕄} :
    iprop(Led m K c 16 15 ∗ Wt m c ∗ Hd c qM (256 * (sh c 4).val) 256 fullShare (QF m c) ∗ An c kM (256 * (sh c 4).val) 256 ∗ An c vM (256 * (sh c 4).val) 256)
      ⊢ iprop(((Led m K c 16 19 ∗ Wt m c ∗ don m c (sh c 4) ∗ hp c (sh c 0) 0 (fullShare : PosShare TreeShare).left (XG m) ∗ hp c (sh c 0) 1 (fullShare : PosShare TreeShare).left (XG m) ∗ hp c (sh c 7) 0 (fullShare : PosShare TreeShare).left (XG m) ∗ hp c (sh c 7) 1 (fullShare : PosShare TreeShare).left (XG m)) -∗ Q ⟨⟩) -∗ wp frame (wpE (defs₀ (F := F)) 𝒱₀ (c : Thread nD τ) none) Set.univ (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v473 (k0_pay30 (XC m (sh c 4))) (k0_pay32 (XC m (sh c 4)) (wk m c))) Q) := by
  rw [k0_part16_eq_skeleton]
  unfold k0_part16_skel
  simp only [semSignalWord, semWaitWord, Prog.lift, Prog.bind_op, Prog.bind_ret, Prog.pure_eq_ret]
  iintro ⟨HL, Hw, Hq, Hk, Hv⟩ Hc
  unfold Wt
  icases Hw with ⟨Wq, Wk, Wv⟩
  iapply (st_rows c kM (V := KC m c) (j := (sh c 4)) (w := k0_pay33 (k0_pay32 (XC m (sh c 4)) (wk m c))) (o4_3 c) rfl) $$ Hk
  iintro Hk
  iapply (ld_whole c aWv z2) $$ Wv
  iintro Wv
  iapply (st_rows c vM (V := VC m c) (j := (sh c 4)) (w := k0_pay34 (k0_pay30 (XC m (sh c 4))) (wv m c)) (o4_3 c) rfl) $$ Hv
  iintro Hv
  iapply (wait_dma m c K 15 16 15 16 (by decide) (P := hp c (sh c 0) 0 (fullShare : PosShare TreeShare).left (XG m)) rfl (show csem 15 = .dma (6 : DmaSem sig) from rfl) (half_tot 15 (by decide))) $$ HL
  iintro ⟨HL, B0⟩
  iapply (wait_dma m c K 16 16 16 17 (by decide) (P := hp c (sh c 0) 1 (fullShare : PosShare TreeShare).left (XG m)) rfl (show csem 16 = .dma (7 : DmaSem sig) from rfl) (half_tot 16 (by decide))) $$ HL
  iintro ⟨HL, B1⟩
  iapply (wait_dma m c K 17 16 17 18 (by decide) (P := hp c (sh c 7) 0 (fullShare : PosShare TreeShare).left (XG m)) rfl (show csem 17 = .dma (8 : DmaSem sig) from rfl) (half_tot 17 (by decide))) $$ HL
  iintro ⟨HL, B2⟩
  iapply (wait_dma m c K 18 16 18 19 (by decide) (P := hp c (sh c 7) 1 (fullShare : PosShare TreeShare).left (XG m)) rfl (show csem 18 = .dma (9 : DmaSem sig) from rfl) (half_tot 18 (by decide))) $$ HL
  iintro ⟨HL, B3⟩
  rw [wp_ret]
  imodintro
  iapply Hc
  isplitl [HL]; · iexact HL
  isplitl [Wq Wk Wv]
  · isplitl [Wq]; · iexact Wq
    isplitl [Wk] <;> iassumption
  isplitl [Hq Hk Hv]
  · unfold don KF VF
    isplitl [Hq]; · iexact Hq
    isplitl [Hk] <;> iassumption
  isplitl [B0]; · iexact B0
  isplitl [B1]; · iexact B1
  isplitl [B2] <;> iassumption

theorem p17 {Q : PUnit → sProp 𝕄} :
    iprop(Led m K c 16 19)
      ⊢ iprop(((Led m K c 16 25 ∗ hp c (sh c 6) 0 (fullShare : PosShare TreeShare).left (XG m) ∗ hp c (sh c 6) 1 (fullShare : PosShare TreeShare).left (XG m) ∗ hp c (sh c 5) 0 (fullShare : PosShare TreeShare).left (XG m) ∗ hp c (sh c 5) 1 (fullShare : PosShare TreeShare).left (XG m) ∗ hp c (sh c 0) 0 (fullShare : PosShare TreeShare).right.left (XG m) ∗ hp c (sh c 0) 1 (fullShare : PosShare TreeShare).right.left (XG m)) -∗ Q ⟨⟩) -∗ wp frame (wpE (defs₀ (F := F)) 𝒱₀ (c : Thread nD τ) none) Set.univ (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c) Q) := by
  rw [k0_part17_eq_skeleton]
  unfold k0_part17_skel
  simp only [semSignalWord, semWaitWord, Prog.lift, Prog.bind_op, Prog.bind_ret, Prog.pure_eq_ret]
  iintro HL Hc
  iapply (wait_dma m c K 19 16 19 20 (by decide) (P := hp c (sh c 6) 0 (fullShare : PosShare TreeShare).left (XG m)) rfl (show csem 19 = .dma (10 : DmaSem sig) from rfl) (half_tot 19 (by decide))) $$ HL
  iintro ⟨HL, B0⟩
  iapply (wait_dma m c K 20 16 20 21 (by decide) (P := hp c (sh c 6) 1 (fullShare : PosShare TreeShare).left (XG m)) rfl (show csem 20 = .dma (11 : DmaSem sig) from rfl) (half_tot 20 (by decide))) $$ HL
  iintro ⟨HL, B1⟩
  iapply (wait_dma m c K 21 16 21 22 (by decide) (P := hp c (sh c 5) 0 (fullShare : PosShare TreeShare).left (XG m)) rfl (show csem 21 = .dma (12 : DmaSem sig) from rfl) (half_tot 21 (by decide))) $$ HL
  iintro ⟨HL, B2⟩
  iapply (wait_dma m c K 22 16 22 23 (by decide) (P := hp c (sh c 5) 1 (fullShare : PosShare TreeShare).left (XG m)) rfl (show csem 22 = .dma (13 : DmaSem sig) from rfl) (half_tot 22 (by decide))) $$ HL
  iintro ⟨HL, B3⟩
  iapply (wait_dma m c K 23 16 23 24 (by decide) (P := hp c (sh c 0) 0 (fullShare : PosShare TreeShare).right.left (XG m)) rfl (show csem 23 = .dma (22 : DmaSem sig) from rfl) (half_tot 23 (by decide))) $$ HL
  iintro ⟨HL, B4⟩
  iapply (wait_dma m c K 24 16 24 25 (by decide) (P := hp c (sh c 0) 1 (fullShare : PosShare TreeShare).right.left (XG m)) rfl (show csem 24 = .dma (23 : DmaSem sig) from rfl) (half_tot 24 (by decide))) $$ HL
  iintro ⟨HL, B5⟩
  rw [wp_ret]
  imodintro
  iapply Hc
  isplitl [HL]; · iexact HL
  isplitl [B0]; · iexact B0
  isplitl [B1]; · iexact B1
  isplitl [B2]; · iexact B2
  isplitl [B3]; · iexact B3
  isplitl [B4]; · iexact B4
  iexact B5

/-- A chunk come back from the neighbour it was lent to. -/
theorem home (j : Dev nD) (q : PosShare TreeShare) : iprop(hp c j 0 q.left (XG m) ∗ hp c j 1 q.left (XG m) ∗ ch m c j q.right) ⊢ ch m c j q := by
  unfold ch
  iintro ⟨A, B, C⟩
  ihave C := (Hd_hp c j _ (XG m)) $$ C
  icases C with ⟨Ca, Cb⟩
  iapply (hp_Hd c j q (XG m))
  isplitl [A Ca]
  · iapply (hp_share c j 0 q (XG m)).2
    isplitl [A] <;> iassumption
  · iapply (hp_share c j 1 q (XG m)).2
    isplitl [B] <;> iassumption

/-- Eight things, one for each device, counted from `c` or from device 0. -/
theorem round8 (Φ : Dev nD → sProp 𝕄) :
    iprop(Φ (sh c 0) ∗ Φ (sh c 1) ∗ Φ (sh c 2) ∗ Φ (sh c 3) ∗ Φ (sh c 4) ∗ Φ (sh c 5) ∗ Φ (sh c 6) ∗ Φ (sh c 7))
      = iprop(Φ 0 ∗ Φ 1 ∗ Φ 2 ∗ Φ 3 ∗ Φ 4 ∗ Φ 5 ∗ Φ 6 ∗ Φ 7) := by
  have h : ∀ Ψ : Fin 8 → sProp 𝕄, bigSep Finset.univ Ψ = iprop(Ψ 0 ∗ Ψ 1 ∗ Ψ 2 ∗ Ψ 3 ∗ Ψ 4 ∗ Ψ 5 ∗ Ψ 6 ∗ Ψ 7) := fun Ψ =>
    bigSep_univ_eq_bigSepL [0, 1, 2, 3, 4, 5, 6, 7] (by decide) (by decide) Ψ
  exact (h fun k => Φ (sh c k.val)).symm.trans ((bigSep_univ_equiv (Equiv.ofBijective _ (sh_bijective c)) Φ).symm.trans (h Φ))

theorem ch_sl (j : Dev nD) : ch m c j fullShare ⊢ sl c j.val (XG m) := by
  unfold ch sl; exact Hd_xg c _ _ _ (XG m)

/-- The whole buffer given up for the second half's slots, but for the last. -/
theorem slots :
    iprop(ch m c (sh c 0) fullShare ∗ ch m c (sh c 1) fullShare ∗ ch m c (sh c 2) fullShare ∗ ch m c (sh c 3) fullShare
      ∗ ch m c (sh c 4) fullShare ∗ ch m c (sh c 5) fullShare ∗ ch m c (sh c 6) fullShare ∗ ch m c (sh c 7) fullShare)
      ⊢ iprop(slotL (prv c) ∗ slotR (nxt c) ∗ sl c 7 (XG m)) := by
  rw [round8 c fun j => ch m c j fullShare]
  unfold slotL slotR
  rw [nxt_prv, prv_nxt]
  iintro ⟨A0, A1, A2, A3, A4, A5, A6, A7⟩
  ihave A0 := (ch_sl m c 0) $$ A0
  ihave A1 := (ch_sl m c 1) $$ A1
  ihave A2 := (ch_sl m c 2) $$ A2
  ihave A3 := (ch_sl m c 3) $$ A3
  ihave A4 := (ch_sl m c 4) $$ A4
  ihave A5 := (ch_sl m c 5) $$ A5
  ihave A6 := (ch_sl m c 6) $$ A6
  ihave A7 := (ch_sl m c 7) $$ A7
  isplitl [A0 A1 A2 A3]
  · iexists (XG m)
    isplitl [A0]; · iexact A0
    isplitl [A1]; · iexact A1
    isplitl [A2]; · iexact A2
    iexact A3
  isplitl [A4 A5 A6]
  · iexists (XG m)
    isplitl [A4]; · iexact A4
    isplitl [A5]; · iexact A5
    iexact A6
  iexact A7

theorem p18 {v2 v4 v7 : BitVec 32} {Q : (Σ' (_ : BitVec 32), BitVec 32) → sProp 𝕄} :
    iprop(Led m K c 16 25 ∗ ((hp c (sh c 1) 0 (fullShare : PosShare TreeShare).left (XG m) ∗ hp c (sh c 1) 1 (fullShare : PosShare TreeShare).left (XG m) ∗ hp c (sh c 2) 0 (fullShare : PosShare TreeShare).left (XG m) ∗ hp c (sh c 2) 1 (fullShare : PosShare TreeShare).left (XG m)) -∗ (slotL (prv c) ∗ slotR (nxt c) ∗ sl c 7 (XG m))))
      ⊢ iprop((∀ v v', (Led m K c 18 29 ∗ sl c 7 (XG m)) -∗ Q ⟨v, v'⟩) -∗ wp frame (wpE (defs₀ (F := F)) 𝒱₀ (c : Thread nD τ) none) Set.univ (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 v7) Q) := by
  rw [k0_part18_eq_skeleton]
  unfold k0_part18_skel
  simp only [semSignalWord, semWaitWord, Prog.lift, Prog.bind_op, Prog.bind_ret, Prog.pure_eq_ret]
  iintro ⟨HL, Hs⟩ Hc
  iapply (wait_dma m c K 25 16 25 26 (by decide) (P := hp c (sh c 1) 0 (fullShare : PosShare TreeShare).left (XG m)) rfl (show csem 25 = .dma (24 : DmaSem sig) from rfl) (half_tot 25 (by decide))) $$ HL
  iintro ⟨HL, B0⟩
  iapply (wait_dma m c K 26 16 26 27 (by decide) (P := hp c (sh c 1) 1 (fullShare : PosShare TreeShare).left (XG m)) rfl (show csem 26 = .dma (25 : DmaSem sig) from rfl) (half_tot 26 (by decide))) $$ HL
  iintro ⟨HL, B1⟩
  iapply (wait_dma m c K 27 16 27 28 (by decide) (P := hp c (sh c 2) 0 (fullShare : PosShare TreeShare).left (XG m)) rfl (show csem 27 = .dma (26 : DmaSem sig) from rfl) (half_tot 27 (by decide))) $$ HL
  iintro ⟨HL, B2⟩
  iapply (wait_dma m c K 28 16 28 29 (by decide) (P := hp c (sh c 2) 1 (fullShare : PosShare TreeShare).left (XG m)) rfl (show csem 28 = .dma (27 : DmaSem sig) from rfl) (half_tot 28 (by decide))) $$ HL
  iintro ⟨HL, B3⟩
  ihave Hs := Hs $$ [B0 B1 B2 B3]
  · isplitl [B0]; · iexact B0
    isplitl [B1]; · iexact B1
    isplitl [B2] <;> iassumption
  icases Hs with ⟨Sl, Sr, S7⟩
  iapply (signal_at m c K 16 16 17 29 (by decide) (P := slotL (prv c)) rfl (show csem (tix 16) = .reg (0 : Sem sig) from rfl) (show (⟨k0_dev17 c, k0_dev17_lt c⟩ : Dev nD) = tgt c 16 from Fin.ext (k0_dev17_eq c)) rfl) $$ [HL Sl]
  · isplitl [HL] <;> iassumption
  iintro HL
  iapply (signal_at m c K 17 17 18 29 (by decide) (P := slotR (nxt c)) rfl (show csem (tix 17) = .reg (0 : Sem sig) from rfl) (show (⟨k0_dev18 c, k0_dev18_lt c⟩ : Dev nD) = tgt c 17 from Fin.ext (k0_dev18_eq c)) rfl) $$ [HL Sr]
  · isplitl [HL] <;> iassumption
  iintro HL
  rw [wp_ret]
  imodintro
  iapply Hc
  isplitl [HL]; · iexact HL
  iexact S7

end Cert.KernelIdeal.Run

end
-- ==== Proof.Ideal.BodyB.lean ====
module

public import proofs.«01_k».proof.Proof.Ideal.BodyA

/-! The second half of the kernel, part by part: the attention of each chunk, its output projection, and the ring reduce-scatter of the partial outputs. -/

@[expose] public section

set_option maxRecDepth 8192

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (c : Dev nD)
variable (K : Dev nD × Fin 44 → ℕ)

variable {α : Type}
variable {Q : α → sProp (MT nD τ sig Unit (Elt F) ℕ UU ℕ)}

/-- A chunk of the queries, and all the keys and values. -/
def Qk (j : Dev nD) : sProp 𝕄 := Hd c qM (256 * j.val) 256 fullShare (QF m c)
def At : sProp 𝕄 := iprop(Hd c kM 0 2048 fullShare (KF m c) ∗ Hd c vM 0 2048 fullShare (VF m c))
/-- A slot of device `d`'s exchange buffer, whatever it holds; -/
def rs (d : Dev nD) (st : ℕ) : sProp 𝕄 := iprop(∃ f : S2048x1024.Idx → Elt F .bf16, sl d st f)
/-- a slab of the sending buffer; -/
def fs (st : ℕ) : sProp 𝕄 := iprop(∃ f : S7x256x1024.Idx → Elt F .bf16, sb c st f)
/-- a slot that has received; -/
def gs (j : Dev nD) : sProp 𝕄 := Hd c xgM (256 * j.val) 256 fullShare (RX m c)
/-- a chunk of the partial output. -/
def pt (j : Dev nD) : sProp 𝕄 := Hd c tM (256 * j.val) 256 fullShare (PF m c)

/-- The attention of a chunk, head by head: what a loop over the heads keeps. -/
def Inv (j : Dev nD) (k : ℕ) (_ : Unit) : sProp 𝕄 := iprop(Qk m c j ∗ At m c ∗ Ob c oM (OB m c j) k)

theorem attn_loop {w : ℕ} {lb ub st : BitVec w} {hok : Scf.OK lb ub st} (h8 : Scf.trips lb ub st = 8) {j : Dev nD}
    {body : Fin (Scf.trips lb ub st) → Unit → Prog (TpuEff nD τ sig (Elt F) Λ₀ .tc) Unit}
    (hb : ∀ (k : Fin (Scf.trips lb ub st)) (acc : Unit), Inv m c j k.val acc
      ⊢ wp frame (wpE (defs₀ (F := F)) 𝒱₀ (c : Thread nD τ) none) Set.univ (body k acc) (Inv m c j (k.val + 1)))
    {kk : Unit → Prog (TpuEff nD τ sig (Elt F) Λ₀ .tc) α} :
    iprop(Qk m c j ∗ At m c ∗ Fa c oM)
      ⊢ iprop(((Qk m c j ∗ At m c ∗ Fl c oM fullShare (OB m c j)) -∗ wp frame (wpE (defs₀ (F := F)) 𝒱₀ (c : Thread nD τ) none) Set.univ (kk ⟨⟩) Q)
        -∗ wp frame (wpE (defs₀ (F := F)) 𝒱₀ (c : Thread nD τ) none) Set.univ (Scf.for lb ub st hok ⟨⟩ body >>= kk) Q) := by
  have h := Scf.wp_for_bind (Q := Q) (kk := kk) frame (wpE (defs₀ (F := F)) 𝒱₀ (c : Thread nD τ) none) Set.univ lb ub st hok ⟨⟩ body (Inv m c j) hb
  rw [h8] at h
  iintro ⟨Hq, Ha, Ho⟩ Hc
  iapply h $$ [Hq Ha Ho]
  · unfold Inv
    isplitl [Hq]; · iexact Hq
    isplitl [Ha]; · iexact Ha
    iapply (Fa_Ob c oM (OB m c j)) $$ Ho
  iintro %u H
  unfold Inv
  icases H with ⟨Hq, Ha, Ho⟩
  iapply Hc
  isplitl [Hq]; · iexact Hq
  isplitl [Ha]; · iexact Ha
  iapply (Ob_Fl c oM (OB m c j)) $$ Ho

theorem lp1 {v2 v4 v565 c256 : BitVec 32} (k : Fin k0_t1_loop.trips) (acc : Unit) :
    Inv m c (sh c 4) k.val acc ⊢ wp frame (wpE (defs₀ (F := F)) 𝒱₀ (c : Thread nD τ) none) Set.univ
      (k0_t1_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 v565 c256 k acc) (Inv m c (sh c 4) (k.val + 1)) := by
  have h8 : k.val < 8 := k.isLt
  have e1 : k0_off7 c k = ![256 * (sh c 4).val, 128 * (⟨k.val, h8⟩ : Fin 8).val] := (k0_off7_eq c k).trans (by rw [sh_val, show (c.val + 12) % 8 = (c.val + 4) % 8 by omega])
  have e2 : k0_off8 k = ![0, 128 * (⟨k.val, h8⟩ : Fin 8).val] := k0_off8_eq k
  have e3 : k0_off9 k = ![0, 128 * (⟨k.val, h8⟩ : Fin 8).val] := k0_off9_eq k
  unfold k0_t1_body
  simp only [Prog.lift, Prog.bind_op, Prog.bind_ret, Prog.pure_eq_ret]
  unfold Inv Qk At
  iintro ⟨Hq, ⟨Hk, Hv⟩, Ho⟩
  iapply (attn_step m c qM kM vM oM (t := ⟨k.val, h8⟩) (p := k0_pay35) e1 e2 e3 rfl) $$ [Hq Hk Hv Ho]
  · isplitl [Hq]; · iexact Hq
    isplitl [Hk]; · iexact Hk
    isplitl [Hv] <;> iassumption
  iintro ⟨Hq, Hk, Hv, Ho⟩
  rw [wp_ret]
  imodintro
  isplitl [Hq]; · iexact Hq
  isplitl [Hk Hv]
  · isplitl [Hk] <;> iassumption
  iexact Ho

theorem lp2 {v7 v592 c0 : BitVec 32} (k : Fin k0_t2_loop.trips) (acc : Unit) :
    Inv m c (sh c 5) k.val acc ⊢ wp frame (wpE (defs₀ (F := F)) 𝒱₀ (c : Thread nD τ) none) Set.univ
      (k0_t2_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v7 v592 c0 k acc) (Inv m c (sh c 5) (k.val + 1)) := by
  have h8 : k.val < 8 := k.isLt
  have e1 : k0_off11 c k = ![256 * (sh c 5).val, 128 * (⟨k.val, h8⟩ : Fin 8).val] := k0_off11_eq c k
  have e2 : k0_off12 k = ![0, 128 * (⟨k.val, h8⟩ : Fin 8).val] := k0_off12_eq k
  have e3 : k0_off13 k = ![0, 128 * (⟨k.val, h8⟩ : Fin 8).val] := k0_off13_eq k
  unfold k0_t2_body
  simp only [Prog.lift, Prog.bind_op, Prog.bind_ret, Prog.pure_eq_ret]
  unfold Inv Qk At
  iintro ⟨Hq, ⟨Hk, Hv⟩, Ho⟩
  iapply (attn_step m c qM kM vM oM (t := ⟨k.val, h8⟩) (p := k0_pay38) e1 e2 e3 rfl) $$ [Hq Hk Hv Ho]
  · isplitl [Hq]; · iexact Hq
    isplitl [Hk]; · iexact Hk
    isplitl [Hv] <;> iassumption
  iintro ⟨Hq, Hk, Hv, Ho⟩
  rw [wp_ret]
  imodintro
  isplitl [Hq]; · iexact Hq
  isplitl [Hk Hv]
  · isplitl [Hk] <;> iassumption
  iexact Ho

theorem lp3 {v2 v4 : BitVec 32} (k : Fin k0_t3_loop.trips) (acc : Unit) :
    Inv m c (sh c 3) k.val acc ⊢ wp frame (wpE (defs₀ (F := F)) 𝒱₀ (c : Thread nD τ) none) Set.univ
      (k0_t3_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 k acc) (Inv m c (sh c 3) (k.val + 1)) := by
  have h8 : k.val < 8 := k.isLt
  have e1 : k0_off15 c k = ![256 * (sh c 3).val, 128 * (⟨k.val, h8⟩ : Fin 8).val] := (k0_off15_eq c k).trans (by rw [sh_val, show (c.val + 11) % 8 = (c.val + 3) % 8 by omega])
  have e2 : k0_off16 k = ![0, 128 * (⟨k.val, h8⟩ : Fin 8).val] := k0_off16_eq k
  have e3 : k0_off17 k = ![0, 128 * (⟨k.val, h8⟩ : Fin 8).val] := k0_off17_eq k
  unfold k0_t3_body
  simp only [Prog.lift, Prog.bind_op, Prog.bind_ret, Prog.pure_eq_ret]
  unfold Inv Qk At
  iintro ⟨Hq, ⟨Hk, Hv⟩, Ho⟩
  iapply (attn_step m c qM kM vM oM (t := ⟨k.val, h8⟩) (p := k0_pay41) e1 e2 e3 rfl) $$ [Hq Hk Hv Ho]
  · isplitl [Hq]; · iexact Hq
    isplitl [Hk]; · iexact Hk
    isplitl [Hv] <;> iassumption
  iintro ⟨Hq, Hk, Hv, Ho⟩
  rw [wp_ret]
  imodintro
  isplitl [Hq]; · iexact Hq
  isplitl [Hk Hv]
  · isplitl [Hk] <;> iassumption
  iexact Ho

theorem lp4 {v2 v4 : BitVec 32} {v649 : FVec F S256x1024 .bf16} (k : Fin k0_t4_loop.trips) (acc : Unit) :
    Inv m c (sh c 6) k.val acc ⊢ wp frame (wpE (defs₀ (F := F)) 𝒱₀ (c : Thread nD τ) none) Set.univ
      (k0_t4_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 v649 k acc) (Inv m c (sh c 6) (k.val + 1)) := by
  have h8 : k.val < 8 := k.isLt
  have e1 : k0_off18 c k = ![256 * (sh c 6).val, 128 * (⟨k.val, h8⟩ : Fin 8).val] := k0_off18_eq c k
  have e2 : k0_off19 k = ![0, 128 * (⟨k.val, h8⟩ : Fin 8).val] := k0_off19_eq k
  have e3 : k0_off20 k = ![0, 128 * (⟨k.val, h8⟩ : Fin 8).val] := k0_off20_eq k
  unfold k0_t4_body
  simp only [Prog.lift, Prog.bind_op, Prog.bind_ret, Prog.pure_eq_ret]
  unfold Inv Qk At
  iintro ⟨Hq, ⟨Hk, Hv⟩, Ho⟩
  iapply (attn_step m c qM kM vM oM (t := ⟨k.val, h8⟩) (p := k0_pay45) e1 e2 e3 rfl) $$ [Hq Hk Hv Ho]
  · isplitl [Hq]; · iexact Hq
    isplitl [Hk]; · iexact Hk
    isplitl [Hv] <;> iassumption
  iintro ⟨Hq, Hk, Hv, Ho⟩
  rw [wp_ret]
  imodintro
  isplitl [Hq]; · iexact Hq
  isplitl [Hk Hv]
  · isplitl [Hk] <;> iassumption
  iexact Ho

theorem lp5 {v4 v705 v706 : BitVec 32} (k : Fin k0_t5_loop.trips) (acc : Unit) :
    Inv m c (sh c 2) k.val acc ⊢ wp frame (wpE (defs₀ (F := F)) 𝒱₀ (c : Thread nD τ) none) Set.univ
      (k0_t5_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v4 v705 v706 k acc) (Inv m c (sh c 2) (k.val + 1)) := by
  have h8 : k.val < 8 := k.isLt
  have e1 : k0_off21 c k = ![256 * (sh c 2).val, 128 * (⟨k.val, h8⟩ : Fin 8).val] := (k0_off21_eq c k).trans (by rw [sh_val, show (c.val + 10) % 8 = (c.val + 2) % 8 by omega])
  have e2 : k0_off22 k = ![0, 128 * (⟨k.val, h8⟩ : Fin 8).val] := k0_off22_eq k
  have e3 : k0_off23 k = ![0, 128 * (⟨k.val, h8⟩ : Fin 8).val] := k0_off23_eq k
  unfold k0_t5_body
  simp only [Prog.lift, Prog.bind_op, Prog.bind_ret, Prog.pure_eq_ret]
  unfold Inv Qk At
  iintro ⟨Hq, ⟨Hk, Hv⟩, Ho⟩
  iapply (attn_step m c qM kM vM oM (t := ⟨k.val, h8⟩) (p := k0_pay48) e1 e2 e3 rfl) $$ [Hq Hk Hv Ho]
  · isplitl [Hq]; · iexact Hq
    isplitl [Hk]; · iexact Hk
    isplitl [Hv] <;> iassumption
  iintro ⟨Hq, Hk, Hv, Ho⟩
  rw [wp_ret]
  imodintro
  isplitl [Hq]; · iexact Hq
  isplitl [Hk Hv]
  · isplitl [Hk] <;> iassumption
  iexact Ho

theorem lp6 {v2 v4 v7 c1 : BitVec 32} (k : Fin k0_t6_loop.trips) (acc : Unit) :
    Inv m c (sh c 7) k.val acc ⊢ wp frame (wpE (defs₀ (F := F)) 𝒱₀ (c : Thread nD τ) none) Set.univ
      (k0_t6_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 v7 c1 k acc) (Inv m c (sh c 7) (k.val + 1)) := by
  have h8 : k.val < 8 := k.isLt
  have e1 : k0_off24 c k = ![256 * (sh c 7).val, 128 * (⟨k.val, h8⟩ : Fin 8).val] := k0_off24_eq c k
  have e2 : k0_off25 k = ![0, 128 * (⟨k.val, h8⟩ : Fin 8).val] := k0_off25_eq k
  have e3 : k0_off26 k = ![0, 128 * (⟨k.val, h8⟩ : Fin 8).val] := k0_off26_eq k
  unfold k0_t6_body
  simp only [Prog.lift, Prog.bind_op, Prog.bind_ret, Prog.pure_eq_ret]
  unfold Inv Qk At
  iintro ⟨Hq, ⟨Hk, Hv⟩, Ho⟩
  iapply (attn_step m c qM kM vM oM (t := ⟨k.val, h8⟩) (p := k0_pay51) e1 e2 e3 rfl) $$ [Hq Hk Hv Ho]
  · isplitl [Hq]; · iexact Hq
    isplitl [Hk]; · iexact Hk
    isplitl [Hv] <;> iassumption
  iintro ⟨Hq, Hk, Hv, Ho⟩
  rw [wp_ret]
  imodintro
  isplitl [Hq]; · iexact Hq
  isplitl [Hk Hv]
  · isplitl [Hk] <;> iassumption
  iexact Ho

theorem lp7 {v2 v7 v745 : BitVec 32} (k : Fin k0_t7_loop.trips) (acc : Unit) :
    Inv m c (sh c 1) k.val acc ⊢ wp frame (wpE (defs₀ (F := F)) 𝒱₀ (c : Thread nD τ) none) Set.univ
      (k0_t7_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v7 v745 k acc) (Inv m c (sh c 1) (k.val + 1)) := by
  have h8 : k.val < 8 := k.isLt
  have e1 : k0_off27 c k = ![256 * (sh c 1).val, 128 * (⟨k.val, h8⟩ : Fin 8).val] := (k0_off27_eq c k).trans (by rw [sh_val, show (c.val + 9) % 8 = (c.val + 1) % 8 by omega])
  have e2 : k0_off28 k = ![0, 128 * (⟨k.val, h8⟩ : Fin 8).val] := k0_off28_eq k
  have e3 : k0_off29 k = ![0, 128 * (⟨k.val, h8⟩ : Fin 8).val] := k0_off29_eq k
  unfold k0_t7_body
  simp only [Prog.lift, Prog.bind_op, Prog.bind_ret, Prog.pure_eq_ret]
  unfold Inv Qk At
  iintro ⟨Hq, ⟨Hk, Hv⟩, Ho⟩
  iapply (attn_step m c qM kM vM oM (t := ⟨k.val, h8⟩) (p := k0_pay54) e1 e2 e3 rfl) $$ [Hq Hk Hv Ho]
  · isplitl [Hq]; · iexact Hq
    isplitl [Hk]; · iexact Hk
    isplitl [Hv] <;> iassumption
  iintro ⟨Hq, Hk, Hv, Ho⟩
  rw [wp_ret]
  imodintro
  isplitl [Hq]; · iexact Hq
  isplitl [Hk Hv]
  · isplitl [Hk] <;> iassumption
  iexact Ho

theorem lp8 {v2 v4 v7 : BitVec 32} (k : Fin k0_t8_loop.trips) (acc : Unit) :
    Inv m c (sh c 0) k.val acc ⊢ wp frame (wpE (defs₀ (F := F)) 𝒱₀ (c : Thread nD τ) none) Set.univ
      (k0_t8_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 v7 k acc) (Inv m c (sh c 0) (k.val + 1)) := by
  have h8 : k.val < 8 := k.isLt
  have e1 : k0_off30 c k = ![256 * (sh c 0).val, 128 * (⟨k.val, h8⟩ : Fin 8).val] := by rw [sh_zero]; exact k0_off30_eq c k
  have e2 : k0_off31 k = ![0, 128 * (⟨k.val, h8⟩ : Fin 8).val] := k0_off31_eq k
  have e3 : k0_off32 k = ![0, 128 * (⟨k.val, h8⟩ : Fin 8).val] := k0_off32_eq k
  unfold k0_t8_body
  simp only [Prog.lift, Prog.bind_op, Prog.bind_ret, Prog.pure_eq_ret]
  unfold Inv Qk At
  iintro ⟨Hq, ⟨Hk, Hv⟩, Ho⟩
  iapply (attn_step m c qM kM vM oM (t := ⟨k.val, h8⟩) (p := k0_pay57) e1 e2 e3 rfl) $$ [Hq Hk Hv Ho]
  · isplitl [Hq]; · iexact Hq
    isplitl [Hk]; · iexact Hk
    isplitl [Hv] <;> iassumption
  iintro ⟨Hq, Hk, Hv, Ho⟩
  rw [wp_ret]
  imodintro
  isplitl [Hq]; · iexact Hq
  isplitl [Hk Hv]
  · isplitl [Hk] <;> iassumption
  iexact Ho

theorem p19 {v2 v4 v565 c256 : BitVec 32} {Q : (Σ' (_ : BitVec 32), BitVec 32) → sProp 𝕄} :
    iprop(Led m K c 18 29 ∗ Qk m c (sh c 4) ∗ At m c ∗ Fa c oM ∗ Fl c aWo fullShare (wo m c) ∗ An c tM (256 * (sh c 4).val) 256 ∗ fs c 0)
      ⊢ iprop((∀ v v', (Led m K c 19 30 ∗ Qk m c (sh c 4) ∗ At m c ∗ Fa c oM ∗ Fl c aWo fullShare (wo m c) ∗ pt m c (sh c 4) ∗ rs (nxt c) 1 ∗ rs (nxt c) 2 ∗ rs (nxt c) 3 ∗ rs (prv c) 4 ∗ rs (prv c) 5 ∗ rs (prv c) 6) -∗ Q ⟨v, v'⟩) -∗ wp frame (wpE (defs₀ (F := F)) 𝒱₀ (c : Thread nD τ) none) Set.univ (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 v565 c256) Q) := by
  rw [k0_part19_eq_skeleton]
  unfold k0_part19_skel
  simp only [semSignalWord, semWaitWord, Prog.lift, Prog.bind_op, Prog.bind_ret, Prog.pure_eq_ret, Scf.Loop.for]
  unfold pt rs fs
  iintro ⟨HL, Hq, Ha, Ho, Hw, Ht, Hs⟩ Hc
  iapply (attn_loop m c (j := (sh c 4)) (by decide) (lp1 m c)) $$ [Hq Ha Ho]
  · isplitl [Hq]; · iexact Hq
    isplitl [Ha] <;> iassumption
  iintro ⟨Hq, Ha, Ho⟩
  iapply (proj m c (j := (sh c 4)) (o10_0 c) (p := k0_pay36) rfl) $$ [Ho Hw Ht]
  · isplitl [Ho]; · iexact Ho
    isplitl [Hw] <;> iassumption
  iintro ⟨Ho, Hw, Ht⟩
  ihave Ho := (Fl_Fa c oM _) $$ Ho
  iapply (wait_two m c K 29 18 29 30 (by decide) (P := slotR c) (P' := slotL c) rfl rfl (show csem 29 = .reg (0 : Sem sig) from rfl) (show (2#32).toInt = (tot 29 : ℕ) from rfl)) $$ HL
  iintro ⟨HL, SR, SL⟩
  unfold slotR slotL
  icases SR with ⟨%fr, L4, L5, L6⟩
  icases SL with ⟨%fl, R0, R1, R2, R3⟩
  unfold PF
  iapply (ld_rows c tM (j := (sh c 4)) (V := PC m c) (o10_0 c)) $$ Ht
  iintro Ht
  have es : k0_pay37 (PC m c (sh c 4)) = SB m c 0 := rfl
  iapply (st_slab m c (st := 0) rfl es) $$ Hs
  iintro Hs
  ihave R0 := (show sl (nxt c) 0 fl ⊢ iprop(∃ f : S2048x1024.Idx → Elt F .bf16, sl (nxt c) (0 : Dev nD).val f) from by iintro H; iexists fl; iexact H) $$ R0
  iapply (send_slab m c K 18 18 19 30 (by decide) (0 : Dev nD) (show (⟨k0_dev19 c, k0_dev19_lt c⟩ : Dev nD) = tgt c 18 from Fin.ext (k0_dev19_eq c)) (t := (nxt c)) rfl (show (if ((0 : Dev nD)).val < 4 then prv (nxt c) else nxt (nxt c)) = c from prv_nxt c) rfl rfl
    (show sb c 0 (SF m c) = pay m c (own 18) false from rfl) (show sl (nxt c) 0 (RX m (nxt c)) = pay m (nxt c) (tix 18) false from rfl)
    (show csem 37 = .dma (34 : DmaSem sig) from rfl) (show csem 30 = .dma (38 : DmaSem sig) from rfl)) $$ [HL Hs R0]
  · isplitl [HL]; · iexact HL
    isplitl [Hs]; · iexact Hs
    iexact R0
  iintro HL
  rw [wp_ret]
  imodintro
  iapply Hc
  isplitl [HL]; · iexact HL
  isplitl [Hq]; · iexact Hq
  isplitl [Ha]; · iexact Ha
  isplitl [Ho]; · iexact Ho
  isplitl [Hw]; · iexact Hw
  isplitl [Ht]; · iexact Ht
  isplitl [R1]; · iexists fl; iexact R1
  isplitl [R2]; · iexists fl; iexact R2
  isplitl [R3]; · iexists fl; iexact R3
  isplitl [L4]; · iexists fr; iexact L4
  isplitl [L5]; · iexists fr; iexact L5
  iexists fr; iexact L6

theorem p20 {v7 v592 c0 : BitVec 32} {Q : PUnit → sProp 𝕄} :
    iprop(Led m K c 19 30 ∗ Qk m c (sh c 5) ∗ At m c ∗ Fa c oM ∗ Fl c aWo fullShare (wo m c) ∗ An c tM (256 * (sh c 5).val) 256 ∗ fs c 4 ∗ rs (prv c) 4)
      ⊢ iprop(((Led m K c 20 30 ∗ Qk m c (sh c 5) ∗ At m c ∗ Fa c oM ∗ Fl c aWo fullShare (wo m c) ∗ pt m c (sh c 5)) -∗ Q ⟨⟩) -∗ wp frame (wpE (defs₀ (F := F)) 𝒱₀ (c : Thread nD τ) none) Set.univ (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v7 v592 c0) Q) := by
  rw [k0_part20_eq_skeleton]
  unfold k0_part20_skel
  simp only [semSignalWord, semWaitWord, Prog.lift, Prog.bind_op, Prog.bind_ret, Prog.pure_eq_ret, Scf.Loop.for]
  unfold pt rs fs
  iintro ⟨HL, Hq, Ha, Ho, Hw, Ht, Hs, Hr⟩ Hc
  iapply (attn_loop m c (j := (sh c 5)) (by decide) (lp2 m c)) $$ [Hq Ha Ho]
  · isplitl [Hq]; · iexact Hq
    isplitl [Ha] <;> iassumption
  iintro ⟨Hq, Ha, Ho⟩
  iapply (proj m c (j := (sh c 5)) (o14_0 c) (p := k0_pay39) rfl) $$ [Ho Hw Ht]
  · isplitl [Ho]; · iexact Ho
    isplitl [Hw] <;> iassumption
  iintro ⟨Ho, Hw, Ht⟩
  ihave Ho := (Fl_Fa c oM _) $$ Ho
  unfold PF
  iapply (ld_rows c tM (j := (sh c 5)) (V := PC m c) (o14_0 c)) $$ Ht
  iintro Ht
  have es : k0_pay40 (PC m c (sh c 5)) = SB m c 4 := rfl
  iapply (st_slab m c (st := 4) rfl es) $$ Hs
  iintro Hs
  iapply (send_slab m c K 19 19 20 30 (by decide) (4 : Dev nD) (show (⟨k0_dev20 c, k0_dev20_lt c⟩ : Dev nD) = tgt c 19 from Fin.ext (k0_dev20_eq c)) (t := (prv c)) rfl (show (if ((4 : Dev nD)).val < 4 then prv (prv c) else nxt (prv c)) = c from nxt_prv c) rfl rfl
    (show sb c 4 (SF m c) = pay m c (own 19) false from rfl) (show sl (prv c) 4 (RX m (prv c)) = pay m (prv c) (tix 19) false from rfl)
    (show csem 41 = .dma (42 : DmaSem sig) from rfl) (show csem 31 = .dma (45 : DmaSem sig) from rfl)) $$ [HL Hs Hr]
  · isplitl [HL]; · iexact HL
    isplitl [Hs]; · iexact Hs
    iexact Hr
  iintro HL
  rw [wp_ret]
  imodintro
  iapply Hc
  isplitl [HL]; · iexact HL
  isplitl [Hq]; · iexact Hq
  isplitl [Ha]; · iexact Ha
  isplitl [Ho]; · iexact Ho
  isplitl [Hw]; · iexact Hw
  iexact Ht

theorem p21 {v2 v4 : BitVec 32} {Q : FVec F S256x1024 .bf16 → sProp 𝕄} :
    iprop(Led m K c 20 30 ∗ Qk m c (sh c 3) ∗ At m c ∗ Fa c oM ∗ Fl c aWo fullShare (wo m c) ∗ An c tM (256 * (sh c 3).val) 256)
      ⊢ iprop(((Led m K c 20 31 ∗ Qk m c (sh c 3) ∗ At m c ∗ Fa c oM ∗ Fl c aWo fullShare (wo m c) ∗ pt m c (sh c 3) ∗ gs m c 0) -∗ Q (k0_pay43 (PC m c (sh c 3)) (RV m c 0))) -∗ wp frame (wpE (defs₀ (F := F)) 𝒱₀ (c : Thread nD τ) none) Set.univ (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4) Q) := by
  rw [k0_part21_eq_skeleton]
  unfold k0_part21_skel
  simp only [semSignalWord, semWaitWord, Prog.lift, Prog.bind_op, Prog.bind_ret, Prog.pure_eq_ret, Scf.Loop.for]
  unfold pt gs
  iintro ⟨HL, Hq, Ha, Ho, Hw, Ht⟩ Hc
  iapply (attn_loop m c (j := (sh c 3)) (by decide) (lp3 m c)) $$ [Hq Ha Ho]
  · isplitl [Hq]; · iexact Hq
    isplitl [Ha] <;> iassumption
  iintro ⟨Hq, Ha, Ho⟩
  iapply (proj m c (j := (sh c 3)) (o10_1 c) (p := k0_pay42) rfl) $$ [Ho Hw Ht]
  · isplitl [Ho]; · iexact Ho
    isplitl [Hw] <;> iassumption
  iintro ⟨Ho, Hw, Ht⟩
  ihave Ho := (Fl_Fa c oM _) $$ Ho
  iapply (wait_dma m c K 30 20 30 31 (by decide) (P := sl c 0 (RX m c)) rfl (show csem 30 = .dma (38 : DmaSem sig) from rfl) (full_tot 30 (by decide))) $$ HL
  iintro ⟨HL, Hg⟩
  ihave Hg := (sl_Hd c 0 (RX m c)) $$ Hg
  unfold PF
  iapply (ld_rows c tM (j := (sh c 3)) (V := PC m c) (o10_1 c)) $$ Ht
  iintro Ht
  unfold RX
  iapply (ld_rows c xgM (j := (0 : Dev nD)) (V := RV m c) rfl) $$ Hg
  iintro Hg
  rw [wp_ret]
  imodintro
  iapply Hc
  isplitl [HL]; · iexact HL
  isplitl [Hq]; · iexact Hq
  isplitl [Ha]; · iexact Ha
  isplitl [Ho]; · iexact Ho
  isplitl [Hw]; · iexact Hw
  isplitl [Ht]; · iexact Ht
  iexact Hg

theorem p22 {v2 v4 : BitVec 32} {Q : (Σ' (_ : BitVec 32), BitVec 32) → sProp 𝕄} :
    iprop(Led m K c 20 31 ∗ Qk m c (sh c 6) ∗ At m c ∗ Fa c oM ∗ Fl c aWo fullShare (wo m c) ∗ An c tM (256 * (sh c 6).val) 256 ∗ fs c 1 ∗ rs (nxt c) 1)
      ⊢ iprop((∀ v v', (Led m K c 21 31 ∗ Qk m c (sh c 6) ∗ At m c ∗ Fa c oM ∗ Fl c aWo fullShare (wo m c) ∗ pt m c (sh c 6)) -∗ Q ⟨v, v'⟩) -∗ wp frame (wpE (defs₀ (F := F)) 𝒱₀ (c : Thread nD τ) none) Set.univ (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 (k0_pay43 (PC m c (sh c 3)) (RV m c 0))) Q) := by
  rw [k0_part22_eq_skeleton]
  unfold k0_part22_skel
  simp only [semSignalWord, semWaitWord, Prog.lift, Prog.bind_op, Prog.bind_ret, Prog.pure_eq_ret, Scf.Loop.for]
  unfold pt rs fs
  iintro ⟨HL, Hq, Ha, Ho, Hw, Ht, Hs, Hr⟩ Hc
  have es : k0_pay44 (k0_pay43 (PC m c (sh c 3)) (RV m c 0)) = SB m c 1 := rfl
  iapply (st_slab m c (st := 1) rfl es) $$ Hs
  iintro Hs
  iapply (send_slab m c K 20 20 21 31 (by decide) (1 : Dev nD) (show (⟨k0_dev21 c, k0_dev21_lt c⟩ : Dev nD) = tgt c 20 from Fin.ext (k0_dev21_eq c)) (t := (nxt c)) rfl (show (if ((1 : Dev nD)).val < 4 then prv (nxt c) else nxt (nxt c)) = c from prv_nxt c) rfl rfl
    (show sb c 1 (SF m c) = pay m c (own 20) false from rfl) (show sl (nxt c) 1 (RX m (nxt c)) = pay m (nxt c) (tix 20) false from rfl)
    (show csem 38 = .dma (35 : DmaSem sig) from rfl) (show csem 32 = .dma (39 : DmaSem sig) from rfl)) $$ [HL Hs Hr]
  · isplitl [HL]; · iexact HL
    isplitl [Hs]; · iexact Hs
    iexact Hr
  iintro HL
  iapply (attn_loop m c (j := (sh c 6)) (by decide) (lp4 m c)) $$ [Hq Ha Ho]
  · isplitl [Hq]; · iexact Hq
    isplitl [Ha] <;> iassumption
  iintro ⟨Hq, Ha, Ho⟩
  iapply (proj m c (j := (sh c 6)) (o14_1 c) (p := k0_pay46) rfl) $$ [Ho Hw Ht]
  · isplitl [Ho]; · iexact Ho
    isplitl [Hw] <;> iassumption
  iintro ⟨Ho, Hw, Ht⟩
  ihave Ho := (Fl_Fa c oM _) $$ Ho
  rw [wp_ret]
  imodintro
  iapply Hc
  isplitl [HL]; · iexact HL
  isplitl [Hq]; · iexact Hq
  isplitl [Ha]; · iexact Ha
  isplitl [Ho]; · iexact Ho
  isplitl [Hw]; · iexact Hw
  iexact Ht

theorem p23 {v2 v7 v665 c1 : BitVec 32} {Q : (Σ' (_ : BitVec 32), BitVec 32) → sProp 𝕄} :
    iprop(Led m K c 21 31 ∗ pt m c (sh c 6) ∗ fs c 5 ∗ rs (prv c) 5)
      ⊢ iprop((∀ v v', (Led m K c 22 32 ∗ pt m c (sh c 6) ∗ gs m c 4) -∗ Q ⟨v, v'⟩) -∗ wp frame (wpE (defs₀ (F := F)) 𝒱₀ (c : Thread nD τ) none) Set.univ (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v7 v665 c1) Q) := by
  rw [k0_part23_eq_skeleton]
  unfold k0_part23_skel
  simp only [semSignalWord, semWaitWord, Prog.lift, Prog.bind_op, Prog.bind_ret, Prog.pure_eq_ret, Scf.Loop.for]
  unfold pt rs fs gs
  iintro ⟨HL, Ht, Hs, Hr⟩ Hc
  iapply (wait_dma m c K 31 21 31 32 (by decide) (P := sl c 4 (RX m c)) rfl (show csem 31 = .dma (45 : DmaSem sig) from rfl) (full_tot 31 (by decide))) $$ HL
  iintro ⟨HL, Hg⟩
  ihave Hg := (sl_Hd c 4 (RX m c)) $$ Hg
  unfold PF
  iapply (ld_rows c tM (j := (sh c 6)) (V := PC m c) (o14_1 c)) $$ Ht
  iintro Ht
  unfold RX
  iapply (ld_rows c xgM (j := (4 : Dev nD)) (V := RV m c) rfl) $$ Hg
  iintro Hg
  have es : k0_pay47 (PC m c (sh c 6)) (RV m c 4) = SB m c 5 := rfl
  iapply (st_slab m c (st := 5) rfl es) $$ Hs
  iintro Hs
  iapply (send_slab m c K 21 21 22 32 (by decide) (5 : Dev nD) (show (⟨k0_dev22 c, k0_dev22_lt c⟩ : Dev nD) = tgt c 21 from Fin.ext (k0_dev22_eq c)) (t := (prv c)) rfl (show (if ((5 : Dev nD)).val < 4 then prv (prv c) else nxt (prv c)) = c from nxt_prv c) rfl rfl
    (show sb c 5 (SF m c) = pay m c (own 21) false from rfl) (show sl (prv c) 5 (RX m (prv c)) = pay m (prv c) (tix 21) false from rfl)
    (show csem 42 = .dma (43 : DmaSem sig) from rfl) (show csem 33 = .dma (46 : DmaSem sig) from rfl)) $$ [HL Hs Hr]
  · isplitl [HL]; · iexact HL
    isplitl [Hs]; · iexact Hs
    iexact Hr
  iintro HL
  rw [wp_ret]
  imodintro
  iapply Hc
  isplitl [HL]; · iexact HL
  isplitl [Ht]; · iexact Ht
  iexact Hg

theorem p24 {v4 v705 v706 : BitVec 32} {Q : BitVec 32 → sProp 𝕄} :
    iprop(Led m K c 22 32 ∗ Qk m c (sh c 2) ∗ At m c ∗ Fa c oM ∗ Fl c aWo fullShare (wo m c) ∗ An c tM (256 * (sh c 2).val) 256 ∗ fs c 2)
      ⊢ iprop((∀ v, (Led m K c 22 33 ∗ Qk m c (sh c 2) ∗ At m c ∗ Fa c oM ∗ Fl c aWo fullShare (wo m c) ∗ pt m c (sh c 2) ∗ gs m c 1 ∗ sb c 2 (SF m c)) -∗ Q v) -∗ wp frame (wpE (defs₀ (F := F)) 𝒱₀ (c : Thread nD τ) none) Set.univ (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v4 v705 v706) Q) := by
  rw [k0_part24_eq_skeleton]
  unfold k0_part24_skel
  simp only [semSignalWord, semWaitWord, Prog.lift, Prog.bind_op, Prog.bind_ret, Prog.pure_eq_ret, Scf.Loop.for]
  unfold pt fs gs
  iintro ⟨HL, Hq, Ha, Ho, Hw, Ht, Hs⟩ Hc
  iapply (attn_loop m c (j := (sh c 2)) (by decide) (lp5 m c)) $$ [Hq Ha Ho]
  · isplitl [Hq]; · iexact Hq
    isplitl [Ha] <;> iassumption
  iintro ⟨Hq, Ha, Ho⟩
  iapply (proj m c (j := (sh c 2)) (o10_2 c) (p := k0_pay49) rfl) $$ [Ho Hw Ht]
  · isplitl [Ho]; · iexact Ho
    isplitl [Hw] <;> iassumption
  iintro ⟨Ho, Hw, Ht⟩
  ihave Ho := (Fl_Fa c oM _) $$ Ho
  iapply (wait_dma m c K 32 22 32 33 (by decide) (P := sl c 1 (RX m c)) rfl (show csem 32 = .dma (39 : DmaSem sig) from rfl) (full_tot 32 (by decide))) $$ HL
  iintro ⟨HL, Hg⟩
  ihave Hg := (sl_Hd c 1 (RX m c)) $$ Hg
  unfold PF
  iapply (ld_rows c tM (j := (sh c 2)) (V := PC m c) (o10_2 c)) $$ Ht
  iintro Ht
  unfold RX
  iapply (ld_rows c xgM (j := (1 : Dev nD)) (V := RV m c) rfl) $$ Hg
  iintro Hg
  have es : k0_pay50 (PC m c (sh c 2)) (RV m c 1) = SB m c 2 := rfl
  iapply (st_slab m c (st := 2) rfl es) $$ Hs
  iintro Hs
  rw [wp_ret]
  imodintro
  iapply Hc
  isplitl [HL]; · iexact HL
  isplitl [Hq]; · iexact Hq
  isplitl [Ha]; · iexact Ha
  isplitl [Ho]; · iexact Ho
  isplitl [Hw]; · iexact Hw
  isplitl [Ht]; · iexact Ht
  isplitl [Hg]; · iexact Hg
  iexact Hs

theorem p25 {v2 v4 v7 c1 : BitVec 32} {Q : BitVec 32 → sProp 𝕄} :
    iprop(Led m K c 22 33 ∗ Qk m c (sh c 7) ∗ At m c ∗ Fa c oM ∗ Fl c aWo fullShare (wo m c) ∗ An c tM (256 * (sh c 7).val) 256 ∗ sb c 2 (SF m c) ∗ rs (nxt c) 2)
      ⊢ iprop((∀ v, (Led m K c 23 33 ∗ Qk m c (sh c 7) ∗ At m c ∗ Fa c oM ∗ Fl c aWo fullShare (wo m c) ∗ pt m c (sh c 7)) -∗ Q v) -∗ wp frame (wpE (defs₀ (F := F)) 𝒱₀ (c : Thread nD τ) none) Set.univ (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 v7 c1) Q) := by
  rw [k0_part25_eq_skeleton]
  unfold k0_part25_skel
  simp only [semSignalWord, semWaitWord, Prog.lift, Prog.bind_op, Prog.bind_ret, Prog.pure_eq_ret, Scf.Loop.for]
  unfold pt rs
  iintro ⟨HL, Hq, Ha, Ho, Hw, Ht, Hs, Hr⟩ Hc
  iapply (send_slab m c K 22 22 23 33 (by decide) (2 : Dev nD) (show (⟨k0_dev23 c, k0_dev23_lt c⟩ : Dev nD) = tgt c 22 from Fin.ext (k0_dev23_eq c)) (t := (nxt c)) rfl (show (if ((2 : Dev nD)).val < 4 then prv (nxt c) else nxt (nxt c)) = c from prv_nxt c) rfl rfl
    (show sb c 2 (SF m c) = pay m c (own 22) false from rfl) (show sl (nxt c) 2 (RX m (nxt c)) = pay m (nxt c) (tix 22) false from rfl)
    (show csem 39 = .dma (36 : DmaSem sig) from rfl) (show csem 34 = .dma (40 : DmaSem sig) from rfl)) $$ [HL Hs Hr]
  · isplitl [HL]; · iexact HL
    isplitl [Hs]; · iexact Hs
    iexact Hr
  iintro HL
  iapply (attn_loop m c (j := (sh c 7)) (by decide) (lp6 m c)) $$ [Hq Ha Ho]
  · isplitl [Hq]; · iexact Hq
    isplitl [Ha] <;> iassumption
  iintro ⟨Hq, Ha, Ho⟩
  iapply (proj m c (j := (sh c 7)) (o14_2 c) (p := k0_pay52) rfl) $$ [Ho Hw Ht]
  · isplitl [Ho]; · iexact Ho
    isplitl [Hw] <;> iassumption
  iintro ⟨Ho, Hw, Ht⟩
  ihave Ho := (Fl_Fa c oM _) $$ Ho
  rw [wp_ret]
  imodintro
  iapply Hc
  isplitl [HL]; · iexact HL
  isplitl [Hq]; · iexact Hq
  isplitl [Ha]; · iexact Ha
  isplitl [Ho]; · iexact Ho
  isplitl [Hw]; · iexact Hw
  iexact Ht

theorem p26 {v2 v7 v745 : BitVec 32} {Q : (Σ' (_ : BitVec 32) (_ : BitVec 32), Vec F S256x1024 .f32) → sProp 𝕄} :
    iprop(Led m K c 23 33 ∗ Qk m c (sh c 1) ∗ At m c ∗ Fa c oM ∗ pt m c (sh c 7) ∗ fs c 6 ∗ rs (prv c) 6)
      ⊢ iprop((∀ v v', (Led m K c 24 34 ∗ Qk m c (sh c 1) ∗ At m c ∗ Fa c oM ∗ pt m c (sh c 7) ∗ gs m c 5) -∗ Q ⟨v, v', OB m c (sh c 1)⟩) -∗ wp frame (wpE (defs₀ (F := F)) 𝒱₀ (c : Thread nD τ) none) Set.univ (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v7 v745) Q) := by
  rw [k0_part26_eq_skeleton]
  unfold k0_part26_skel
  simp only [semSignalWord, semWaitWord, Prog.lift, Prog.bind_op, Prog.bind_ret, Prog.pure_eq_ret, Scf.Loop.for]
  unfold pt rs fs gs
  iintro ⟨HL, Hq, Ha, Ho, Ht, Hs, Hr⟩ Hc
  iapply (wait_dma m c K 33 23 33 34 (by decide) (P := sl c 5 (RX m c)) rfl (show csem 33 = .dma (46 : DmaSem sig) from rfl) (full_tot 33 (by decide))) $$ HL
  iintro ⟨HL, Hg⟩
  ihave Hg := (sl_Hd c 5 (RX m c)) $$ Hg
  unfold PF
  iapply (ld_rows c tM (j := (sh c 7)) (V := PC m c) (o14_2 c)) $$ Ht
  iintro Ht
  unfold RX
  iapply (ld_rows c xgM (j := (5 : Dev nD)) (V := RV m c) rfl) $$ Hg
  iintro Hg
  have es : k0_pay53 (PC m c (sh c 7)) (RV m c 5) = SB m c 6 := rfl
  iapply (st_slab m c (st := 6) rfl es) $$ Hs
  iintro Hs
  iapply (send_slab m c K 23 23 24 34 (by decide) (6 : Dev nD) (show (⟨k0_dev24 c, k0_dev24_lt c⟩ : Dev nD) = tgt c 23 from Fin.ext (k0_dev24_eq c)) (t := (prv c)) rfl (show (if ((6 : Dev nD)).val < 4 then prv (prv c) else nxt (prv c)) = c from nxt_prv c) rfl rfl
    (show sb c 6 (SF m c) = pay m c (own 23) false from rfl) (show sl (prv c) 6 (RX m (prv c)) = pay m (prv c) (tix 23) false from rfl)
    (show csem 43 = .dma (44 : DmaSem sig) from rfl) (show csem 36 = .dma (47 : DmaSem sig) from rfl)) $$ [HL Hs Hr]
  · isplitl [HL]; · iexact HL
    isplitl [Hs]; · iexact Hs
    iexact Hr
  iintro HL
  iapply (attn_loop m c (j := (sh c 1)) (by decide) (lp7 m c)) $$ [Hq Ha Ho]
  · isplitl [Hq]; · iexact Hq
    isplitl [Ha] <;> iassumption
  iintro ⟨Hq, Ha, Ho⟩
  iapply (ld_whole c oM z2) $$ Ho
  iintro Ho
  ihave Ho := (Fl_Fa c oM _) $$ Ho
  rw [wp_ret]
  imodintro
  iapply Hc
  isplitl [HL]; · iexact HL
  isplitl [Hq]; · iexact Hq
  isplitl [Ha]; · iexact Ha
  isplitl [Ho]; · iexact Ho
  isplitl [Ht]; · iexact Ht
  iexact Hg

theorem p27 {v4 v785 v786 : BitVec 32} {Q : PUnit → sProp 𝕄} :
    iprop(Led m K c 24 34 ∗ Fl c aWo fullShare (wo m c) ∗ An c tM (256 * (sh c 1).val) 256 ∗ fs c 3)
      ⊢ iprop(((Led m K c 24 35 ∗ Fl c aWo fullShare (wo m c) ∗ pt m c (sh c 1) ∗ gs m c 2 ∗ sb c 3 (SF m c)) -∗ Q ⟨⟩) -∗ wp frame (wpE (defs₀ (F := F)) 𝒱₀ (c : Thread nD τ) none) Set.univ (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v4 v785 v786 (OB m c (sh c 1))) Q) := by
  rw [k0_part27_eq_skeleton]
  unfold k0_part27_skel
  simp only [semSignalWord, semWaitWord, Prog.lift, Prog.bind_op, Prog.bind_ret, Prog.pure_eq_ret, Scf.Loop.for]
  unfold pt fs gs
  iintro ⟨HL, Hw, Ht, Hs⟩ Hc
  iapply (ld_whole c aWo z2) $$ Hw
  iintro Hw
  iapply (st_rows c tM (V := PC m c) (j := (sh c 1)) (w := k0_pay55 (OB m c (sh c 1)) (wo m c)) (o10_3 c) rfl) $$ Ht
  iintro Ht
  iapply (wait_dma m c K 34 24 34 35 (by decide) (P := sl c 2 (RX m c)) rfl (show csem 34 = .dma (40 : DmaSem sig) from rfl) (full_tot 34 (by decide))) $$ HL
  iintro ⟨HL, Hg⟩
  ihave Hg := (sl_Hd c 2 (RX m c)) $$ Hg
  unfold PF
  iapply (ld_rows c tM (j := (sh c 1)) (V := PC m c) (o10_3 c)) $$ Ht
  iintro Ht
  unfold RX
  iapply (ld_rows c xgM (j := (2 : Dev nD)) (V := RV m c) rfl) $$ Hg
  iintro Hg
  have es : k0_pay56 (PC m c (sh c 1)) (RV m c 2) = SB m c 3 := rfl
  iapply (st_slab m c (st := 3) rfl es) $$ Hs
  iintro Hs
  rw [wp_ret]
  imodintro
  iapply Hc
  isplitl [HL]; · iexact HL
  isplitl [Hw]; · iexact Hw
  isplitl [Ht]; · iexact Ht
  isplitl [Hg]; · iexact Hg
  iexact Hs

theorem p28 {v2 v4 v7 : BitVec 32} {Q : PUnit → sProp 𝕄} :
    iprop(Led m K c 24 35 ∗ Qk m c (sh c 0) ∗ At m c ∗ Fa c oM ∗ Fl c aWo fullShare (wo m c) ∗ An c tM (256 * (sh c 0).val) 256 ∗ sb c 3 (SF m c) ∗ rs (nxt c) 3)
      ⊢ iprop(((Led m K c 25 36 ∗ Qk m c (sh c 0) ∗ At m c ∗ Fa c oM ∗ Fl c aWo fullShare (wo m c) ∗ pt m c (sh c 0) ∗ gs m c 3) -∗ Q ⟨⟩) -∗ wp frame (wpE (defs₀ (F := F)) 𝒱₀ (c : Thread nD τ) none) Set.univ (k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2 v4 v7) Q) := by
  rw [k0_part28_eq_skeleton]
  unfold k0_part28_skel
  simp only [semSignalWord, semWaitWord, Prog.lift, Prog.bind_op, Prog.bind_ret, Prog.pure_eq_ret, Scf.Loop.for]
  unfold pt rs gs
  iintro ⟨HL, Hq, Ha, Ho, Hw, Ht, Hs, Hr⟩ Hc
  iapply (send_slab m c K 24 24 25 35 (by decide) (3 : Dev nD) (show (⟨k0_dev25 c, k0_dev25_lt c⟩ : Dev nD) = tgt c 24 from Fin.ext (k0_dev25_eq c)) (t := (nxt c)) rfl (show (if ((3 : Dev nD)).val < 4 then prv (nxt c) else nxt (nxt c)) = c from prv_nxt c) rfl rfl
    (show sb c 3 (SF m c) = pay m c (own 24) false from rfl) (show sl (nxt c) 3 (RX m (nxt c)) = pay m (nxt c) (tix 24) false from rfl)
    (show csem 40 = .dma (37 : DmaSem sig) from rfl) (show csem 35 = .dma (41 : DmaSem sig) from rfl)) $$ [HL Hs Hr]
  · isplitl [HL]; · iexact HL
    isplitl [Hs]; · iexact Hs
    iexact Hr
  iintro HL
  iapply (attn_loop m c (j := (sh c 0)) (by decide) (lp8 m c)) $$ [Hq Ha Ho]
  · isplitl [Hq]; · iexact Hq
    isplitl [Ha] <;> iassumption
  iintro ⟨Hq, Ha, Ho⟩
  iapply (proj m c (j := (sh c 0)) (o1 c) (p := k0_pay58) rfl) $$ [Ho Hw Ht]
  · isplitl [Ho]; · iexact Ho
    isplitl [Hw] <;> iassumption
  iintro ⟨Ho, Hw, Ht⟩
  ihave Ho := (Fl_Fa c oM _) $$ Ho
  iapply (wait_dma m c K 35 25 35 36 (by decide) (P := sl c 3 (RX m c)) rfl (show csem 35 = .dma (41 : DmaSem sig) from rfl) (full_tot 35 (by decide))) $$ HL
  iintro ⟨HL, Hg⟩
  ihave Hg := (sl_Hd c 3 (RX m c)) $$ Hg
  rw [wp_ret]
  imodintro
  iapply Hc
  isplitl [HL]; · iexact HL
  isplitl [Hq]; · iexact Hq
  isplitl [Ha]; · iexact Ha
  isplitl [Ho]; · iexact Ho
  isplitl [Hw]; · iexact Hw
  isplitl [Ht]; · iexact Ht
  iexact Hg

theorem p29 {v2 : BitVec 32} {Q : PUnit → sProp 𝕄} :
    iprop(Led m K c 25 36 ∗ pt m c (sh c 0) ∗ gs m c 3 ∗ Fa c aOut)
      ⊢ iprop(((Led m K c 25 39 ∗ pt m c (sh c 0) ∗ gs m c 3 ∗ gs m c 6 ∗ Fl c aOut fullShare (OUT m c) ∗ sb c 0 (SF m c) ∗ sb c 1 (SF m c)) -∗ Q ⟨⟩) -∗ wp frame (wpE (defs₀ (F := F)) 𝒱₀ (c : Thread nD τ) none) Set.univ (k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 c v2) Q) := by
  rw [k0_part29_eq_skeleton]
  unfold k0_part29_skel
  simp only [semSignalWord, semWaitWord, Prog.lift, Prog.bind_op, Prog.bind_ret, Prog.pure_eq_ret, Scf.Loop.for]
  unfold pt gs
  iintro ⟨HL, Ht, Hg, Hy⟩ Hc
  iapply (wait_dma m c K 36 25 36 37 (by decide) (P := sl c 6 (RX m c)) rfl (show csem 36 = .dma (47 : DmaSem sig) from rfl) (full_tot 36 (by decide))) $$ HL
  iintro ⟨HL, Hh⟩
  ihave Hh := (sl_Hd c 6 (RX m c)) $$ Hh
  unfold PF
  iapply (ld_rows c tM (j := (sh c 0)) (V := PC m c) (o1 c)) $$ Ht
  iintro Ht
  unfold RX
  iapply (ld_rows c xgM (j := (3 : Dev nD)) (V := RV m c) rfl) $$ Hg
  iintro Hg
  iapply (ld_rows c xgM (j := (6 : Dev nD)) (V := RV m c) rfl) $$ Hh
  iintro Hh
  have eo : k0_pay59 (PC m c (sh c 0)) (RV m c 3) (RV m c 6) = OUT m c := by rw [sh_zero]; rfl
  rw [eo]
  iapply (st_whole c aOut z2) $$ Hy
  iintro Hy
  iapply (wait_dma m c K 37 25 37 38 (by decide) (P := sb c 0 (SF m c)) rfl (show csem 37 = .dma (34 : DmaSem sig) from rfl) (slab_tot 37 (by decide))) $$ HL
  iintro ⟨HL, B0⟩
  iapply (wait_dma m c K 38 25 38 39 (by decide) (P := sb c 1 (SF m c)) rfl (show csem 38 = .dma (35 : DmaSem sig) from rfl) (slab_tot 38 (by decide))) $$ HL
  iintro ⟨HL, B1⟩
  rw [wp_ret]
  imodintro
  iapply Hc
  isplitl [HL]; · iexact HL
  isplitl [Ht]; · iexact Ht
  isplitl [Hg]; · iexact Hg
  isplitl [Hh]; · iexact Hh
  isplitl [Hy]; · iexact Hy
  isplitl [B0]; · iexact B0
  iexact B1

end Cert.KernelIdeal.Run

end
-- ==== Proof.Ideal.Room.lean ====
module

public import proofs.«01_k».proof.Proof.Ideal.BodyB

/-! The two halves put together: one device runs the whole kernel. -/

@[expose] public section

set_option maxRecDepth 8192

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (c : Dev nD)
variable (K : Dev nD × Fin 44 → ℕ)

section Room
variable {e : EltTy} (M : Memref sig .tc .vmem S2048x1024 e)

theorem Hd_cut (a n n' b N : ℕ) (hb : b = a + n) (hN : N = n + n') (q : PosShare TreeShare) (X : S2048x1024.Idx → Elt F e) :
    Hd c M a N q X ⊢ iprop(Hd c M a n q X ∗ Hd c M b n' q X) := by
  subst hb hN
  have hd : Disjoint (M.view.setOn (rows a n)) (M.view.setOn (rows (a + n) n')) :=
    (Finset.disjoint_map M.view.emb).mpr (rows_disj (Or.inl (le_refl _)))
  unfold Hd
  rw [rows_add, show M.view.setOn (rows a n ∪ rows (a + n) n') = M.view.setOn (rows a n) ∪ M.view.setOn (rows (a + n) n') from Finset.map_union _ _]
  iintro ⟨%f, %hf, H⟩
  ihave H := (pointsTo_union hd).1 $$ H
  icases H with ⟨A, B⟩
  isplitl [A]
  · iexists f
    isplitr
    · ipureintro; exact fun i hi => hf i (Finset.mem_union_left _ hi)
    · iexact A
  · iexists f
    isplitr
    · ipureintro; exact fun i hi => hf i (Finset.mem_union_right _ hi)
    · iexact B

theorem Hd_add (a n n' b N : ℕ) (hb : b = a + n) (hN : N = n + n') (q : PosShare TreeShare) (X : S2048x1024.Idx → Elt F e) :
    iprop(Hd c M a n q X ∗ Hd c M b n' q X) ⊢ Hd c M a N q X := by
  subst hb hN; exact Hd_join c M a n n' q X

theorem An_add (a n n' b N : ℕ) (hb : b = a + n) (hN : N = n + n') :
    iprop(An (F := F) c M a n ∗ An c M b n') ⊢ An c M a N := by
  subst hb hN
  have hd : Disjoint (M.view.setOn (rows a n)) (M.view.setOn (rows (a + n) n')) :=
    (Finset.disjoint_map M.view.emb).mpr (rows_disj (Or.inl (le_refl _)))
  unfold An
  rw [rows_add, show M.view.setOn (rows a n ∪ rows (a + n) n') = M.view.setOn (rows a n) ∪ M.view.setOn (rows (a + n) n') from Finset.map_union _ _]
  iintro ⟨⟨%f, Hf⟩, %g, Hg⟩
  ihave H := (pointsTo_join (ℓ := M.view.loc (c : Thread nD τ)) hd) $$ [Hf Hg]
  · isplitl [Hf] <;> iassumption
  iexists _
  iexact H

/-- A property of each chunk, counted from device 0; -/
abbrev all8 (Φ : Dev nD → sProp 𝕄) : sProp 𝕄 := iprop(Φ 0 ∗ Φ 1 ∗ Φ 2 ∗ Φ 3 ∗ Φ 4 ∗ Φ 5 ∗ Φ 6 ∗ Φ 7)
/-- counted from `c`. -/
abbrev rnd8 (Φ : Dev nD → sProp 𝕄) : sProp 𝕄 :=
  iprop(Φ (sh c 0) ∗ Φ (sh c 1) ∗ Φ (sh c 2) ∗ Φ (sh c 3) ∗ Φ (sh c 4) ∗ Φ (sh c 5) ∗ Φ (sh c 6) ∗ Φ (sh c 7))

theorem Hd_eight (q : PosShare TreeShare) (X : S2048x1024.Idx → Elt F e) :
    Hd c M 0 2048 q X ⊢ rnd8 c fun j => Hd c M (256 * j.val) 256 q X := by
  unfold rnd8
  rw [round8 c fun j => Hd c M (256 * j.val) 256 q X]
  iintro H0
  ihave H := (Hd_cut c M 0 256 1792 256 2048 rfl rfl q X) $$ H0
  icases H with ⟨A0, H1⟩
  ihave H := (Hd_cut c M 256 256 1536 512 1792 rfl rfl q X) $$ H1
  icases H with ⟨A1, H2⟩
  ihave H := (Hd_cut c M 512 256 1280 768 1536 rfl rfl q X) $$ H2
  icases H with ⟨A2, H3⟩
  ihave H := (Hd_cut c M 768 256 1024 1024 1280 rfl rfl q X) $$ H3
  icases H with ⟨A3, H4⟩
  ihave H := (Hd_cut c M 1024 256 768 1280 1024 rfl rfl q X) $$ H4
  icases H with ⟨A4, H5⟩
  ihave H := (Hd_cut c M 1280 256 512 1536 768 rfl rfl q X) $$ H5
  icases H with ⟨A5, H6⟩
  ihave H := (Hd_cut c M 1536 256 256 1792 512 rfl rfl q X) $$ H6
  icases H with ⟨A6, H7⟩
  isplitl [A0]; · iexact A0
  isplitl [A1]; · iexact A1
  isplitl [A2]; · iexact A2
  isplitl [A3]; · iexact A3
  isplitl [A4]; · iexact A4
  isplitl [A5]; · iexact A5
  isplitl [A6]; · iexact A6
  iexact H7

theorem Hd_all (q : PosShare TreeShare) (X : S2048x1024.Idx → Elt F e) :
    (rnd8 c fun j => Hd c M (256 * j.val) 256 q X) ⊢ Hd c M 0 2048 q X := by
  unfold rnd8
  rw [round8 c fun j => Hd c M (256 * j.val) 256 q X]
  iintro ⟨A0, A1, A2, A3, A4, A5, A6, A7⟩
  ihave A1 := (Hd_add c M 0 256 256 256 512 rfl rfl q X) $$ [A0 A1]
  · isplitl [A0]; · iexact A0
    iexact A1
  ihave A2 := (Hd_add c M 0 512 256 512 768 rfl rfl q X) $$ [A1 A2]
  · isplitl [A1]; · iexact A1
    iexact A2
  ihave A3 := (Hd_add c M 0 768 256 768 1024 rfl rfl q X) $$ [A2 A3]
  · isplitl [A2]; · iexact A2
    iexact A3
  ihave A4 := (Hd_add c M 0 1024 256 1024 1280 rfl rfl q X) $$ [A3 A4]
  · isplitl [A3]; · iexact A3
    iexact A4
  ihave A5 := (Hd_add c M 0 1280 256 1280 1536 rfl rfl q X) $$ [A4 A5]
  · isplitl [A4]; · iexact A4
    iexact A5
  ihave A6 := (Hd_add c M 0 1536 256 1536 1792 rfl rfl q X) $$ [A5 A6]
  · isplitl [A5]; · iexact A5
    iexact A6
  ihave A7 := (Hd_add c M 0 1792 256 1792 2048 rfl rfl q X) $$ [A6 A7]
  · isplitl [A6]; · iexact A6
    iexact A7
  iexact A7

theorem An_all :
    iprop(An (F := F) c M 0 256 ∗ An c M 256 256 ∗ An c M 512 256 ∗ An c M 768 256 ∗ An c M 1024 256 ∗ An c M 1280 256 ∗ An c M 1536 256 ∗ An c M 1792 256) ⊢ Fa c M := by
  iintro ⟨A0, A1, A2, A3, A4, A5, A6, A7⟩
  ihave A1 := (An_add c M 0 256 256 256 512 rfl rfl) $$ [A0 A1]
  · isplitl [A0]; · iexact A0
    iexact A1
  ihave A2 := (An_add c M 0 512 256 512 768 rfl rfl) $$ [A1 A2]
  · isplitl [A1]; · iexact A1
    iexact A2
  ihave A3 := (An_add c M 0 768 256 768 1024 rfl rfl) $$ [A2 A3]
  · isplitl [A2]; · iexact A2
    iexact A3
  ihave A4 := (An_add c M 0 1024 256 1024 1280 rfl rfl) $$ [A3 A4]
  · isplitl [A3]; · iexact A3
    iexact A4
  ihave A5 := (An_add c M 0 1280 256 1280 1536 rfl rfl) $$ [A4 A5]
  · isplitl [A4]; · iexact A4
    iexact A5
  ihave A6 := (An_add c M 0 1536 256 1536 1792 rfl rfl) $$ [A5 A6]
  · isplitl [A5]; · iexact A5
    iexact A6
  ihave A7 := (An_add c M 0 1792 256 1792 2048 rfl rfl) $$ [A6 A7]
  · isplitl [A6]; · iexact A6
    iexact A7
  unfold An Fa
  rw [rows_univ]
  iexact A7

theorem Fa_Hd : Fa (F := F) c M ⊢ iprop(∃ X : S2048x1024.Idx → Elt F e, Hd c M 0 2048 fullShare X) := by
  unfold Fa Hd
  rw [rows_univ]
  iintro ⟨%f, H⟩
  iexists (M.view.read (Elt F) f)
  iexists f
  isplitr
  · ipureintro; exact fun _ _ => rfl
  · iexact H

theorem Hd_Fa (X : S2048x1024.Idx → Elt F e) : Hd c M 0 2048 fullShare X ⊢ Fa c M := by
  unfold Fa Hd
  rw [rows_univ]
  iintro ⟨%f, -, H⟩
  iexists f
  iexact H

theorem Fa_eight : Fa (F := F) c M ⊢ rnd8 c fun j => An c M (256 * j.val) 256 := by
  iintro H
  ihave H := (Fa_Hd c M) $$ H
  icases H with ⟨%X, H⟩
  ihave H := (Hd_eight c M fullShare X) $$ H
  icases H with ⟨A0, A1, A2, A3, A4, A5, A6, A7⟩
  ihave A0 := (Hd_An c M _ _ X) $$ A0
  ihave A1 := (Hd_An c M _ _ X) $$ A1
  ihave A2 := (Hd_An c M _ _ X) $$ A2
  ihave A3 := (Hd_An c M _ _ X) $$ A3
  ihave A4 := (Hd_An c M _ _ X) $$ A4
  ihave A5 := (Hd_An c M _ _ X) $$ A5
  ihave A6 := (Hd_An c M _ _ X) $$ A6
  ihave A7 := (Hd_An c M _ _ X) $$ A7
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

end Room

theorem slab_univ : (Finset.univ : Finset (Fin 7)).biUnion (fun st => slab st.val) = Finset.univ := by
  ext i
  rw [Finset.mem_biUnion]
  have h : (i 0).val < 7 := (i 0).isLt
  exact ⟨fun _ => Finset.mem_univ _, fun _ => ⟨⟨(i 0).val, h⟩, Finset.mem_univ _, mem_slab.mpr rfl⟩⟩
theorem slab_disj (a b : Fin 7) (h : a ≠ b) : Disjoint (slab a.val) (slab b.val) := by
  rw [Finset.disjoint_left]
  intro i ha hb
  exact h (Fin.ext ((mem_slab.mp ha).symm.trans (mem_slab.mp hb)))

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem sb_all (f : S7x256x1024.Idx → Elt F .bf16) :
    ((c : Thread nD τ).loc cc0_scratch6 ↦{fullShare} f : sProp 𝕄) = iprop(sb c 0 f ∗ sb c 1 f ∗ sb c 2 f ∗ sb c 3 f ∗ sb c 4 f ∗ sb c 5 f ∗ sb c 6 f) := by
  have h := pointsTo_biUnion (nD := nD) (τ := τ) (sig := sig) (Ix := Unit) (Val := Elt F) (Name := ℕ) (U := UU) (Lvl := ℕ) (ℓ := (c : Thread nD τ).loc cc0_scratch6) (q := fullShare) (f := f)
    Finset.univ (fun st : Fin 7 => slab st.val) (fun a _ b _ h => slab_disj a b h)
  rw [slab_univ, seven] at h
  exact h

end Cert.KernelIdeal.Run

end
-- ==== Proof.Ideal.Body.lean ====
module

public import proofs.«01_k».proof.Proof.Ideal.Room

/-! The parts put together: one device runs the whole kernel. -/

@[expose] public section

set_option maxRecDepth 8192

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)
variable (c : Dev nD)
variable (K : Dev nD × Fin 44 → ℕ)

variable {α : Type}
variable {Q : α → sProp (MT nD τ sig Unit (Elt F) ℕ UU ℕ)}

theorem handed (f : S2048x1024.Idx → Elt F .bf16) :
    (rnd8 c fun j => Hd c xgM (256 * j.val) 256 fullShare f) ⊢ iprop(giveL (prv c) ∗ giveR (nxt c) ∗ An c xgM (256 * (sh c 0).val) 256) := by
  have a0 : sh (prv c) 0 = sh c 7 := sh_sh c 7 0
  have a7 : sh (prv c) 7 = sh c 6 := sh_sh c 7 7
  have a6 : sh (prv c) 6 = sh c 5 := sh_sh c 7 6
  have a5 : sh (prv c) 5 = sh c 4 := sh_sh c 7 5
  have b0 : sh (nxt c) 0 = sh c 1 := sh_sh c 1 0
  have b1 : sh (nxt c) 1 = sh c 2 := sh_sh c 1 1
  have b2 : sh (nxt c) 2 = sh c 3 := sh_sh c 1 2
  unfold giveL giveR
  rw [nxt_prv, prv_nxt, a0, a7, a6, a5, b0, b1, b2]
  unfold hp2
  iintro ⟨A0, A1, A2, A3, A4, A5, A6, A7⟩
  ihave A1 := (Hd_hp c (sh c 1) fullShare f) $$ A1
  ihave A2 := (Hd_hp c (sh c 2) fullShare f) $$ A2
  ihave A3 := (Hd_hp c (sh c 3) fullShare f) $$ A3
  ihave A4 := (Hd_hp c (sh c 4) fullShare f) $$ A4
  ihave A5 := (Hd_hp c (sh c 5) fullShare f) $$ A5
  ihave A6 := (Hd_hp c (sh c 6) fullShare f) $$ A6
  ihave A7 := (Hd_hp c (sh c 7) fullShare f) $$ A7
  isplitl [A7 A6 A5 A4]
  · iexists f
    isplitl [A7]; · iexact A7
    isplitl [A6]; · iexact A6
    isplitl [A5]; · iexact A5
    iexact A4
  isplitl [A1 A2 A3]
  · iexists f
    isplitl [A1]; · iexact A1
    isplitl [A2]; · iexact A2
    iexact A3
  iapply (Hd_An c xgM _ _ f) $$ A0

theorem raws : iprop(Fa c qM ∗ Fa c kM ∗ Fa c vM) ⊢ rnd8 (F := F) c fun j => raw c j := by
  unfold rnd8 raw
  iintro ⟨A, B, C⟩
  ihave A := (Fa_eight c qM) $$ A
  ihave B := (Fa_eight c kM) $$ B
  ihave C := (Fa_eight c vM) $$ C
  icases A with ⟨A0, A1, A2, A3, A4, A5, A6, A7⟩
  icases B with ⟨B0, B1, B2, B3, B4, B5, B6, B7⟩
  icases C with ⟨C0, C1, C2, C3, C4, C5, C6, C7⟩
  isplitl [A0 B0 C0]
  · isplitl [A0]; · iexact A0
    isplitl [B0] <;> iassumption
  isplitl [A1 B1 C1]
  · isplitl [A1]; · iexact A1
    isplitl [B1] <;> iassumption
  isplitl [A2 B2 C2]
  · isplitl [A2]; · iexact A2
    isplitl [B2] <;> iassumption
  isplitl [A3 B3 C3]
  · isplitl [A3]; · iexact A3
    isplitl [B3] <;> iassumption
  isplitl [A4 B4 C4]
  · isplitl [A4]; · iexact A4
    isplitl [B4] <;> iassumption
  isplitl [A5 B5 C5]
  · isplitl [A5]; · iexact A5
    isplitl [B5] <;> iassumption
  isplitl [A6 B6 C6]
  · isplitl [A6]; · iexact A6
    isplitl [B6] <;> iassumption
  isplitl [A7]; · iexact A7
  isplitl [B7] <;> iassumption

theorem dons : (rnd8 c fun j => don m c j) ⊢ iprop((rnd8 c fun j => Qk m c j) ∗ At m c) := by
  unfold rnd8 don At Qk
  iintro ⟨⟨A0, B0, C0⟩, ⟨A1, B1, C1⟩, ⟨A2, B2, C2⟩, ⟨A3, B3, C3⟩, ⟨A4, B4, C4⟩, ⟨A5, B5, C5⟩, ⟨A6, B6, C6⟩, ⟨A7, B7, C7⟩⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [B0 B1 B2 B3 B4 B5 B6 B7]
  · iapply (Hd_all c kM fullShare (KF m c))
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  iapply (Hd_all c vM fullShare (VF m c))
  isplitl [C0]; · iexact C0
  isplitl [C1]; · iexact C1
  isplitl [C2]; · iexact C2
  isplitl [C3]; · iexact C3
  isplitl [C4]; · iexact C4
  isplitl [C5]; · iexact C5
  isplitl [C6]; · iexact C6
  iexact C7

theorem slabs : Fa c sbM ⊢ iprop(fs (F := F) c 0 ∗ fs (F := F) c 1 ∗ fs (F := F) c 2 ∗ fs (F := F) c 3 ∗ fs (F := F) c 4 ∗ fs (F := F) c 5 ∗ fs (F := F) c 6) := by
  unfold Fa fs
  rw [View.set_whole]
  iintro ⟨%f, H⟩
  ihave H := (Entails.of_eq (sb_all c f)) $$ H
  icases H with ⟨A0, A1, A2, A3, A4, A5, A6⟩
  isplitl [A0]; · iexists f; iexact A0
  isplitl [A1]; · iexists f; iexact A1
  isplitl [A2]; · iexists f; iexact A2
  isplitl [A3]; · iexists f; iexact A3
  isplitl [A4]; · iexists f; iexact A4
  isplitl [A5]; · iexists f; iexact A5
  iexists f; iexact A6

theorem slabs_back : iprop(sb c 0 (SF m c) ∗ sb c 1 (SF m c) ∗ sb c 2 (SF m c) ∗ sb c 3 (SF m c) ∗ sb c 4 (SF m c) ∗ sb c 5 (SF m c) ∗ sb c 6 (SF m c)) ⊢ Fa c sbM := by
  rw [← sb_all c (SF m c)]
  unfold Fa
  rw [View.set_whole]
  iintro H
  iexists (SF m c)
  iexact H

theorem slots_back : iprop(gs m c 0 ∗ gs m c 1 ∗ gs m c 2 ∗ gs m c 3 ∗ gs m c 4 ∗ gs m c 5 ∗ gs m c 6 ∗ sl c 7 (XG m)) ⊢ Fa c xgM := by
  unfold gs
  iintro ⟨A0, A1, A2, A3, A4, A5, A6, A7⟩
  ihave A7 := (sl_Hd c 7 (XG m)) $$ A7
  ihave A0 := (Hd_An c xgM _ _ (RX m c)) $$ A0
  ihave A1 := (Hd_An c xgM _ _ (RX m c)) $$ A1
  ihave A2 := (Hd_An c xgM _ _ (RX m c)) $$ A2
  ihave A3 := (Hd_An c xgM _ _ (RX m c)) $$ A3
  ihave A4 := (Hd_An c xgM _ _ (RX m c)) $$ A4
  ihave A5 := (Hd_An c xgM _ _ (RX m c)) $$ A5
  ihave A6 := (Hd_An c xgM _ _ (RX m c)) $$ A6
  ihave A7 := (Hd_An c xgM _ _ (XG m)) $$ A7
  iapply (An_all c xgM)
  isplitl [A0]; · iexact A0
  isplitl [A1]; · iexact A1
  isplitl [A2]; · iexact A2
  isplitl [A3]; · iexact A3
  isplitl [A4]; · iexact A4
  isplitl [A5]; · iexact A5
  isplitl [A6]; · iexact A6
  iexact A7

theorem parts_back : (rnd8 c fun j => pt m c j) ⊢ Fa c tM := by
  unfold rnd8 pt
  exact (Hd_all c tM fullShare (PF m c)).trans (Hd_Fa c tM (PF m c))
theorem qs_back : (rnd8 c fun j => Qk m c j) ⊢ Fa c qM := by
  unfold rnd8 Qk
  exact (Hd_all c qM fullShare (QF m c)).trans (Hd_Fa c qM (QF m c))

/-- A device before its run -/
def Start : sProp 𝕄 := iprop(Led m K c 0 0 ∗ Fl c aX fullShare (xin m c) ∗ Wt m c ∗ Fl c aWo fullShare (wo m c) ∗ Fa c aOut
  ∗ Fa c xgM ∗ Fa c qM ∗ Fa c kM ∗ Fa c vM ∗ Fa c oM ∗ Fa c tM ∗ Fa c sbM)
/-- and after it. -/
def Done : sProp 𝕄 := iprop(Led m K c 25 44 ∗ Fl c aX fullShare (xin m c) ∗ Wt m c ∗ Fl c aWo fullShare (wo m c) ∗ Fl c aOut fullShare (OUT m c)
  ∗ Fa c xgM ∗ Fa c qM ∗ Fa c kM ∗ Fa c vM ∗ Fa c oM ∗ Fa c tM ∗ Fa c sbM)

theorem body_run {Q : PUnit → sProp 𝕄} :
    Start m c K ⊢ iprop((Done m c K -∗ Q ⟨⟩) -∗ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15) Q) := by
  rw [cc0_body_eq_skeleton]
  unfold cc0_body_skel
  rw [k0_part30_eq_skeleton]
  unfold k0_part30_skel
  simp only [Prog.bind_assoc, Prog.lift, Prog.bind_op, Prog.bind_ret, Prog.pure_eq_ret]
  unfold Start
  iintro ⟨HL, Hx, Hw, Hwo, Hy, X, Qm, Km, Vm, Ho, T, S⟩ Hc
  ihave X := (Fa_Hd c xgM) $$ X
  icases X with ⟨%f0, X⟩
  ihave X := (Hd_eight c xgM fullShare f0) $$ X
  ihave X := (handed c f0) $$ X
  icases X with ⟨Ga, Gb, X0⟩
  ihave D := (raws c) $$ [Qm Km Vm]
  · isplitl [Qm]; · iexact Qm
    isplitl [Km] <;> iassumption
  icases D with ⟨D0, D1, D2, D3, D4, D5, D6, D7⟩
  ihave T := (Fa_eight c tM) $$ T
  icases T with ⟨T0, T1, T2, T3, T4, T5, T6, T7⟩
  ihave S := (slabs c) $$ S
  icases S with ⟨S0, S1, S2, S3, S4, S5, S6⟩
  rw [wp_bind]
  iapply (p1 m c K) $$ [HL Ga Gb Hx X0]
  · isplitl [HL]; · iexact HL
    isplitl [Ga]; · iexact Ga
    isplitl [Gb]; · iexact Gb
    isplitl [Hx]; · iexact Hx
    iexact X0
  iintro %v2 %v4 %v7 ⟨HL, Gb, Ga, Hx, C0⟩
  try dsimp only
  unfold giveL giveR
  icases Ga with ⟨%fa, La0, La7, La6, La5⟩
  icases Gb with ⟨%fb, Ra0, Ra1, Ra2⟩
  ihave La0 := (hp2_rm (nxt c) (sh c 0) fa) $$ La0
  ihave La7 := (hp2_rm (nxt c) (sh c 7) fa) $$ La7
  ihave La6 := (hp2_rm (nxt c) (sh c 6) fa) $$ La6
  ihave La5 := (hp2_rm (nxt c) (sh c 5) fa) $$ La5
  ihave Ra0 := (hp2_rm (prv c) (sh c 0) fb) $$ Ra0
  ihave Ra1 := (hp2_rm (prv c) (sh c 1) fb) $$ Ra1
  ihave Ra2 := (hp2_rm (prv c) (sh c 2) fb) $$ Ra2
  ihave La0 := (show rm (F := F) (nxt c) (sh c 0) ⊢ iprop(rh (nxt c) (sh c 0) 0 ∗ rh (nxt c) (sh c 0) 1) from Entails.refl _) $$ La0
  icases La0 with ⟨La0, Lb0⟩
  ihave Ra0 := (show rm (F := F) (prv c) (sh c 0) ⊢ iprop(rh (prv c) (sh c 0) 0 ∗ rh (prv c) (sh c 0) 1) from Entails.refl _) $$ Ra0
  icases Ra0 with ⟨Ra0, Rb0⟩
  ihave C0 := (show ch m c (sh c 0) fullShare ⊢ iprop(hp c (sh c 0) 0 fullShare (XG m) ∗ hp c (sh c 0) 1 fullShare (XG m)) from Hd_hp c (sh c 0) fullShare (XG m)) $$ C0
  icases C0 with ⟨C0, E0⟩
  rw [wp_bind]
  iapply (p2 m c K) $$ [HL C0 E0 La0 Lb0 Ra0]
  · isplitl [HL]; · iexact HL
    isplitl [C0]; · iexact C0
    isplitl [E0]; · iexact E0
    isplitl [La0]; · iexact La0
    isplitl [Lb0]; · iexact Lb0
    iexact Ra0
  iintro ⟨HL, C0, E0⟩
  rw [wp_bind]
  iapply (p3 m c K) $$ [HL C0 E0 Rb0 Hw D0]
  · isplitl [HL]; · iexact HL
    isplitl [C0]; · iexact C0
    isplitl [E0]; · iexact E0
    isplitl [Rb0]; · iexact Rb0
    isplitl [Hw]; · iexact Hw
    iexact D0
  iintro %u %u' ⟨HL, C0, Hw, D0⟩
  try dsimp only
  rw [wp_bind]
  iapply (p4 m c K) $$ [HL La7]
  · isplitl [HL]; · iexact HL
    iexact La7
  iintro ⟨HL, C7⟩
  rw [wp_bind]
  iapply (p5 m c) $$ [C7 Hw D7]
  · isplitl [C7]; · iexact C7
    isplitl [Hw]; · iexact Hw
    iexact D7
  iintro %w5 ⟨C7, Hw, D7⟩
  try dsimp only
  rw [wp_bind]
  iapply (p6 m c K) $$ [HL Ra1]
  · isplitl [HL]; · iexact HL
    iexact Ra1
  iintro %w6 ⟨HL, C1⟩
  try dsimp only
  rw [wp_bind]
  iapply (p7 m c) $$ [C1 Hw D1]
  · isplitl [C1]; · iexact C1
    isplitl [Hw]; · iexact Hw
    iexact D1
  iintro %w7 ⟨C1, Hw, D1⟩
  try dsimp only
  rw [wp_bind]
  iapply (p8 m c K) $$ [HL La6]
  · isplitl [HL]; · iexact HL
    iexact La6
  iintro %w8 ⟨HL, C6⟩
  try dsimp only
  rw [wp_bind]
  iapply (p9 m c) $$ [C6 Hw D6]
  · isplitl [C6]; · iexact C6
    isplitl [Hw]; · iexact Hw
    iexact D6
  iintro %w9 ⟨C6, Hw, D6⟩
  try dsimp only
  rw [wp_bind]
  iapply (p10 m c K) $$ [HL Ra2]
  · isplitl [HL]; · iexact HL
    iexact Ra2
  iintro %w10 ⟨HL, C2⟩
  try dsimp only
  rw [wp_bind]
  iapply (p11 m c) $$ [Hw D2]
  · isplitl [Hw]; · iexact Hw
    iexact D2
  iintro %w11 ⟨Hw, D2⟩
  try dsimp only
  rw [wp_bind]
  iapply (p12 m c K) $$ [HL La5]
  · isplitl [HL]; · iexact HL
    iexact La5
  iintro %w12 ⟨HL, C5⟩
  try dsimp only
  rw [wp_bind]
  iapply (p13 m c K) $$ [HL Hw D5]
  · isplitl [HL]; · iexact HL
    isplitl [Hw]; · iexact Hw
    iexact D5
  iintro %w13 ⟨HL, Hw, D5, C3⟩
  try dsimp only
  rw [wp_bind]
  iapply (p14 m c K) $$ [HL C3 Hw D3]
  · isplitl [HL]; · iexact HL
    isplitl [C3]; · iexact C3
    isplitl [Hw]; · iexact Hw
    iexact D3
  iintro %w14 ⟨HL, C3, Hw, D3⟩
  try dsimp only
  ihave D4 := (show raw (F := F) c (sh c 4) ⊢ iprop(An c qM (256 * (sh c 4).val) 256 ∗ An c kM (256 * (sh c 4).val) 256 ∗ An c vM (256 * (sh c 4).val) 256) from Entails.refl _) $$ D4
  icases D4 with ⟨D4, Dk, Dv⟩
  rw [wp_bind]
  iapply (p15 m c K) $$ [HL Hw D4]
  · isplitl [HL]; · iexact HL
    isplitl [Hw]; · iexact Hw
    iexact D4
  iintro %w15 ⟨HL, C4, Hw, D4⟩
  try dsimp only
  rw [wp_bind]
  iapply (p16 m c K) $$ [HL Hw D4 Dk Dv]
  · isplitl [HL]; · iexact HL
    isplitl [Hw]; · iexact Hw
    isplitl [D4]; · iexact D4
    isplitl [Dk]; · iexact Dk
    iexact Dv
  iintro ⟨HL, Hw, D4, B00, B01, B70, B71⟩
  rw [wp_bind]
  iapply (p17 m c K) $$ [HL]
  · iexact HL
  iintro ⟨HL, B60, B61, B50, B51, Z0, Z1⟩
  ihave C0 := (home m c (sh c 0) (fullShare : PosShare TreeShare).right) $$ [Z0 Z1 C0]
  · isplitl [Z0]; · iexact Z0
    isplitl [Z1]; · iexact Z1
    iexact C0
  ihave C0 := (home m c (sh c 0) fullShare) $$ [B00 B01 C0]
  · isplitl [B00]; · iexact B00
    isplitl [B01]; · iexact B01
    iexact C0
  ihave C7 := (home m c (sh c 7) fullShare) $$ [B70 B71 C7]
  · isplitl [B70]; · iexact B70
    isplitl [B71]; · iexact B71
    iexact C7
  ihave C6 := (home m c (sh c 6) fullShare) $$ [B60 B61 C6]
  · isplitl [B60]; · iexact B60
    isplitl [B61]; · iexact B61
    iexact C6
  ihave C5 := (home m c (sh c 5) fullShare) $$ [B50 B51 C5]
  · isplitl [B50]; · iexact B50
    isplitl [B51]; · iexact B51
    iexact C5
  rw [wp_bind]
  iapply (p18 m c K) $$ [HL C0 C1 C2 C3 C4 C5 C6 C7]
  · isplitl [HL]; · iexact HL
    iintro ⟨B10, B11, B20, B21⟩
    ihave C1 := (home m c (sh c 1) fullShare) $$ [B10 B11 C1]
    · isplitl [B10]; · iexact B10
      isplitl [B11]; · iexact B11
      iexact C1
    ihave C2 := (home m c (sh c 2) fullShare) $$ [B20 B21 C2]
    · isplitl [B20]; · iexact B20
      isplitl [B21]; · iexact B21
      iexact C2
    iapply (slots m c)
    isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  iintro %w18 %x18 ⟨HL, X7⟩
  dsimp only
  ihave D := (dons m c) $$ [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  icases D with ⟨⟨Q0, Q1, Q2, Q3, Q4, Q5, Q6, Q7⟩, Ha⟩
  rw [wp_bind]
  iapply (p19 m c K) $$ [HL Q4 Ha Ho Hwo T4 S0]
  · isplitl [HL]; · iexact HL
    isplitl [Q4]; · iexact Q4
    isplitl [Ha]; · iexact Ha
    isplitl [Ho]; · iexact Ho
    isplitl [Hwo]; · iexact Hwo
    isplitl [T4]; · iexact T4
    iexact S0
  iintro %w19 %x19 ⟨HL, Q4, Ha, Ho, Hwo, T4, R1, R2, R3, L4, L5, L6⟩
  try dsimp only
  rw [wp_bind]
  iapply (p20 m c K) $$ [HL Q5 Ha Ho Hwo T5 S4 L4]
  · isplitl [HL]; · iexact HL
    isplitl [Q5]; · iexact Q5
    isplitl [Ha]; · iexact Ha
    isplitl [Ho]; · iexact Ho
    isplitl [Hwo]; · iexact Hwo
    isplitl [T5]; · iexact T5
    isplitl [S4]; · iexact S4
    iexact L4
  iintro ⟨HL, Q5, Ha, Ho, Hwo, T5⟩
  rw [wp_bind]
  iapply (p21 m c K) $$ [HL Q3 Ha Ho Hwo T3]
  · isplitl [HL]; · iexact HL
    isplitl [Q3]; · iexact Q3
    isplitl [Ha]; · iexact Ha
    isplitl [Ho]; · iexact Ho
    isplitl [Hwo]; · iexact Hwo
    iexact T3
  iintro ⟨HL, Q3, Ha, Ho, Hwo, T3, G0⟩
  rw [wp_bind]
  iapply (p22 m c K) $$ [HL Q6 Ha Ho Hwo T6 S1 R1]
  · isplitl [HL]; · iexact HL
    isplitl [Q6]; · iexact Q6
    isplitl [Ha]; · iexact Ha
    isplitl [Ho]; · iexact Ho
    isplitl [Hwo]; · iexact Hwo
    isplitl [T6]; · iexact T6
    isplitl [S1]; · iexact S1
    iexact R1
  iintro %w22 %x22 ⟨HL, Q6, Ha, Ho, Hwo, T6⟩
  try dsimp only
  rw [wp_bind]
  iapply (p23 m c K) $$ [HL T6 S5 L5]
  · isplitl [HL]; · iexact HL
    isplitl [T6]; · iexact T6
    isplitl [S5]; · iexact S5
    iexact L5
  iintro %w23 %x23 ⟨HL, T6, G4⟩
  try dsimp only
  rw [wp_bind]
  iapply (p24 m c K) $$ [HL Q2 Ha Ho Hwo T2 S2]
  · isplitl [HL]; · iexact HL
    isplitl [Q2]; · iexact Q2
    isplitl [Ha]; · iexact Ha
    isplitl [Ho]; · iexact Ho
    isplitl [Hwo]; · iexact Hwo
    isplitl [T2]; · iexact T2
    iexact S2
  iintro %w24 ⟨HL, Q2, Ha, Ho, Hwo, T2, G1, S2⟩
  try dsimp only
  rw [wp_bind]
  iapply (p25 m c K) $$ [HL Q7 Ha Ho Hwo T7 S2 R2]
  · isplitl [HL]; · iexact HL
    isplitl [Q7]; · iexact Q7
    isplitl [Ha]; · iexact Ha
    isplitl [Ho]; · iexact Ho
    isplitl [Hwo]; · iexact Hwo
    isplitl [T7]; · iexact T7
    isplitl [S2]; · iexact S2
    iexact R2
  iintro %w25 ⟨HL, Q7, Ha, Ho, Hwo, T7⟩
  try dsimp only
  rw [wp_bind]
  iapply (p26 m c K) $$ [HL Q1 Ha Ho T7 S6 L6]
  · isplitl [HL]; · iexact HL
    isplitl [Q1]; · iexact Q1
    isplitl [Ha]; · iexact Ha
    isplitl [Ho]; · iexact Ho
    isplitl [T7]; · iexact T7
    isplitl [S6]; · iexact S6
    iexact L6
  iintro %w26 %x26 ⟨HL, Q1, Ha, Ho, T7, G5⟩
  try dsimp only
  rw [wp_bind]
  iapply (p27 m c K) $$ [HL Hwo T1 S3]
  · isplitl [HL]; · iexact HL
    isplitl [Hwo]; · iexact Hwo
    isplitl [T1]; · iexact T1
    iexact S3
  iintro ⟨HL, Hwo, T1, G2, S3⟩
  rw [wp_bind]
  iapply (p28 m c K) $$ [HL Q0 Ha Ho Hwo T0 S3 R3]
  · isplitl [HL]; · iexact HL
    isplitl [Q0]; · iexact Q0
    isplitl [Ha]; · iexact Ha
    isplitl [Ho]; · iexact Ho
    isplitl [Hwo]; · iexact Hwo
    isplitl [T0]; · iexact T0
    isplitl [S3]; · iexact S3
    iexact R3
  iintro ⟨HL, Q0, Ha, Ho, Hwo, T0, G3⟩
  rw [wp_bind]
  iapply (p29 m c K) $$ [HL T0 G3 Hy]
  · isplitl [HL]; · iexact HL
    isplitl [T0]; · iexact T0
    isplitl [G3]; · iexact G3
    iexact Hy
  iintro ⟨HL, T0, G3, G6, Hy, S0, S1⟩
  iapply (wait_dma m c K 39 25 39 40 (by decide) (P := sb c 2 (SF m c)) rfl (show csem 39 = .dma (36 : DmaSem sig) from rfl) (slab_tot 39 (by decide))) $$ HL
  iintro ⟨HL, S2⟩
  iapply (wait_dma m c K 40 25 40 41 (by decide) (P := sb c 3 (SF m c)) rfl (show csem 40 = .dma (37 : DmaSem sig) from rfl) (slab_tot 40 (by decide))) $$ HL
  iintro ⟨HL, S3⟩
  iapply (wait_dma m c K 41 25 41 42 (by decide) (P := sb c 4 (SF m c)) rfl (show csem 41 = .dma (42 : DmaSem sig) from rfl) (slab_tot 41 (by decide))) $$ HL
  iintro ⟨HL, S4⟩
  iapply (wait_dma m c K 42 25 42 43 (by decide) (P := sb c 5 (SF m c)) rfl (show csem 42 = .dma (43 : DmaSem sig) from rfl) (slab_tot 42 (by decide))) $$ HL
  iintro ⟨HL, S5⟩
  iapply (wait_dma m c K 43 25 43 44 (by decide) (P := sb c 6 (SF m c)) rfl (show csem 43 = .dma (44 : DmaSem sig) from rfl) (slab_tot 43 (by decide))) $$ HL
  iintro ⟨HL, S6⟩
  rw [wp_ret]
  imodintro
  iapply Hc
  unfold Done
  ihave S := (slabs_back m c) $$ [S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    iexact S6
  ihave X := (slots_back m c) $$ [G0 G1 G2 G3 G4 G5 G6 X7]
  · isplitl [G0]; · iexact G0
    isplitl [G1]; · iexact G1
    isplitl [G2]; · iexact G2
    isplitl [G3]; · iexact G3
    isplitl [G4]; · iexact G4
    isplitl [G5]; · iexact G5
    isplitl [G6]; · iexact G6
    iexact X7
  ihave T := (parts_back m c) $$ [T0 T1 T2 T3 T4 T5 T6 T7]
  · isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  ihave Qm := (qs_back m c) $$ [Q0 Q1 Q2 Q3 Q4 Q5 Q6 Q7]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    iexact Q7
  ihave Ha := (show At m c ⊢ iprop(Hd c kM 0 2048 fullShare (KF m c) ∗ Hd c vM 0 2048 fullShare (VF m c)) from Entails.refl _) $$ Ha
  icases Ha with ⟨Km, Vm⟩
  ihave Km := (Hd_Fa c kM (KF m c)) $$ Km
  ihave Vm := (Hd_Fa c vM (VF m c)) $$ Vm
  isplitl [HL]; · iexact HL
  isplitl [Hx]; · iexact Hx
  isplitl [Hw]; · iexact Hw
  isplitl [Hwo]; · iexact Hwo
  isplitl [Hy]; · iexact Hy
  isplitl [X]; · iexact X
  isplitl [Qm]; · iexact Qm
  isplitl [Km]; · iexact Km
  isplitl [Vm]; · iexact Vm
  isplitl [Ho]; · iexact Ho
  isplitl [T]; · iexact T
  iexact S

end Cert.KernelIdeal.Run

end
-- ==== Proof.Ideal.Launch.lean ====
module

public import proofs.«01_k».proof.Proof.Ideal.Body
public import Idealize.ShloMosaic.Lib.Pipeline.ValueKit
public import Idealize.ShloMosaic.Lib.Pipeline.CollectiveSegs
public import Idealize.ShloMosaic.Lib.Quiescent

/-! The launch: every device's share of the protocol's ghost state, and the run from any memory. -/

@[expose] public section

set_option maxRecDepth 8192

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The tokens -/

/-- A payment's token, at the cell it goes to; -/
def payTok (x : Dev nD × Fin 25) : GSem nD τ sig × ℕ × Bool := (kcell (tgt x.1 x.2, tix x.2), 0, tbit x.2)
/-- a transfer's own. -/
def sendTok (x : Dev nD × {p : Fin 25 // own p ≠ 0}) : GSem nD τ sig × ℕ × Bool := (kcell (x.1, own x.2.1), 0, false)

theorem tgt_injective (p : Fin 25) : Function.Injective fun c : Dev nD => tgt c p := by
  intro a b h
  unfold tgt at h
  dsimp only at h
  split at h
  · exact ring.injective h
  · exact ring.symm.injective h

theorem tix_tbit : ∀ p q : Fin 25, tix p = tix q → tbit p = tbit q → p = q := by decide
theorem own_inj : ∀ p q : Fin 25, own p ≠ 0 → own p = own q → p = q := by decide
theorem own_ne_tix : ∀ p q : Fin 25, own p ≠ 0 → tix q ≠ own p := by decide

theorem payTok_injective : Function.Injective payTok := by
  rintro ⟨c, p⟩ ⟨d, q⟩ h
  have h1 := kcell_injective (congrArg (fun x : GSem nD τ sig × ℕ × Bool => x.1) h)
  have h2 : tbit p = tbit q := congrArg (fun x : GSem nD τ sig × ℕ × Bool => x.2.2) h
  obtain rfl := tix_tbit p q (congrArg Prod.snd h1) h2
  exact Prod.ext (tgt_injective p (congrArg Prod.fst h1)) rfl

theorem sendTok_injective : Function.Injective sendTok := by
  rintro ⟨c, p, hp⟩ ⟨d, q, hq⟩ h
  have h1 := kcell_injective (congrArg (fun x : GSem nD τ sig × ℕ × Bool => x.1) h)
  have h2 : c = d := congrArg Prod.fst h1
  subst h2
  obtain rfl := own_inj p q hp (congrArg Prod.snd h1)
  rfl

def payToks : Finset (GSem nD τ sig × ℕ × Bool) := Finset.univ.map ⟨payTok, payTok_injective⟩
def sendToks : Finset (GSem nD τ sig × ℕ × Bool) := Finset.univ.map ⟨sendTok, sendTok_injective⟩
def ringCells : Finset (GSem nD τ sig) := Finset.univ.map ⟨kcell, kcell_injective⟩
def ringToks : Finset (GSem nD τ sig × ℕ × Bool) := payToks ∪ sendToks

theorem toks_disjoint : Disjoint payToks sendToks := by
  rw [Finset.disjoint_left]
  intro t h1 h2
  unfold payToks at h1
  unfold sendToks at h2
  obtain ⟨⟨c, p⟩, _, rfl⟩ := Finset.mem_map.mp h1
  obtain ⟨⟨d, q, hq⟩, _, h⟩ := Finset.mem_map.mp h2
  have h1 := kcell_injective (congrArg (fun x : GSem nD τ sig × ℕ × Bool => x.1) h)
  exact own_ne_tix q p hq (congrArg Prod.snd h1).symm

/-- The launch's element. -/
def u₀ : UU :=
  (initOf (Pipeline.cells cfgs cellOf_inj) (Pipeline.launchToks cfgs cellOf_inj), initOf ringCells ringToks)

/-- The tokens of the duties device `c` pays. -/
def toks (c : Dev nD) : sProp 𝕄 :=
  iprop((bigSep (paysFrom 0) fun p => dutyTok ER (kcell (tgt c p, tix p)) 0 (tbit p))
    ∗ (bigSep (sendsFrom 0) fun p => dutyTok ER (kcell (c, own p)) 0 false))

theorem paysFrom_zero : paysFrom 0 = Finset.univ := by decide
theorem waitsFrom_zero : waitsFrom 0 = Finset.univ := by decide
theorem closedTo_zero : closedTo 0 = ∅ := by decide
theorem closedTo_last : closedTo 44 = Finset.univ := by decide

theorem ringToks_eq : bigSep ringToks (fun x => (dutyTok ER x.1 x.2.1 x.2.2 : sProp 𝕄)) = bigSep Finset.univ fun c : Dev nD => toks c := by
  unfold ringToks toks
  rw [bigSep_union toks_disjoint, bigSep_sep']
  congr 1
  · unfold payToks
    rw [bigSep_map, bigSep_univ_prod, paysFrom_zero]
    rfl
  · unfold sendToks
    rw [bigSep_map, bigSep_univ_prod]
    refine bigSep_congr fun c _ => ?_
    have h : sendsFrom 0 = Finset.univ.filter fun p : Fin 25 => own p ≠ 0 := by decide
    rw [h]
    exact BI.bigSep_subtype (fun p : Fin 25 => own p ≠ 0) fun p => (dutyTok ER (kcell (c, own p)) 0 false : sProp 𝕄)

/-- What the launch's element deals device `c`, -/
def G (c : Dev nD) : sProp 𝕄 :=
  iprop((bigSep Finset.univ fun i : Fin 44 => roundState ER (Rd m) (kcell (c, i)) 0)
    ∗ ((bigSep Finset.univ fun i : Fin 44 => atPos ER (kcell (c, i)) 0 ∅ 0) ∗ bigSep Finset.univ fun i : Fin 44 => reached ER (kcell (c, i)) 0) ∗ toks c)

/-- and what the cells' opening makes of it. -/
def G' (c : Dev nD) : sProp 𝕄 :=
  iprop(∃ K, records m K ∗ (bigSep (waitsFrom 0) fun i => atPos ER (kcell (c, i)) 0 ∅ 0) ∗ toks c)

theorem by_cell (Φ : GSem nD τ sig → sProp 𝕄) :
    bigSep ringCells Φ = bigSep Finset.univ fun c : Dev nD => bigSep Finset.univ fun i : Fin 44 => Φ (kcell (c, i)) := by
  unfold ringCells; rw [bigSep_map, bigSep_univ_prod]; rfl

theorem fund_ring : BI.own (ER (initOf ringCells ringToks)) ⊢ (|==> bigSep Finset.univ (G m) : sProp 𝕄) := by
  iintro H
  imod (Rounds.fund ER (Rd m) ringCells ringToks) $$ H with ⟨Hs, Hr, Ha, Ht⟩
  imodintro
  unfold G
  simp only [bigSep_sep']
  ihave Hs := (Entails.of_eq (by_cell fun g => (roundState ER (Rd m) g 0 : sProp 𝕄))) $$ Hs
  ihave Ha := (Entails.of_eq (by_cell fun g => (atPos ER g 0 ∅ 0 : sProp 𝕄))) $$ Ha
  ihave Hr := (Entails.of_eq (by_cell fun g => (reached ER g 0 : sProp 𝕄))) $$ Hr
  ihave Ht := (Entails.of_eq (ringToks_eq (F := F))) $$ Ht
  isplitl [Hs]; · iexact Hs
  isplitl [Ha Hr]
  · isplitl [Ha] <;> iassumption
  iexact Ht

/-! ## The semaphores -/

/-- The kernel's own: every cell's but the first. -/
def osem (i : Fin 43) : SemLoc sig := csem i.succ

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = bigSep Finset.univ fun i : Fin 43 => semVal (kcell (c, i.succ)) 0 := by
  unfold Pipeline.ownSems0; rfl
theorem unscopedSems0_eq (c : Dev nD) : (unscopedSems0 c : sProp 𝕄) = semVal (kcell (c, 0)) 0 := by
  unfold unscopedSems0; rw [bigSep_eq_bigSepL_of_eq [csem 0] (by decide) (by decide)]; rfl

theorem sems0_eq (c : Dev nD) :
    (bigSep Finset.univ fun i : Fin 44 => semVal (kcell (c, i)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, Fin.univ_succ, Finset.cons_eq_insert, bigSep_ins (by simp), bigSep_map]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (Rd m) κ (kcell (c, i))))
          ∗ ((bigSep Finset.univ fun i : Fin 44 => atPos ER (kcell (c, i)) 0 ∅ 0) ∗ bigSep Finset.univ fun i : Fin 44 => reached ER (kcell (c, i)) 0) ∗ toks c) := by
  unfold G
  iintro ⟨Ho, Hu, Hs, Ha, Ht⟩
  ihave Hv := (Entails.of_eq (sems0_eq (F := F) c).symm) $$ [Ho Hu]
  · isplitl [Hu] <;> iassumption
  imod (show iprop((bigSep Finset.univ fun i : Fin 44 => semVal (kcell (c, i)) 0) ∗ bigSep Finset.univ fun i : Fin 44 => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hs] with Hi
  · isplitl [Hv] <;> iassumption
  imodintro
  isplitl [Hi]; · iexact Hi
  isplitl [Ha]; · iexact Ha
  iexact Ht

theorem regroup :
    (bigSep Finset.univ fun c : Dev nD => iprop((bigSep Finset.univ fun i => iprop(∃ κ : ℕ, cellInv ER (Rd m) κ (kcell (c, i))))
          ∗ ((bigSep Finset.univ fun i : Fin 44 => atPos ER (kcell (c, i)) 0 ∅ 0) ∗ bigSep Finset.univ fun i : Fin 44 => reached ER (kcell (c, i)) 0) ∗ toks c) : sProp 𝕄)
      ⊢ bigSep Finset.univ (G' m) := by
  rw [bigSep_sep', bigSep_sep', bigSep_sep', ← bigSep_univ_prod (fun x : Dev nD × Fin 44 => iprop(∃ κ : ℕ, cellInv ER (Rd m) κ (kcell x))),
    ← bigSep_univ_prod (fun x : Dev nD × Fin 44 => (reached ER (kcell x) 0 : sProp 𝕄))]
  iintro ⟨HI, ⟨Ha, #HR⟩, Ht⟩
  ihave HK := (BI.bigSep_exists_pi Finset.univ (fun (x : Dev nD × Fin 44) (κ : ℕ) => (cellInv ER (Rd m) κ (kcell x) : sProp 𝕄))) $$ HI
  icases HK with ⟨%K, #HI⟩
  iapply (BI.bigSep_with_persistent (R := records m K)
    (Φ := fun c : Dev nD => iprop((bigSep Finset.univ fun i : Fin 44 => atPos ER (kcell (c, i)) 0 ∅ 0) ∗ toks c)) fun c _ => by
      unfold G'
      rw [waitsFrom_zero]
      iintro ⟨H1, H2, H3⟩
      iexists K
      isplitl [H1]; · iexact H1
      isplitl [H2] <;> iassumption)
  isplitr
  · unfold records; isplitl; · iexact HI
    iexact HR
  · rw [bigSep_sep']
    isplitl [Ha] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what the devices owe each other -/

def O₀ (c : Dev nD) : CellTallies nD τ sig Unit := owed c 0

theorem tix_card : ∀ i ∈ credAt 0 0, (Finset.univ.filter fun p : Fin 25 => tix p = i).card * (if i = 0 ∨ i = 29 then 1 else 2) = 2 := by decide

theorem card_amt (i : Fin 44) (hi : i ∈ credAt 0 0) : (Finset.univ.filter fun p : Fin 25 => tix p = i).card * amt i = tot i := by
  have h := tix_card i hi
  unfold tot
  by_cases h' : i = 0 ∨ i = 29
  · rw [if_pos h'] at h ⊢
    unfold amt
    rw [if_pos h']
    exact h
  · rw [if_neg h'] at h ⊢
    rw [show (Finset.univ.filter fun p : Fin 25 => tix p = i).card = 1 by omega, Nat.one_mul]

/-- The device payment `p` to `c` comes from. -/
theorem tgt_surj (p : Fin 25) (c : Dev nD) : ∃ d : Dev nD, tgt d p = c := by
  unfold tgt
  by_cases h : rt p = true
  · exact ⟨prv c, by rw [if_pos h, nxt_prv]⟩
  · exact ⟨nxt c, by rw [if_neg h, prv_nxt]⟩

theorem due_sum (p : Fin 25) (c : Dev nD) (i : Fin 44) :
    (∑ d : Dev nD, due d p (kcell (c, i)) ()) = if tix p = i then amt i else 0 := by
  obtain ⟨d₀, hd⟩ := tgt_surj p c
  rw [Finset.sum_eq_single d₀]
  · rw [tallyAt_apply, hd]
    by_cases h : tix p = i
    · subst h; rw [if_pos ⟨rfl, rfl⟩, if_pos rfl]
    · rw [if_neg h, if_neg]
      rintro ⟨h', _⟩
      exact h (congrArg Prod.snd (kcell_injective h')).symm
  · intro d _ hne
    rw [tallyAt_apply, if_neg]
    rintro ⟨h', _⟩
    exact hne (tgt_injective p ((congrArg Prod.fst (kcell_injective h')).symm.trans hd.symm))
  · intro h; exact absurd (Finset.mem_univ _) h

theorem owed_sum (c : Dev nD) (i : Fin 44) (hi : i ∈ credAt 0 0) : (∑ d : Dev nD, O₀ d (kcell (c, i)) ()) = tot i := by
  have h : ∀ d : Dev nD, O₀ d (kcell (c, i)) () = ∑ p : Fin 25, due d p (kcell (c, i)) () := fun d => by
    unfold O₀ owed
    rw [paysFrom_zero, Finset.sum_apply, Finsupp.finset_sum_apply]
  rw [Finset.sum_congr rfl fun d _ => h d, Finset.sum_comm, Finset.sum_congr rfl fun p _ => due_sum p c i,
    ← Finset.sum_filter, Finset.sum_const, smul_eq_mul, card_amt i hi]

theorem launch_cell (c : Dev nD) (i : Fin 44) (hi : i ∈ credAt 0 0) :
    tallyOn (kcell (c, i)) (launchCredit (Pipeline.owing O₀) 0 (kcell (c, i))) = (tallyAt (kcell (c, i)) () (tot i) : CellTallies nD τ sig Unit) := by
  unfold tallyAt; refine congrArg _ (Finsupp.ext fun u => ?_); cases u
  rw [Pipeline.launchCredit_owing, Finsupp.single_eq_same, owed_sum c i hi]

theorem creds (c : Dev nD) :
    (Pipeline.launchCred O₀ c : sProp 𝕄) ⊢ bigSep (credAt 0 0) fun i => cred (tallyAt (kcell (c, i)) () (tot i)) := by
  unfold Pipeline.launchCred
  refine (BI.bigSep_subset (Finset.subset_univ ((credAt 0 0).map ⟨csem, csem_injective⟩))).trans ?_
  rw [bigSep_map]
  exact bigSep_mono fun i hi => Entails.of_eq (congrArg cred (launch_cell c i hi))

/-! ## The proof data -/

/-- What device `c`'s body starts from, but what it owes: -/
def begins (c : Dev nD) : sProp 𝕄 :=
  iprop(G' m c ∗ levAts L lv ∗ bigSep (credAt 0 0) fun i => cred (tallyAt (kcell (c, i)) () (tot i)))
/-- the scratch buffers, at any contents. -/
def scratch (c : Dev nD) : sProp 𝕄 :=
  iprop(Fa (F := F) c xgM ∗ Fa (F := F) c qM ∗ Fa (F := F) c kM ∗ Fa (F := F) c vM ∗ Fa (F := F) c oM ∗ Fa (F := F) c tM ∗ Fa (F := F) c sbM)

theorem scratch_eq (c : Dev nD) : (Pipeline.scopedRest cfg0.spec c : sProp 𝕄) = scratch (F := F) c := by
  rw [show (cfg0.spec) = spec0 from rfl, scopedRest0_eq]
  unfold scratch Fa
  simp only [Memref.view_whole, View.set_whole]

def Φ₀ (c : Dev nD) : sProp 𝕄 := iprop(begins m c ∗ scratch (F := F) c)
def Φ₁ (c : Dev nD) : sProp 𝕄 := iprop((bigSep Finset.univ fun i : Fin 44 => semVal (kcell (c, i)) 0) ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => wq m c
    | ⟨2, _⟩ => wo m c
    | ⟨3, _⟩ => wk m c
    | ⟨4, _⟩ => wv m c
    | ⟨5, _⟩ => OUT m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem owns_eq (c : Dev nD) {sp : Space} {s : Shape} {e : EltTy} (M : Memref sig .tc sp s e) (X : s.Idx → Elt F e) :
    (owns (Ix := Unit) (Name := ℕ) (U := UU) (Lvl := ℕ) (c : Thread nD τ) M fullShare X : sProp 𝕄)
      = iprop(∃ f : Buf (Elt F) (M.view.loc (c : Thread nD τ)), ⌜M.view.read (Elt F) f = X⌝ ∗ (M.view.loc (c : Thread nD τ) ↦[M.view.set]{fullShare} f)) := by
  unfold owns; rfl

theorem blk_0 (y : ((cfg0.win 0).xblock (cfg0.grid.coords t0_0)).Idx) : ((cfg0.win 0).blk t0_0).view.emb y = y :=
  funext fun a => Fin.ext (Pipeline.Window.rect_emb_val_of_index_zero (cfg0.win 0) t0_0 a ((by decide : ∀ a : Fin 2, win0_0.index t0_0 a = 0) a) y)
theorem before_0 (c : Dev nD) (d) : (dats m ρ 0 c).before (0 : Fin 6) t0_0 d = xin m c := by
  unfold Dat.before; rw [if_pos (fetch0_0 _)]
  funext y
  exact congrArg (xin m c) (blk_0 y)
theorem blk_1 (y : ((cfg0.win 1).xblock (cfg0.grid.coords t0_0)).Idx) : ((cfg0.win 1).blk t0_0).view.emb y = y :=
  funext fun a => Fin.ext (Pipeline.Window.rect_emb_val_of_index_zero (cfg0.win 1) t0_0 a ((by decide : ∀ a : Fin 2, win0_1.index t0_0 a = 0) a) y)
theorem before_1 (c : Dev nD) (d) : (dats m ρ 0 c).before (1 : Fin 6) t0_0 d = wq m c := by
  unfold Dat.before; rw [if_pos (fetch0_1 _)]
  funext y
  exact congrArg (wq m c) (blk_1 y)
theorem blk_2 (y : ((cfg0.win 2).xblock (cfg0.grid.coords t0_0)).Idx) : ((cfg0.win 2).blk t0_0).view.emb y = y :=
  funext fun a => Fin.ext (Pipeline.Window.rect_emb_val_of_index_zero (cfg0.win 2) t0_0 a ((by decide : ∀ a : Fin 2, win0_2.index t0_0 a = 0) a) y)
theorem before_2 (c : Dev nD) (d) : (dats m ρ 0 c).before (2 : Fin 6) t0_0 d = wo m c := by
  unfold Dat.before; rw [if_pos (fetch0_2 _)]
  funext y
  exact congrArg (wo m c) (blk_2 y)
theorem blk_3 (y : ((cfg0.win 3).xblock (cfg0.grid.coords t0_0)).Idx) : ((cfg0.win 3).blk t0_0).view.emb y = y :=
  funext fun a => Fin.ext (Pipeline.Window.rect_emb_val_of_index_zero (cfg0.win 3) t0_0 a ((by decide : ∀ a : Fin 2, win0_3.index t0_0 a = 0) a) y)
theorem before_3 (c : Dev nD) (d) : (dats m ρ 0 c).before (3 : Fin 6) t0_0 d = wk m c := by
  unfold Dat.before; rw [if_pos (fetch0_3 _)]
  funext y
  exact congrArg (wk m c) (blk_3 y)
theorem blk_4 (y : ((cfg0.win 4).xblock (cfg0.grid.coords t0_0)).Idx) : ((cfg0.win 4).blk t0_0).view.emb y = y :=
  funext fun a => Fin.ext (Pipeline.Window.rect_emb_val_of_index_zero (cfg0.win 4) t0_0 a ((by decide : ∀ a : Fin 2, win0_4.index t0_0 a = 0) a) y)
theorem before_4 (c : Dev nD) (d) : (dats m ρ 0 c).before (4 : Fin 6) t0_0 d = wv m c := by
  unfold Dat.before; rw [if_pos (fetch0_4 _)]
  funext y
  exact congrArg (wv m c) (blk_4 y)

/-! ## The body's obligation -/

def bodyPre (c : Dev nD) : sProp 𝕄 :=
  iprop(Φ₀ m c ∗ (dats m ρ 0 c).owesAt () t0_0.castSucc
    ∗ (∃ d, Fl c aX fullShare ((dats m ρ 0 c).before (0 : Fin 6) t0_0 d))
    ∗ (∃ d, Fl c aWq fullShare ((dats m ρ 0 c).before (1 : Fin 6) t0_0 d))
    ∗ (∃ d, Fl c aWo fullShare ((dats m ρ 0 c).before (2 : Fin 6) t0_0 d))
    ∗ (∃ d, Fl c aWk fullShare ((dats m ρ 0 c).before (3 : Fin 6) t0_0 d))
    ∗ (∃ d, Fl c aWv fullShare ((dats m ρ 0 c).before (4 : Fin 6) t0_0 d))
    ∗ (∃ d, Fl c aOut fullShare ((dats m ρ 0 c).before (5 : Fin 6) t0_0 d)))

def bodyPost (c : Dev nD) : sProp 𝕄 :=
  iprop(Φ₁ (F := F) c ∗ (dats m ρ 0 c).owesAt () t0_0.succ
    ∗ Fl c aX fullShare (xin m c) ∗ Fl c aWq fullShare (wq m c) ∗ Fl c aWo fullShare (wo m c)
    ∗ Fl c aWk fullShare (wk m c) ∗ Fl c aWv fullShare (wv m c) ∗ Fl c aOut fullShare (OUT m c))

theorem led_intro (K : Dev nD × Fin 44 → ℕ) (c : Dev nD) (W : Waits sig Unit) :
    iprop(records m K ∗ (bigSep (waitsFrom 0) fun i => atPos ER (kcell (c, i)) 0 ∅ 0) ∗ toks c ∗ levAts L lv
      ∗ (bigSep (credAt 0 0) fun i => cred (tallyAt (kcell (c, i)) () (tot i))) ∗ owes (c : Thread nD τ) (owed c 0) W) ⊢ Led m K c 0 0 := by
  unfold Led toks
  iintro ⟨H1, H2, ⟨H3, H4⟩, H5, H6, H7⟩
  iexists W
  isplitl [H1]; · iexact H1
  isplitl [H5]; · iexact H5
  isplitl [H7]; · iexact H7
  isplitl [H3]; · iexact H3
  isplitl [H4]; · iexact H4
  isplitl [H2]; · iexact H2
  isplitl [H6]; · iexact H6
  rw [closedTo_zero, BI.bigSep_empty]
  iempintro

theorem led_done (K : Dev nD × Fin 44 → ℕ) (c : Dev nD) :
    Led m K c 25 44 ⊢ iprop((bigSep Finset.univ fun i : Fin 44 => semVal (kcell (c, i)) 0) ∗ ∃ W, owes (c : Thread nD τ) 0 W) := by
  unfold Led
  rw [owed_done, closedTo_last]
  iintro ⟨%W, -, -, H, -, -, -, -, Hz⟩
  isplitl [Hz]; · iexact Hz
  iexists W; iexact H

theorem body_obligation (c : Dev nD) : BodyObligation (dats (F := F) m ρ 0 c) (defs₀ (F := F)) 𝒱₀ () Set.univ := fun t => by
  rw [fin_N0 t, bigSep_W0, bigSep_W0]
  simp only [owns_eq]
  show bodyPre m ρ c ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15) (fun _ => bodyPost m ρ c)
  unfold bodyPre Φ₀ begins G' scratch Dat.owesAt Pipeline.owesWithin
  iintro ⟨⟨⟨⟨%K, HR, HA, HT⟩, HV, HC⟩, X, Qm, Km, Vm, Om, Tm, Sm⟩, ⟨%W, %hW, HO⟩, ⟨%d0, H0⟩, ⟨%d1, H1⟩, ⟨%d2, H2⟩, ⟨%d3, H3⟩, ⟨%d4, H4⟩, ⟨%d5, H5⟩⟩
  ihave HO := (show owes (c : Thread nD τ) ((dats m ρ 0 c).owed t0_0.castSucc) W ⊢ (owes (c : Thread nD τ) (owed c 0) W : sProp 𝕄) from Entails.refl _) $$ HO
  ihave H0 := (Entails.of_eq (congrArg (Fl c aX fullShare) (before_0 m ρ c d0))) $$ H0
  ihave H1 := (Entails.of_eq (congrArg (Fl c aWq fullShare) (before_1 m ρ c d1))) $$ H1
  ihave H2 := (Entails.of_eq (congrArg (Fl c aWo fullShare) (before_2 m ρ c d2))) $$ H2
  ihave H3 := (Entails.of_eq (congrArg (Fl c aWk fullShare) (before_3 m ρ c d3))) $$ H3
  ihave H4 := (Entails.of_eq (congrArg (Fl c aWv fullShare) (before_4 m ρ c d4))) $$ H4
  ihave H5 := (Fl_Fa c aOut _) $$ H5
  ihave HL := (led_intro m K c W) $$ [HR HA HT HV HC HO]
  · isplitl [HR]; · iexact HR
    isplitl [HA]; · iexact HA
    isplitl [HT]; · iexact HT
    isplitl [HV]; · iexact HV
    isplitl [HC]; · iexact HC
    iexact HO
  iapply (body_run m c K (Q := fun _ => bodyPost m ρ c)) $$ [HL H0 H1 H2 H3 H4 H5 X Qm Km Vm Om Tm Sm]
  · unfold Start Wt
    isplitl [HL]; · iexact HL
    isplitl [H0]; · iexact H0
    isplitl [H1 H3 H4]
    · isplitl [H1]; · iexact H1
      isplitl [H3] <;> iassumption
    isplitl [H2]; · iexact H2
    isplitl [H5]; · iexact H5
    isplitl [X]; · iexact X
    isplitl [Qm]; · iexact Qm
    isplitl [Km]; · iexact Km
    isplitl [Vm]; · iexact Vm
    isplitl [Om]; · iexact Om
    isplitl [Tm] <;> iassumption
  unfold Done Wt bodyPost Φ₁ scratch Dat.owesAt Pipeline.owesWithin
  iintro ⟨HL, H0, ⟨H1, H3, H4⟩, H2, H5, HS⟩
  ihave HL := (led_done m K c) $$ HL
  icases HL with ⟨Hz, %W', HO⟩
  isplitl [Hz HS]
  · isplitl [Hz] <;> iassumption
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4] <;> iassumption

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(begins m c ∗ emp) := by
  iintro ⟨-, HV, HC, -, HG⟩
  ihave HC := (creds (F := F) c) $$ HC
  imodintro
  unfold begins
  isplitl
  · isplitl [HG]; · iexact HG
    isplitl [HV] <;> iassumption
  · iempintro

theorem phi0_intro (c : Dev nD) :
    iprop(begins m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨H1, -, H2⟩
  isplitl [H1] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scratch_eq]
  unfold Φ₁
  rw [sems0_eq]
  iintro ⟨⟨H1, H2⟩, H3⟩
  isplitl [H1]; · iexact H1
  isplitl [H2] <;> iassumption

theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), .dma (((cfgs 0).win w).sem s)) () ≤ 0 := by
      have h : cix (.dma (((cfgs 0).win w).sem s)) = none := by
        unfold cix Function.partialInv
        refine dif_neg ?_
        rintro ⟨i, hi⟩
        revert i; revert w s; decide
      unfold lv
      rw [h]
    rcases t with ⟨_ | _, ht⟩
    · exact mayWait_of c _ 0 0 hlv (by decide)
    · have := mayWait_of (F := F) c (.dma (((cfgs 0).win w).sem s)) 25 0 hlv (by decide)
      rw [owed_done] at this
      exact this

def finalA (c : Dev nD) (w : Fin cfg0.W) : Buf (Elt F) ((cfg0.win w).arr.view.loc (c : Thread nD τ)) := (dats m ρ 0 c).arrAt w cfg0.N

/-- Every window's array after the run. -/
def Ends : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := begins m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_0 (c : Dev nD) : finalA m ρ c (0 : Fin 6) = xin m c := (dats (F := F) m ρ 0 c).arrAt_in (0 : Fin 6) rfl _
theorem finalA_1 (c : Dev nD) : finalA m ρ c (1 : Fin 6) = wq m c := (dats (F := F) m ρ 0 c).arrAt_in (1 : Fin 6) rfl _
theorem finalA_2 (c : Dev nD) : finalA m ρ c (2 : Fin 6) = wo m c := (dats (F := F) m ρ 0 c).arrAt_in (2 : Fin 6) rfl _
theorem finalA_3 (c : Dev nD) : finalA m ρ c (3 : Fin 6) = wk m c := (dats (F := F) m ρ 0 c).arrAt_in (3 : Fin 6) rfl _
theorem finalA_4 (c : Dev nD) : finalA m ρ c (4 : Fin 6) = wv m c := (dats (F := F) m ρ 0 c).arrAt_in (4 : Fin 6) rfl _

theorem finalA_5 (c : Dev nD) : finalA m ρ c (5 : Fin 6) = OUT m c :=
  (dats (F := F) m ρ 0 c).arrAt_eq_of_after_last (5 : Fin 6) t0_0 (by decide +kernel) (OUT m c) fun j => rfl

/-- Every run's end: the arguments as they were, the result, every counter zero. -/
theorem run_end : θ_run defs (onTc (τ := τ) (main (F := F))) ⟨m, fun _ => 0, ρ⟩ (fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v1) = OUT m c)
    ∧ r.2.sem = fun _ => 0) :=
  (θ_run defs _ _).mono (fun _ h => ⟨fun c => ⟨⟨(h.1 c (0 : Fin 6)).trans (finalA_0 m ρ c), (h.1 c (1 : Fin 6)).trans (finalA_1 m ρ c),
    (h.1 c (3 : Fin 6)).trans (finalA_3 m ρ c), (h.1 c (4 : Fin 6)).trans (finalA_4 m ρ c), (h.1 c (2 : Fin 6)).trans (finalA_2 m ρ c)⟩,
    (h.1 c (5 : Fin 6)).trans (finalA_5 m ρ c)⟩, h.2⟩) (run_main m ρ)

end Cert.KernelIdeal.Run

end
-- ==== Proof.Value.Pre.lean ====
module

public import proofs.«01_k».proof.Defs
public import Idealize.ShloMosaic.Lib.Pointwise
public import Idealize.ShloMosaic.Lib.ReduceAll
public import Idealize.ShloMosaic.Lib.Affine

/-! The precondition: every entry of `x`, `Wq` and `Wk` is a real. And the side conditions its two readings take. -/

@[expose] public section

set_option maxRecDepth 16384

noncomputable section

namespace Cert.Pre_finite_scores_KernelIdeal

open Idealize.ShloMosaic

theorem facts : Facts where
  bcast_S_S256x1024 := by decide
  reducesTo_S256x1024_S_d0_1 := by decide
  h_S_ := by decide
  bcast_S_S1024x1024 := by decide
  reducesTo_S1024x1024_S_d0_1 := by decide

theorem infinity_eq : Ideal.ofBits .f32 0x7F800000#32 = ⊤ := by simp [Ideal.ofBits, Ideal.ieee]

/-- What lies below infinity in size is a real. -/
theorem real_of_bit (a : EReal) (h : Ideal.cmp .olt (max a (-a)) ⊤ = 1#1) : ∃ r : ℝ, a = r := by
  induction a with
  | bot => simp [Ideal.cmp] at h
  | top => simp [Ideal.cmp] at h
  | coe r => exact ⟨r, rfl⟩

theorem bit_apply {S : Shape} (a : FVec Ideal S .f32) (hb : S_.BroadcastsInDim S (![] : Fin 0 → Fin S.rank)) (b : BitVec 32) (i : S.Idx) :
    cmpf .olt (Host.absf a) (broadcastInDim S ![] hb (constant (F := Ideal) S_ .f32 b)) i
      = Ideal.cmp .olt (max (a i) (-(a i))) (Ideal.ofBits .f32 b) := rfl

instance : Subsingleton S_.Idx := ⟨fun a b => funext fun k => k.elim0⟩

theorem all_real [Facts] {S : Shape} (a : FVec Ideal S .f32) (hb : S_.BroadcastsInDim S (![] : Fin 0 → Fin S.rank)) {axes : List (Fin S.rank)}
    (hr : S.ReducesTo axes S_) (hu : 0 < S_.numel) (j : S_.Idx)
    (h : Host.reduce IntOp.andi (cmpf .olt (Host.absf a) (broadcastInDim S ![] hb (constant (F := Ideal) S_ .f32 0x7F800000#32)))
      (constantI S_ 1 1#1) hr hu j = 1#1) (i : S.Idx) : ∃ r : ℝ, a i = (r : EReal) := by
  have e := Host.reduce_andi_all _ _ hr hu j h i
  rw [bit_apply, infinity_eq] at e
  exact real_of_bit _ e

theorem real_of_pre [Facts] (x : FVec Ideal S256x1024 .f32) (q k v o : FVec Ideal S1024x1024 .f32)
    (h : fn x q k v o = fun _ => 1#1) :
    (∀ i, ∃ r : ℝ, x i = (r : EReal)) ∧ (∀ i, ∃ r : ℝ, q i = (r : EReal)) ∧ ∀ i, ∃ r : ℝ, k i = (r : EReal) := by
  have e := congrFun h ix0
  obtain ⟨e12, e3⟩ := IntOp.andi_eq_one.1 e
  obtain ⟨e1, e2⟩ := IntOp.andi_eq_one.1 e12
  exact ⟨all_real x _ _ _ _ e1, all_real q _ _ _ _ e2, all_real k _ _ _ _ e3⟩

end Cert.Pre_finite_scores_KernelIdeal

namespace Cert.Pre_finite_scores_ReferenceIdeal

open Idealize.ShloMosaic

theorem facts : Facts where
  bcast_S_S2048x1024 := by decide
  reducesTo_S2048x1024_S_d0_1 := by decide
  h_S_ := by decide
  bcast_S_S1024x8192 := by decide
  reducesTo_S1024x8192_S_d0_1 := by decide

end Cert.Pre_finite_scores_ReferenceIdeal
-- ==== Proof.Claims.lean ====
module

public import proofs.«01_k».proof.Defs
public import proofs.«01_k».proof.Proof.Bits.Launch
public import proofs.«01_k».proof.Proof.Ideal.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value.Pre

/-! The claims that say how the programs run, from the runs; and the named constant. -/

@[expose] public section

noncomputable section

namespace Cert.Own

open Idealize.ShloMosaic Idealize.SL.Sem

theorem frame_kernel : Cert.quiescent_Kernel := fun m ρ _ =>
  (θ_run Cert.Kernel.defs _ _).mono (fun _ h => ⟨fun c => (h.1 c).1, h.2⟩) (Cert.Kernel.Run.run_end (F := Bits) m ρ)

theorem frame_ideal : Cert.quiescent_KernelIdeal := fun m ρ _ =>
  (θ_run Cert.KernelIdeal.defs _ _).mono (fun _ h => ⟨fun c => (h.1 c).1, h.2⟩) (Cert.KernelIdeal.Run.run_end (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ideal_pre [Cert.Pre_finite_scores_KernelIdeal.Facts] :
    Cert.quiescent_KernelIdeal_pre_finite_scores_KernelIdeal := fun m ρ _ => frame_ideal m ρ trivial

theorem frame_reference_pre [Cert.Pre_finite_scores_ReferenceIdeal.Facts] :
    Cert.quiescent_ReferenceIdeal_pre_finite_scores_ReferenceIdeal := fun m ρ _ => frame_reference m ρ trivial

theorem preserves : Cert.preserves_Kernel_KernelIdeal :=
  IdealRules.named_const.statement Cert.KernelIdeal.κ "qscale" .f32 0x3E0293EE#32
    (((11863283 / 134217728) * (Real.log 2)⁻¹ : ℝ) : EReal) rfl

end Cert.Own

end
-- ==== Proof.Value.Softmax.lean ====
module

public import Idealize.ShloMosaic.Lib.Pointwise

/-! One row of the attention over the extended reals: the kernel's one pass with powers of two, and the reference's two
blocks with a running maximum, are the same weighted mean of the values. -/

@[expose] public section

noncomputable section

namespace Cert.Own

open Idealize.ShloMosaic

/-- The factor both programs scale the scores by. -/
def sc : ℝ := 11863283 / 134217728

/-- One score. -/
def score (q k : Fin 128 → ℝ) : ℝ := (∑ d, q d * k d) * sc

/-- The mean of the values `v` by the exponentials of the scores `s`. -/
def att {n : ℕ} (s : Fin n → ℝ) (v : Fin n → EReal) : EReal :=
  ∑ j, v j * ((Real.exp (s j) / ∑ i, Real.exp (s i) : ℝ) : EReal)

theorem sum_coe {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A product with a nonnegative real goes into a sum, whatever the terms are. -/
theorem sum_mul_real {ι : Type} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
      rw [Finset.sum_insert ha, Finset.sum_insert ha,
        EReal.right_distrib_of_nonneg_of_ne_top (EReal.coe_nonneg.2 hr) (EReal.coe_ne_top r), ih]

theorem sum_exp_pos {n : ℕ} (hn : 0 < n) (s : Fin n → ℝ) : 0 < ∑ i, Real.exp (s i) :=
  Finset.sum_pos (fun i _ => Real.exp_pos _) ⟨⟨0, hn⟩, Finset.mem_univ _⟩

/-- The kernel's row. -/
theorem att_of_exp2 {n : ℕ} (hn : 0 < n) (t s : Fin n → ℝ) (v : Fin n → EReal)
    (h : ∀ j, Real.rpow 2 (t j) = Real.exp (s j)) :
    (∑ j, Ideal.exp2 (t j : EReal) * v j) * Ideal.div 1 (∑ j, Ideal.exp2 (t j : EReal)) = att s v := by
  have hp := sum_exp_pos hn s
  simp only [Ideal.exp2_coe, h]
  rw [sum_coe, Ideal.div_coe hp.ne', one_mul, sum_mul_real _ _ _ (by positivity)]
  refine Finset.sum_congr rfl fun j _ => ?_
  rw [mul_comm (Real.exp (s j) : EReal), mul_assoc, ← EReal.coe_mul]
  congr 2
  ring

/-- The kernel's score, in powers of two. -/
theorem exp2_score (q k : Fin 128 → ℝ) :
    Real.rpow 2 (∑ d, q d * (sc * (Real.log 2)⁻¹) * k d) = Real.exp (score q k) := by
  have h2 : Real.log 2 ≠ 0 := (Real.log_pos (by norm_num)).ne'
  rw [Real.rpow_eq_pow, Real.rpow_def_of_pos (by norm_num)]
  congr 1
  unfold score
  rw [Finset.mul_sum, Finset.sum_mul]
  refine Finset.sum_congr rfl fun d _ => ?_
  field_simp

/-- The reference's row, for any running maxima. -/
theorem att_of_blocks {n : ℕ} (hn : 0 < n) (s₁ s₂ : Fin n → ℝ) (v₁ v₂ : Fin n → EReal) (μ₁ μ₂ : ℝ) :
    Ideal.div
      ((∑ j, v₁ j * Ideal.exp ((s₁ j : EReal) - μ₁)) * Ideal.exp ((μ₁ : EReal) - μ₂)
        + ∑ j, v₂ j * Ideal.exp ((s₂ j : EReal) - μ₂))
      ((∑ j, Ideal.exp ((s₁ j : EReal) - μ₁)) * Ideal.exp ((μ₁ : EReal) - μ₂)
        + ∑ j, Ideal.exp ((s₂ j : EReal) - μ₂))
      = ∑ j, v₁ j * ((Real.exp (s₁ j) / (∑ i, Real.exp (s₁ i) + ∑ i, Real.exp (s₂ i)) : ℝ) : EReal)
        + ∑ j, v₂ j * ((Real.exp (s₂ j) / (∑ i, Real.exp (s₁ i) + ∑ i, Real.exp (s₂ i)) : ℝ) : EReal) := by
  have h₁ := sum_exp_pos hn s₁
  have h₂ := sum_exp_pos hn s₂
  have hm : (0 : ℝ) < Real.exp (-μ₂) := Real.exp_pos _
  simp only [← EReal.coe_sub, Ideal.exp_coe]
  rw [sum_coe, sum_coe, ← EReal.coe_mul, ← EReal.coe_add]
  have e₁ : (∑ j, Real.exp (s₁ j - μ₁)) * Real.exp (μ₁ - μ₂) = (∑ j, Real.exp (s₁ j)) * Real.exp (-μ₂) := by
    rw [Finset.sum_mul, Finset.sum_mul]
    refine Finset.sum_congr rfl fun j _ => ?_
    rw [← Real.exp_add, ← Real.exp_add]
    congr 1
    ring
  have e₂ : (∑ j, Real.exp (s₂ j - μ₂)) = (∑ j, Real.exp (s₂ j)) * Real.exp (-μ₂) := by
    rw [Finset.sum_mul]
    refine Finset.sum_congr rfl fun j _ => ?_
    rw [← Real.exp_add]
    congr 1
  rw [e₁, e₂, ← add_mul]
  have hS : 0 < ((∑ j, Real.exp (s₁ j)) + ∑ j, Real.exp (s₂ j)) * Real.exp (-μ₂) := by positivity
  rw [Ideal.div_coe hS.ne', sum_mul_real _ _ _ (Real.exp_pos _).le,
    EReal.right_distrib_of_nonneg_of_ne_top (EReal.coe_nonneg.2 (by positivity)) (EReal.coe_ne_top _),
    sum_mul_real _ _ _ (by positivity), sum_mul_real _ _ _ (by positivity)]
  congr 1
  · refine Finset.sum_congr rfl fun j _ => ?_
    rw [mul_assoc, mul_assoc, ← EReal.coe_mul, ← EReal.coe_mul]
    congr 2
    have : Real.exp (s₁ j) * Real.exp (-μ₂) = Real.exp (s₁ j - μ₁) * Real.exp (μ₁ - μ₂) := by
      rw [← Real.exp_add, ← Real.exp_add]; congr 1; ring
    rw [← mul_assoc, ← this]
    field_simp
  · refine Finset.sum_congr rfl fun j _ => ?_
    rw [mul_assoc, ← EReal.coe_mul]
    congr 2
    have : Real.exp (s₂ j) * Real.exp (-μ₂) = Real.exp (s₂ j - μ₂) := by
      rw [← Real.exp_add]; congr 1
    rw [← this]
    field_simp

/-- The maximum of finitely many reals, from a real or from nothing, is a real. -/
theorem fold_max_real {n : ℕ} (hn : 0 < n) (s : Fin n → ℝ) :
    ∃ μ : ℝ, Finset.univ.fold max (⊥ : EReal) (fun j => (s j : EReal)) = μ := by
  classical
  have key : ∀ t : Finset (Fin n), t.Nonempty → ∃ μ : ℝ, t.fold max (⊥ : EReal) (fun j => (s j : EReal)) = μ := by
    intro t ht
    induction ht using Finset.Nonempty.cons_induction with
    | singleton a => exact ⟨s a, by rw [Finset.fold_singleton]; exact max_eq_left bot_le⟩
    | cons a t ha _ ih =>
        obtain ⟨μ, hμ⟩ := ih
        exact ⟨max (s a) μ, by rw [Finset.fold_cons, hμ, EReal.coe_strictMono.monotone.map_max]⟩
  exact key _ ⟨⟨0, hn⟩, Finset.mem_univ _⟩

theorem two_halves {M : Type} [AddCommMonoid M] (f : Fin 2048 → M) :
    ∑ j, f j = (∑ j : Fin 1024, f ⟨j.val, by omega⟩) + ∑ j : Fin 1024, f ⟨1024 + j.val, by omega⟩ :=
  Fin.sum_univ_add (a := 1024) (b := 1024) f

end Cert.Own
-- ==== Proof.Value.Ref.lean ====
module

public import proofs.«01_k».proof.Proof.Gen.ReferenceIdeal.Run
public import proofs.«01_k».proof.Proof.Value.Softmax
public import Idealize.ShloMosaic.Lib.Tactic.CleanTypes

/-! The reference in stages, each read entry by entry over the extended reals. -/

@[expose] public section

set_option maxRecDepth 16384

noncomputable section

namespace Cert.ReferenceIdeal.Value

open Cert.ReferenceIdeal Cert.ReferenceIdeal.Gen Cert.Own Idealize.ShloMosaic Idealize.ShloMosaic.TcCoe

/-- A projection of `x`, its columns parted into heads. -/
def rP (x : FVec Ideal S2048x1024 .f32) (W : FVec Ideal S1024x8192 .f32) : FVec Ideal S1x2048x64x128 .f32 :=
  shapeCast S1x2048x64x128 (Host.dotGeneral dot_S1x2048x1024_S1024x8192_S1x2048x8192_2_0_01_1_n_n none
    (shapeCast S1x2048x1024 x shapeCasts_S2048x1024_S1x2048x1024) W) shapeCasts_S1x2048x8192_S1x2048x64x128

/-- The first and the last half of the rows. -/
def rA (k : FVec Ideal S1x2048x64x128 .f32) : FVec Ideal S1x1024x64x128 .f32 :=
  extractStridedSlice S1x1024x64x128 ![0, 0, 0, 0] k slices_S1x2048x64x128_S1x1024x64x128_0_0_0_0
def rB (k : FVec Ideal S1x2048x64x128 .f32) : FVec Ideal S1x1024x64x128 .f32 :=
  extractStridedSlice S1x1024x64x128 ![0, 1024, 0, 0] k slices_S1x2048x64x128_S1x1024x64x128_0_1024_0_0

/-- The scores against half of the keys. -/
def rS (q : FVec Ideal S1x2048x64x128 .f32) (k : FVec Ideal S1x1024x64x128 .f32) : FVec Ideal S1x64x2048x1024 .f32 :=
  mulf (Host.dotGeneral dot_S1x2048x64x128_S1x1024x64x128_S1x64x2048x1024_3_3_1_1_02_02 none q k)
    (broadcastInDim S1x64x2048x1024 ![] bcast_S_S1x64x2048x1024 (constant S_ .f32 0x3DB504F3#32))

/-- Nothing yet: the running maximum, denominator and numerator before the first half. -/
def rM0 : FVec Ideal S1x64x2048x1 .f32 := broadcastInDim S1x64x2048x1 ![] bcast_S_S1x64x2048x1 (constant S_ .f32 0xFF800000#32)
def rL0 : FVec Ideal S1x64x2048x1 .f32 := broadcastInDim S1x64x2048x1 ![] bcast_S_S1x64x2048x1 (constant S_ .f32 0x00000000#32)
def rO0 : FVec Ideal S1x2048x64x128 .f32 := broadcastInDim S1x2048x64x128 ![] bcast_S_S1x2048x64x128 (constant S_ .f32 0x00000000#32)

/-- The largest score of a half, -/
def rR (s : FVec Ideal S1x64x2048x1024 .f32) : FVec Ideal S1x64x2048 .f32 :=
  Host.reduce FloatOps.maximumf s (constant S_ .f32 0xFF800000#32) reducesTo_S1x64x2048x1024_S1x64x2048_d3 h_S_

/-- the running maximum after a half, -/
def rM (μ : FVec Ideal S1x64x2048x1 .f32) (s : FVec Ideal S1x64x2048x1024 .f32) : FVec Ideal S1x64x2048x1 .f32 :=
  maximumf μ (broadcastInDim S1x64x2048x1 ![0, 1, 2] bcast_S1x64x2048_S1x64x2048x1_0_1_2
    (rR s))

/-- the factor that brings what was summed to it, and the weights. -/
def rF (μ μ' : FVec Ideal S1x64x2048x1 .f32) : FVec Ideal S1x64x2048x1 .f32 := Host.exp (subf μ μ')
def rW (s : FVec Ideal S1x64x2048x1024 .f32) (μ : FVec Ideal S1x64x2048x1 .f32) : FVec Ideal S1x64x2048x1024 .f32 :=
  Host.exp (subf s (broadcastInDim S1x64x2048x1024 ![0, 1, 2, 3] bcast_S1x64x2048x1_S1x64x2048x1024_0_1_2_3 μ))

/-- The denominator and the numerator after a half. -/
def rL (l a : FVec Ideal S1x64x2048x1 .f32) (p : FVec Ideal S1x64x2048x1024 .f32) : FVec Ideal S1x64x2048x1 .f32 :=
  addf (mulf l a) (broadcastInDim S1x64x2048x1 ![0, 1, 2] bcast_S1x64x2048_S1x64x2048x1_0_1_2
    (Host.reduceAdd p (constant S_ .f32 0x00000000#32) reducesTo_S1x64x2048x1024_S1x64x2048_d3 h_S_))
def rO (o : FVec Ideal S1x2048x64x128 .f32) (a : FVec Ideal S1x64x2048x1 .f32) (v : FVec Ideal S1x1024x64x128 .f32)
    (p : FVec Ideal S1x64x2048x1024 .f32) : FVec Ideal S1x2048x64x128 .f32 :=
  addf (mulf o (broadcastInDim S1x2048x64x128 ![0, 1, 2, 3] bcast_S1x2048x64x1_S1x2048x64x128_0_1_2_3
      (transpose S1x2048x64x1 [0, 2, 1, 3] a transposes_S1x64x2048x1_S1x2048x64x1_0_2_1_3)))
    (transpose S1x2048x64x128 [0, 3, 1, 2]
      (Host.dotGeneral dot_S1x1024x64x128_S1x64x2048x1024_S1x64x128x2048_1_3_3_2_02_01 none v p)
      transposes_S1x64x128x2048_S1x2048x64x128_0_3_1_2)

/-- The quotient, -/
def rD (o : FVec Ideal S1x2048x64x128 .f32) (l : FVec Ideal S1x64x2048x1 .f32) : FVec Ideal S1x2048x64x128 .f32 :=
  Host.divf o (broadcastInDim S1x2048x64x128 ![0, 1, 2, 3] bcast_S1x2048x64x1_S1x2048x64x128_0_1_2_3
    (transpose S1x2048x64x1 [0, 2, 1, 3] l transposes_S1x64x2048x1_S1x2048x64x1_0_2_1_3))

/-- and its product with `Wo`. -/
def rY (d : FVec Ideal S1x2048x64x128 .f32) (Wo : FVec Ideal S8192x1024 .f32) : FVec Ideal S2048x1024 .f32 :=
  shapeCast S2048x1024 (Host.dotGeneral dot_S1x2048x8192_S8192x1024_S1x2048x1024_2_0_01_1_n_n none
    (shapeCast S1x2048x8192 d shapeCasts_S1x2048x64x128_S1x2048x8192) Wo) shapeCasts_S1x2048x1024_S2048x1024

/-- The attention, from queries, keys and values. -/
def rT (q k v : FVec Ideal S1x2048x64x128 .f32) : FVec Ideal S1x2048x64x128 .f32 :=
  rD
    (rO (rO rO0 (rF rM0 (rM rM0 (rS q (rA k)))) (rA v) (rW (rS q (rA k)) (rM rM0 (rS q (rA k)))))
      (rF (rM rM0 (rS q (rA k))) (rM (rM rM0 (rS q (rA k))) (rS q (rB k)))) (rB v)
      (rW (rS q (rB k)) (rM (rM rM0 (rS q (rA k))) (rS q (rB k)))))
    (rL (rL rL0 (rF rM0 (rM rM0 (rS q (rA k)))) (rW (rS q (rA k)) (rM rM0 (rS q (rA k)))))
      (rF (rM rM0 (rS q (rA k))) (rM (rM rM0 (rS q (rA k))) (rS q (rB k))))
      (rW (rS q (rB k)) (rM (rM rM0 (rS q (rA k))) (rS q (rB k)))))

theorem scale_eq : Ideal.ofBits .f32 0x3DB504F3#32 = (sc : EReal) := by
  unfold sc
  simp [Ideal.ofBits, Ideal.ieee]
  rw [← EReal.coe_mul]
  congr 1
  norm_num

theorem none_eq : Ideal.ofBits .f32 0xFF800000#32 = ⊥ := by simp [Ideal.ofBits, Ideal.ieee]

theorem rP_apply (x : FVec Ideal S2048x1024 .f32) (W : FVec Ideal S1024x8192 .f32) (i : Fin 2048) (h : Fin 64) (d : Fin 128) :
    rP x W (ix4 0 i h d) = ∑ k : Fin 1024, x (ix2 i k) * W (ix2 k ⟨h.val * 128 + d.val, by omega⟩) := by
  pointwise [rP]

theorem rA_apply (k : FVec Ideal S1x2048x64x128 .f32) (j : Fin 1024) (h : Fin 64) (d : Fin 128) :
    rA k (ix4 0 j h d) = k (ix4 0 ⟨j.val, by omega⟩ h d) := by
  pointwise [rA]

theorem rB_apply (k : FVec Ideal S1x2048x64x128 .f32) (j : Fin 1024) (h : Fin 64) (d : Fin 128) :
    rB k (ix4 0 j h d) = k (ix4 0 ⟨1024 + j.val, by omega⟩ h d) := by
  pointwise [rB]

theorem rS_apply (q : FVec Ideal S1x2048x64x128 .f32) (k : FVec Ideal S1x1024x64x128 .f32) (h : Fin 64) (i : Fin 2048) (j : Fin 1024) :
    rS q k (ix4 0 h i j) = (∑ d : Fin 128, q (ix4 0 i h d) * k (ix4 0 j h d)) * (sc : EReal) := by
  pointwise [rS]
  rw [scale_eq]

theorem splat_apply (b : BitVec 32) (h : Fin 64) (i : Fin 2048) :
    broadcastInDim S1x64x2048x1 ![] bcast_S_S1x64x2048x1 (constant (F := Ideal) S_ .f32 b) (ix4 0 h i 0) = Ideal.ofBits .f32 b := by
  pointwise

theorem rM0_apply (h : Fin 64) (i : Fin 2048) : rM0 (ix4 0 h i 0) = (⊥ : EReal) := (splat_apply _ h i).trans none_eq

theorem rL0_apply (h : Fin 64) (i : Fin 2048) : rL0 (ix4 0 h i 0) = (0 : EReal) := by
  pointwise [rL0]

theorem rO0_apply (i : Fin 2048) (h : Fin 64) (d : Fin 128) : rO0 (ix4 0 i h d) = (0 : EReal) := by
  pointwise [rO0]

theorem reduces_last : S1x64x2048x1024.Reduces [3] S1x64x2048 := by decide

theorem lift_last (h : Fin 64) (i : Fin 2048) (j : Fin 1024) : reduces_last.lift (ix3 0 h i) j = ix4 0 h i j := by
  funext a
  match a with
  | ⟨0, _⟩ => rfl
  | ⟨1, _⟩ => rfl
  | ⟨2, _⟩ => rfl
  | ⟨3, _⟩ => rfl

theorem first_constant (b : BitVec 32) (k : S_.Idx) : (constant (F := Ideal) S_ .f32 b) k = Ideal.ofBits .f32 b := rfl

theorem rR_apply (s : FVec Ideal S1x64x2048x1024 .f32) (h : Fin 64) (i : Fin 2048) :
    rR s (ix3 0 h i) = Finset.univ.fold max (⊥ : EReal) fun j : Fin 1024 => s (ix4 0 h i j) := by
  unfold rR
  rw [Host.reduce_eq_fold_single _ _ _ _ reduces_last, first_constant, none_eq]
  have e : s ∘ reduces_last.lift (ix3 0 h i) = fun j : Fin 1024 => s (ix4 0 h i j) := funext fun j => congrArg s (lift_last h i j)
  rw [e]
  rfl

theorem up_apply (y : FVec Ideal S1x64x2048 .f32) (h : Fin 64) (i : Fin 2048) :
    broadcastInDim S1x64x2048x1 ![0, 1, 2] bcast_S1x64x2048_S1x64x2048x1_0_1_2 y (ix4 0 h i 0) = y (ix3 0 h i) := by
  pointwise

theorem larger_apply (x y : FVec Ideal S1x64x2048x1 .f32) (i : S1x64x2048x1.Idx) : maximumf x y i = max (x i : EReal) (y i) := rfl

theorem rM_apply (μ : FVec Ideal S1x64x2048x1 .f32) (s : FVec Ideal S1x64x2048x1024 .f32) (h : Fin 64) (i : Fin 2048) :
    rM μ s (ix4 0 h i 0) = max (μ (ix4 0 h i 0)) (rR s (ix3 0 h i)) := by
  unfold rM
  rw [larger_apply, up_apply]

theorem rF_apply (μ μ' : FVec Ideal S1x64x2048x1 .f32) (h : Fin 64) (i : Fin 2048) :
    rF μ μ' (ix4 0 h i 0) = Ideal.exp (μ (ix4 0 h i 0) - μ' (ix4 0 h i 0)) := by
  pointwise [rF]

theorem rW_apply (s : FVec Ideal S1x64x2048x1024 .f32) (μ : FVec Ideal S1x64x2048x1 .f32) (h : Fin 64) (i : Fin 2048) (j : Fin 1024) :
    rW s μ (ix4 0 h i j) = Ideal.exp (s (ix4 0 h i j) - μ (ix4 0 h i 0)) := by
  pointwise [rW]

theorem rL_apply (l a : FVec Ideal S1x64x2048x1 .f32) (p : FVec Ideal S1x64x2048x1024 .f32) (h : Fin 64) (i : Fin 2048) :
    rL l a p (ix4 0 h i 0) = l (ix4 0 h i 0) * a (ix4 0 h i 0) + ∑ j : Fin 1024, p (ix4 0 h i j) := by
  pointwise [rL]

theorem rO_apply (o : FVec Ideal S1x2048x64x128 .f32) (a : FVec Ideal S1x64x2048x1 .f32) (v : FVec Ideal S1x1024x64x128 .f32)
    (p : FVec Ideal S1x64x2048x1024 .f32) (i : Fin 2048) (h : Fin 64) (d : Fin 128) :
    rO o a v p (ix4 0 i h d) = o (ix4 0 i h d) * a (ix4 0 h i 0) + ∑ j : Fin 1024, v (ix4 0 j h d) * p (ix4 0 h i j) := by
  pointwise [rO]

theorem rD_apply (o : FVec Ideal S1x2048x64x128 .f32) (l : FVec Ideal S1x64x2048x1 .f32) (i : Fin 2048) (h : Fin 64) (d : Fin 128) :
    rD o l (ix4 0 i h d) = Ideal.div (o (ix4 0 i h d)) (l (ix4 0 h i 0)) := by
  pointwise [rD]

theorem rY_apply (d : FVec Ideal S1x2048x64x128 .f32) (Wo : FVec Ideal S8192x1024 .f32) (i : Fin 2048) (n : Fin 1024) :
    rY d Wo (ix2 i n) = ∑ k : Fin 8192, d (ix4 0 i ⟨k.val / 128, by omega⟩ ⟨k.val % 128, Nat.mod_lt _ (by decide)⟩) * Wo (ix2 k n) := by
  pointwise [rY]

end Cert.ReferenceIdeal.Value
-- ==== Proof.Value.Pays.lean ====
module

public import proofs.«01_k».proof.Proof.Ideal.Proto
public import proofs.«01_k».proof.Proof.Value.Softmax

/-! What the kernel's stored vectors hold over the extended reals, entry by entry. -/

@[expose] public section

set_option maxRecDepth 16384

noncomputable section

namespace Cert.KernelIdeal.Run

open Cert.KernelIdeal Cert.KernelIdeal.Gen Cert.Own Idealize.ShloMosaic

theorem qscale_eq : Named.named (F := Ideal) κ "qscale" (φ := .f32) 0x3E0293EE#32 = ((sc * (Real.log 2)⁻¹ : ℝ) : EReal) :=
  IdealRules.named_const.ideal_named_scalar _ _ _ _ rfl

theorem pay1_apply (x : S256x1024.Idx → Elt Ideal .f32) (r : Fin 256) (n : Fin 1024) :
    k0_pay1 (F := Ideal) x (ix2 r n) = x (ix2 r n) := by
  pointwise [k0_pay1]

theorem pay3_apply (x : S256x1024.Idx → Elt Ideal .bf16) (w : S1024x1024.Idx → Elt Ideal .f32) (r : Fin 256) (n : Fin 1024) :
    k0_pay3 (F := Ideal) x w (ix2 r n) = (∑ k : Fin 1024, x (ix2 r k) * w (ix2 k n)) * ((sc * (Real.log 2)⁻¹ : ℝ) : EReal) := by
  pointwise [k0_pay3, k0_pay2]
  rw [qscale_eq]

theorem pay4_apply (x : S256x1024.Idx → Elt Ideal .bf16) (w : S1024x1024.Idx → Elt Ideal .f32) (r : Fin 256) (n : Fin 1024) :
    k0_pay4 (F := Ideal) x w (ix2 r n) = ∑ k : Fin 1024, x (ix2 r k) * w (ix2 k n) := by
  pointwise [k0_pay4, k0_pay2]

theorem pay5_apply (x : S256x1024.Idx → Elt Ideal .bf16) (w : S1024x1024.Idx → Elt Ideal .f32) (r : Fin 256) (n : Fin 1024) :
    k0_pay5 (F := Ideal) x w (ix2 r n) = ∑ k : Fin 1024, x (ix2 r k) * w (ix2 k n) := by
  pointwise [k0_pay5, k0_pay2]

theorem pay36_apply (x : S256x1024.Idx → Elt Ideal .f32) (w : S1024x1024.Idx → Elt Ideal .f32) (r : Fin 256) (n : Fin 1024) :
    k0_pay36 (F := Ideal) x w (ix2 r n) = ∑ k : Fin 1024, x (ix2 r k) * w (ix2 k n) := by
  pointwise [k0_pay36]

theorem pay35_apply (q : S256x128.Idx → Elt Ideal .bf16) (k : S2048x128.Idx → Elt Ideal .bf16)
    (v : S2048x128.Idx → Elt Ideal .f32) (r : Fin 256) (n : Fin 128) :
    k0_pay35 (F := Ideal) q k v (ix2 r n)
      = (∑ j : Fin 2048, Ideal.exp2 (∑ d : Fin 128, q (ix2 r d) * k (ix2 j d)) * v (ix2 j n))
        * Ideal.div 1 (∑ j : Fin 2048, Ideal.exp2 (∑ d : Fin 128, q (ix2 r d) * k (ix2 j d))) := by
  pointwise [k0_pay35]
  rfl

theorem pay37_apply (x : S256x1024.Idx → Elt Ideal .f32) (r : Fin 256) (n : Fin 1024) :
    flat (F := Ideal) (k0_pay37 (F := Ideal) x) (ix2 r n) = x (ix2 r n) := by
  pointwise [flat, k0_pay37]

theorem pay47_apply (x : S256x1024.Idx → Elt Ideal .f32) (y : S256x1024.Idx → Elt Ideal .bf16) (r : Fin 256) (n : Fin 1024) :
    flat (F := Ideal) (k0_pay47 (F := Ideal) x y) (ix2 r n) = x (ix2 r n) + y (ix2 r n) := by
  pointwise [flat, k0_pay47]

theorem pay59_apply (x : S256x1024.Idx → Elt Ideal .f32) (y z : S256x1024.Idx → Elt Ideal .bf16) (r : Fin 256) (n : Fin 1024) :
    k0_pay59 (F := Ideal) x y z (ix2 r n) = x (ix2 r n) + y (ix2 r n) + z (ix2 r n) := by
  pointwise [k0_pay59]

end Cert.KernelIdeal.Run
-- ==== Proof.Value.Whole.lean ====
module

public import proofs.«01_k».proof.Proof.Value.Pays

/-! What each device's result holds, in terms of the whole arrays: the rows of the attention's product with `Wo`. -/

@[expose] public section

set_option maxRecDepth 16384

noncomputable section

namespace Cert.Own

open Idealize.ShloMosaic

/-- One entry of a projection of `x`. -/
def proj (x : (⟨2, ![2048, 1024]⟩ : Shape).Idx → EReal) (W : (⟨2, ![1024, 8192]⟩ : Shape).Idx → EReal) (i : Fin 2048) (n : Fin 8192) : EReal :=
  ∑ k : Fin 1024, x (ix2 i k) * W (ix2 k n)

/-- Column `d` of the head that column `n` belongs to. -/
def col (n : Fin 8192) (d : Fin 128) : Fin 8192 := ⟨n.val / 128 * 128 + d.val, by omega⟩

/-- One entry of the attention, given the projections of `x` to queries, keys and values. -/
def mix (Q K : Fin 2048 → Fin 8192 → ℝ) (V : Fin 2048 → Fin 8192 → EReal) (i : Fin 2048) (n : Fin 8192) : EReal :=
  att (fun j => score (fun d => Q i (col n d)) (fun d => K j (col n d))) (fun j => V j n)

/-- One entry of the result. -/
def res (Q K : Fin 2048 → Fin 8192 → ℝ) (V : Fin 2048 → Fin 8192 → EReal) (Wo : (⟨2, ![8192, 1024]⟩ : Shape).Idx → EReal)
    (i : Fin 2048) (n : Fin 1024) : EReal := ∑ k : Fin 8192, mix Q K V i k * Wo (ix2 k n)

/-- A row of a device's block, a column of a device's block. -/
def rowOf (j : Fin 8) (r : Fin 256) : Fin 2048 := ⟨256 * j.val + r.val, by omega⟩
def colOf (c : Fin 8) (n : Fin 1024) : Fin 8192 := ⟨1024 * c.val + n.val, by omega⟩

theorem sum_cols {M : Type} [AddCommMonoid M] (f : Fin 8192 → M) : ∑ k, f k = ∑ c : Fin 8, ∑ n : Fin 1024, f (colOf c n) := by
  rw [← Fintype.sum_prod_type' (fun c n => f (colOf c n)), ← Equiv.sum_comp (finProdFinEquiv (m := 8) (n := 1024)) f]
  refine Finset.sum_congr rfl fun p _ => congrArg f (Fin.ext ?_)
  show p.2.val + 1024 * p.1.val = 1024 * p.1.val + p.2.val
  omega

end Cert.Own

namespace Cert.KernelIdeal.Run

open Cert.KernelIdeal Cert.KernelIdeal.Gen Cert.Own Idealize.ShloMosaic

theorem pair_eq_ix2 {a b : ℕ} (r : Fin a) (c : Fin b) : (Shape.pair (d := ![a, b]) r c) = ix2 r c := by
  funext i
  match i with
  | ⟨0, _⟩ => rfl
  | ⟨1, _⟩ => rfl

variable (m : (ℓ : Loc nD τ sig) → Buf (Elt Ideal) ℓ)
variable {x : (⟨2, ![2048, 1024]⟩ : Shape).Idx → EReal} {Wq Wk Wv : (⟨2, ![1024, 8192]⟩ : Shape).Idx → EReal}
variable {Wo : (⟨2, ![8192, 1024]⟩ : Shape).Idx → EReal}

section Sum

/-- The chains of partial sums add up every device's part. -/
theorem out_sum (c : Dev nD) (r : Fin 256) (n : Fin 1024) :
    OUT m c (ix2 r n) = ∑ d : Fin 8, PC m d c (ix2 r n) := by
  rw [← (sh_bijective c).sum_comp (fun d => PC m d c (ix2 r n)), Fin.sum_univ_eight]
  unfold OUT
  rw [pay59_apply]
  have e3 : RV m c 3 (ix2 r n) = PC m (sh c 7) c (ix2 r n) + (PC m (sh c 6) c (ix2 r n)
      + (PC m (sh c 5) c (ix2 r n) + PC m (sh c 4) c (ix2 r n))) := by
    have h : RV m c 3 = flat (sbR m 3 (sh c 7)) := rfl
    rw [h]
    unfold sbR
    rw [pay47_apply]
    unfold sbR
    rw [pay47_apply]
    unfold sbR
    rw [pay47_apply]
    unfold sbR
    rw [pay37_apply]
    simp only [sh_sh, Nat.reduceAdd, Nat.reduceMod, Nat.reduceSub, sh_zero]
  have e6 : RV m c 6 (ix2 r n) = PC m (sh c 1) c (ix2 r n) + (PC m (sh c 2) c (ix2 r n) + PC m (sh c 3) c (ix2 r n)) := by
    have h : RV m c 6 = flat (sbL m 2 (sh c 1)) := rfl
    rw [h]
    unfold sbL
    rw [pay47_apply]
    unfold sbL
    rw [pay47_apply]
    unfold sbL
    rw [pay37_apply]
    simp only [sh_sh, Nat.reduceAdd, Nat.reduceMod, Nat.reduceSub, sh_zero]
  rw [e3, e6]
  show _ = PC m (sh c 0) c (ix2 r n) + PC m (sh c 1) c (ix2 r n) + PC m (sh c 2) c (ix2 r n) + PC m (sh c 3) c (ix2 r n)
    + PC m (sh c 4) c (ix2 r n) + PC m (sh c 5) c (ix2 r n) + PC m (sh c 6) c (ix2 r n) + PC m (sh c 7) c (ix2 r n)
  rw [sh_zero]
  ac_rfl

end Sum

section Parts

variable (hx : ∀ c r k, xin m c (ix2 r k) = x (ix2 (rowOf c r) k))
variable (hq : ∀ c k n, wq m c (ix2 k n) = Wq (ix2 k (colOf c n)))
variable (hk : ∀ c k n, wk m c (ix2 k n) = Wk (ix2 k (colOf c n)))
variable (hv : ∀ c k n, wv m c (ix2 k n) = Wv (ix2 k (colOf c n)))
variable (ho : ∀ c k n, wo m c (ix2 k n) = Wo (ix2 (colOf c k) n))

include hx in
theorem XC_apply (j : Dev nD) (r : Fin 256) (k : Fin 1024) : XC m j (ix2 r k) = x (ix2 (rowOf j r) k) :=
  (pay1_apply _ r k).trans (hx j r k)

include hx hq in
theorem QC_apply (c j : Dev nD) (r : Fin 256) (n : Fin 1024) :
    QC m c j (ix2 r n) = proj x Wq (rowOf j r) (colOf c n) * ((sc * (Real.log 2)⁻¹ : ℝ) : EReal) := by
  unfold QC proj
  rw [pay3_apply]
  simp only [XC_apply m hx, hq]

include hx hk in
theorem KC_apply (c j : Dev nD) (r : Fin 256) (n : Fin 1024) :
    KC m c j (ix2 r n) = proj x Wk (rowOf j r) (colOf c n) := by
  unfold KC proj
  rw [pay4_apply]
  simp only [XC_apply m hx, hk]

include hx hv in
theorem VC_apply (c j : Dev nD) (r : Fin 256) (n : Fin 1024) :
    VC m c j (ix2 r n) = proj x Wv (rowOf j r) (colOf c n) := by
  unfold VC proj
  rw [pay5_apply]
  simp only [XC_apply m hx, hv]

/-- A row is a device's. -/
theorem row_cases (i : Fin 2048) : ∃ (j : Dev nD) (r : Fin 256), i = rowOf j r :=
  ⟨⟨i.val / 256, by show _ < 8; omega⟩, ⟨i.val % 256, Nat.mod_lt _ (by decide)⟩, Fin.ext (by
    show i.val = 256 * (i.val / 256) + i.val % 256; omega)⟩

theorem stack_apply {e : EltTy} (V : Dev nD → S256x1024.Idx → Elt Ideal e) (j : Dev nD) (r : Fin 256) (n : Fin 1024) :
    stack V (ix2 (rowOf j r) n) = V j (ix2 r n) :=
  stack_at V j (ix2 (rowOf j r) n) (ix2 r n) rfl rfl

include hx hk in
theorem KF_apply (c : Dev nD) (i : Fin 2048) (n : Fin 1024) : KF m c (ix2 i n) = proj x Wk i (colOf c n) := by
  obtain ⟨j, r, rfl⟩ := row_cases i
  exact (stack_apply _ j r n).trans (KC_apply m hx hk c j r n)

include hx hv in
theorem VF_apply (c : Dev nD) (i : Fin 2048) (n : Fin 1024) : VF m c (ix2 i n) = proj x Wv i (colOf c n) := by
  obtain ⟨j, r, rfl⟩ := row_cases i
  exact (stack_apply _ j r n).trans (VC_apply m hx hv c j r n)

theorem head_apply {a : ℕ} {e : EltTy} (h : Fin 8) (f : (⟨2, ![a, 1024]⟩ : Shape).Idx → Elt Ideal e) (r : Fin a) (d : Fin 128) :
    head (F := Ideal) h f (ix2 r d) = f (ix2 r ⟨128 * h.val + d.val, by omega⟩) :=
  congrArg f (pair_eq_ix2 _ _)

variable {Q K : Fin 2048 → Fin 8192 → ℝ} (hQ : ∀ i n, proj x Wq i n = (Q i n : EReal)) (hK : ∀ i n, proj x Wk i n = (K i n : EReal))

include hx hq hk hv hQ hK in
theorem OB_apply (c j : Dev nD) (r : Fin 256) (n : Fin 1024) :
    OB m c j (ix2 r n) = mix Q K (proj x Wv) (rowOf j r) (colOf c n) := by
  have hc : ∀ d : Fin 128, colOf c ⟨128 * (n.val / 128) + d.val, by omega⟩ = col (colOf c n) d := fun d => Fin.ext (by
    show 1024 * c.val + (128 * (n.val / 128) + d.val) = (1024 * c.val + n.val) / 128 * 128 + d.val
    omega)
  have hn : colOf c ⟨128 * (n.val / 128) + n.val % 128, by omega⟩ = colOf c n := congrArg _ (Fin.ext (by
    show 128 * (n.val / 128) + n.val % 128 = n.val
    omega))
  have e : OB m c j (ix2 r n) = OH m c j ⟨n.val / 128, by omega⟩ (ix2 r ⟨n.val % 128, Nat.mod_lt _ (by decide)⟩) :=
    congrArg (OH m c j ⟨n.val / 128, by omega⟩) (pair_eq_ix2 r (⟨n.val % 128, Nat.mod_lt _ (by decide)⟩ : Fin 128))
  rw [e]
  unfold OH
  rw [pay35_apply]
  simp only [head_apply]
  simp only [QC_apply m hx hq, KF_apply m hx hk, VF_apply m hx hv, hc, hn, hQ, hK, ← EReal.coe_mul, sum_coe]
  exact att_of_exp2 (by decide) _ _ _ fun i => exp2_score _ _

include hx hq hk hv ho hQ hK in
theorem OUT_apply (c : Dev nD) (r : Fin 256) (n : Fin 1024) :
    OUT m c (ix2 r n) = res Q K (proj x Wv) Wo (rowOf c r) n := by
  rw [out_sum]
  unfold res
  rw [sum_cols]
  refine Finset.sum_congr rfl fun d _ => ?_
  unfold PC
  rw [pay36_apply]
  simp only [OB_apply m hx hq hk hv hQ hK, ho]

end Parts

end Cert.KernelIdeal.Run
-- ==== Proof.Value.Row.lean ====
module

public import proofs.«01_k».proof.Proof.Value.Ref
public import proofs.«01_k».proof.Proof.Value.Whole

/-! The reference's result in terms of the whole arrays, entry by entry. -/

@[expose] public section

set_option maxRecDepth 16384

noncomputable section

namespace Cert.ReferenceIdeal.Value

open Cert.ReferenceIdeal Cert.ReferenceIdeal.Gen Cert.Own Idealize.ShloMosaic Idealize.ShloMosaic.TcCoe

variable {q k v : FVec Ideal S1x2048x64x128 .f32} {Q K : Fin 2048 → Fin 64 → Fin 128 → ℝ}
variable (hq : ∀ i h d, q (ix4 0 i h d) = (Q i h d : EReal)) (hk : ∀ i h d, k (ix4 0 i h d) = (K i h d : EReal))

include hq hk in
theorem scoreA (h : Fin 64) (i : Fin 2048) (j : Fin 1024) :
    rS q (rA k) (ix4 0 h i j) = (score (Q i h) (K ⟨j.val, by omega⟩ h) : EReal) := by
  rw [rS_apply]
  simp only [rA_apply, hq, hk, ← EReal.coe_mul, sum_coe]
  rfl

include hq hk in
theorem scoreB (h : Fin 64) (i : Fin 2048) (j : Fin 1024) :
    rS q (rB k) (ix4 0 h i j) = (score (Q i h) (K ⟨1024 + j.val, by omega⟩ h) : EReal) := by
  rw [rS_apply]
  simp only [rB_apply, hq, hk, ← EReal.coe_mul, sum_coe]
  rfl

include hq hk in
/-- The attention's entry is the weighted mean of the values. -/
theorem rT_apply (i : Fin 2048) (h : Fin 64) (d : Fin 128) :
    rT q k v (ix4 0 i h d) = att (fun j => score (Q i h) (K j h)) (fun j => v (ix4 0 j h d)) := by
  obtain ⟨a, ha⟩ := fold_max_real (by decide) (fun j : Fin 1024 => score (Q i h) (K ⟨j.val, by omega⟩ h))
  obtain ⟨b, hb⟩ := fold_max_real (by decide) (fun j : Fin 1024 => score (Q i h) (K ⟨1024 + j.val, by omega⟩ h))
  have hA : rM rM0 (rS q (rA k)) (ix4 0 h i 0) = (a : EReal) := by
    rw [rM_apply, rM0_apply, rR_apply]
    simp only [scoreA hq hk]
    rw [ha]
    exact max_eq_right bot_le
  have hB : rM (rM rM0 (rS q (rA k))) (rS q (rB k)) (ix4 0 h i 0) = ((max a b : ℝ) : EReal) := by
    rw [rM_apply, hA, rR_apply]
    simp only [scoreB hq hk]
    rw [hb, EReal.coe_strictMono.monotone.map_max]
  unfold rT
  simp only [rD_apply, rO_apply, rL_apply, rF_apply, rW_apply, rM0_apply, rL0_apply, rO0_apply, hA, hB, scoreA hq hk, scoreB hq hk,
    rA_apply, rB_apply, zero_mul, zero_add]
  rw [att_of_blocks (by decide)]
  unfold att
  rw [two_halves, two_halves (fun j => Real.exp (score (Q i h) (K j h)))]

variable {x : FVec Ideal S2048x1024 .f32} {Wq Wk Wv : FVec Ideal S1024x8192 .f32} {Wo : FVec Ideal S8192x1024 .f32}
variable {Q' K' : Fin 2048 → Fin 8192 → ℝ} (hQ : ∀ i n, proj x Wq i n = (Q' i n : EReal)) (hK : ∀ i n, proj x Wk i n = (K' i n : EReal))

include hQ hK in
theorem ref_apply (i : Fin 2048) (n : Fin 1024) :
    rY (rT (rP x Wq) (rP x Wk) (rP x Wv)) Wo (ix2 i n) = res Q' K' (proj x Wv) Wo i n := by
  rw [rY_apply]
  unfold res
  refine Finset.sum_congr rfl fun c _ => ?_
  congr 1
  rw [rT_apply (Q := fun i h d => Q' i ⟨h.val * 128 + d.val, by omega⟩) (K := fun i h d => K' i ⟨h.val * 128 + d.val, by omega⟩)
    (fun i h d => (rP_apply x Wq i h d).trans (hQ i _)) (fun i h d => (rP_apply x Wk i h d).trans (hK i _))]
  unfold mix
  have hv : (fun j => rP x Wv (ix4 0 j ⟨c.val / 128, by omega⟩ ⟨c.val % 128, Nat.mod_lt _ (by decide)⟩)) = fun j => proj x Wv j c := funext fun j => by
    rw [rP_apply]
    unfold proj
    have e : (⟨c.val / 128 * 128 + c.val % 128, by omega⟩ : Fin 8192) = c := Fin.ext (by show c.val / 128 * 128 + c.val % 128 = c.val; omega)
    simp only [e]
  rw [hv]
  rfl

end Cert.ReferenceIdeal.Value
-- ==== Proof.Value.Stages.lean ====
module

public import proofs.«01_k».proof.Proof.Value.Ref

/-! The reference's result is the last stage. -/

@[expose] public section

set_option maxRecDepth 16384

noncomputable section

namespace Cert.ReferenceIdeal.Value

open Cert.ReferenceIdeal Cert.ReferenceIdeal.Gen Cert.Own Idealize.ShloMosaic Idealize.ShloMosaic.TcCoe

theorem res_stages (m : (ℓ : Loc nD τ sig) → Buf (Elt Ideal) ℓ) (c : Dev nD) :
    res_out0 m c = rY (rT (rP (m ((c.tc : Thread nD τ).loc main_arg0)) (m ((c.tc : Thread nD τ).loc main_arg1)))
      (rP (m ((c.tc : Thread nD τ).loc main_arg0)) (m ((c.tc : Thread nD τ).loc main_arg2)))
      (rP (m ((c.tc : Thread nD τ).loc main_arg0)) (m ((c.tc : Thread nD τ).loc main_arg3))))
      (m ((c.tc : Thread nD τ).loc main_arg4)) := by
  unfold res_out0 res_main_v61
  rfl

end Cert.ReferenceIdeal.Value
-- ==== Proof.Value.Algebraic.lean ====
module

public import proofs.«01_k».proof.Proof.Value.Pre
public import proofs.«01_k».proof.Proof.Value.Row
public import proofs.«01_k».proof.Proof.Value.Stages
public import proofs.«01_k».proof.Proof.Ideal.Launch
public import proofs.«01_k».proof.Proof.Gen.ReferenceIdeal.Run

/-! Every device's result is its block of rows of the reference's result. -/

@[expose] public section

set_option maxRecDepth 16384

noncomputable section

namespace Cert.Own

open Idealize.ShloMosaic Idealize.SL.Sem

/-- Where a block's entry lies in the whole: cut along the rows, and along the columns. -/
theorem x_block (c : Fin 8) (v : (⟨2, ![2048, 1024]⟩ : Shape).Idx → EReal) (r : Fin 256) (k : Fin 1024) :
    Layout.block ⟨2, ![256, 1024]⟩ ⟨2, ![2048, 1024]⟩ 0 8 c v (by decide) (ix2 r k) = v (ix2 (rowOf c r) k) := by
  rw [Layout.block_apply]
  congr 1
  funext a
  match a with
  | ⟨0, _⟩ => exact Fin.ext (show c.val * 256 + r.val = 256 * c.val + r.val by omega)
  | ⟨1, _⟩ => rfl

theorem w_block (c : Fin 8) (v : (⟨2, ![1024, 8192]⟩ : Shape).Idx → EReal) (k n : Fin 1024) :
    Layout.block ⟨2, ![1024, 1024]⟩ ⟨2, ![1024, 8192]⟩ 1 8 c v (by decide) (ix2 k n) = v (ix2 k (colOf c n)) := by
  rw [Layout.block_apply]
  congr 1
  funext a
  match a with
  | ⟨0, _⟩ => rfl
  | ⟨1, _⟩ => exact Fin.ext (show c.val * 1024 + n.val = 1024 * c.val + n.val by omega)

theorem o_block (c : Fin 8) (v : (⟨2, ![8192, 1024]⟩ : Shape).Idx → EReal) (k n : Fin 1024) :
    Layout.block ⟨2, ![1024, 1024]⟩ ⟨2, ![8192, 1024]⟩ 0 8 c v (by decide) (ix2 k n) = v (ix2 (colOf c k) n) := by
  rw [Layout.block_apply]
  congr 1
  funext a
  match a with
  | ⟨0, _⟩ => exact Fin.ext (show c.val * 1024 + k.val = 1024 * c.val + k.val by omega)
  | ⟨1, _⟩ => rfl

theorem col_cases (n : Fin 8192) : ∃ (c : Fin 8) (d : Fin 1024), n = colOf c d :=
  ⟨⟨n.val / 1024, by omega⟩, ⟨n.val % 1024, by omega⟩, Fin.ext (show n.val = 1024 * (n.val / 1024) + n.val % 1024 by omega)⟩

/-- Projections of reals are real. -/
theorem proj_real {x : (⟨2, ![2048, 1024]⟩ : Shape).Idx → EReal} {W : (⟨2, ![1024, 8192]⟩ : Shape).Idx → EReal}
    (hx : ∀ i k, ∃ r : ℝ, x (ix2 i k) = r) (hW : ∀ k n, ∃ r : ℝ, W (ix2 k n) = r) :
    ∃ Q : Fin 2048 → Fin 8192 → ℝ, ∀ i n, proj x W i n = (Q i n : EReal) := by
  choose X hX using hx
  choose Y hY using hW
  refine ⟨fun i n => ∑ k, X i k * Y k n, fun i n => ?_⟩
  unfold proj
  simp only [hX, hY, ← EReal.coe_mul, sum_coe]

theorem algebraic [Cert.Pre_finite_scores_KernelIdeal.Facts] :
    Cert.algebraic_KernelIdeal_ReferenceIdeal_pre_finite_scores_KernelIdeal := by
  intro m g m' g' hpre hb
  have hfin := fun c => Cert.Pre_finite_scores_KernelIdeal.real_of_pre _ _ _ _ _ (hpre c)
  have hx : ∀ c r k, Cert.KernelIdeal.Run.xin m c (ix2 r k) = _ := fun c r k =>
    (congrFun (hb c).1 (ix2 r k)).trans (x_block c _ r k)
  have hq : ∀ c k n, Cert.KernelIdeal.Run.wq m c (ix2 k n) = _ := fun c k n =>
    (congrFun (hb c).2.1 (ix2 k n)).trans (w_block c _ k n)
  have hk : ∀ c k n, Cert.KernelIdeal.Run.wk m c (ix2 k n) = _ := fun c k n =>
    (congrFun (hb c).2.2.1 (ix2 k n)).trans (w_block c _ k n)
  have hv : ∀ c k n, Cert.KernelIdeal.Run.wv m c (ix2 k n) = _ := fun c k n =>
    (congrFun (hb c).2.2.2.1 (ix2 k n)).trans (w_block c _ k n)
  have ho : ∀ c k n, Cert.KernelIdeal.Run.wo m c (ix2 k n) = _ := fun c k n =>
    (congrFun (hb c).2.2.2.2 (ix2 k n)).trans (o_block c _ k n)
  obtain ⟨Q, hQ⟩ := proj_real
    (fun i k => by
      obtain ⟨c, r, rfl⟩ := Cert.KernelIdeal.Run.row_cases i
      obtain ⟨y, hy⟩ := (hfin c).1 (ix2 r k)
      exact ⟨y, (hx c r k).symm.trans hy⟩)
    (fun k n => by
      obtain ⟨c, d, rfl⟩ := col_cases n
      obtain ⟨y, hy⟩ := (hfin c).2.1 (ix2 k d)
      exact ⟨y, (hq c k d).symm.trans hy⟩)
  obtain ⟨K, hK⟩ := proj_real
    (fun i k => by
      obtain ⟨c, r, rfl⟩ := Cert.KernelIdeal.Run.row_cases i
      obtain ⟨y, hy⟩ := (hfin c).1 (ix2 r k)
      exact ⟨y, (hx c r k).symm.trans hy⟩)
    (fun k n => by
      obtain ⟨c, d, rfl⟩ := col_cases n
      obtain ⟨y, hy⟩ := (hfin c).2.2 (ix2 k d)
      exact ⟨y, (hk c k d).symm.trans hy⟩)
  refine ⟨Cert.ReferenceIdeal.Value.res_out0 m' 0, ?_, ?_⟩
  · refine (θ_run Cert.KernelIdeal.defs _ _).mono (fun r h c => ⟨?_, (h.1 c).1⟩) (Cert.KernelIdeal.Run.run_end (F := Ideal) m g)
    refine (h.1 c).2.trans (funext fun i => ?_)
    obtain ⟨a, b, rfl⟩ : ∃ (a : Fin 256) (b : Fin 1024), i = ix2 a b := ⟨i 0, i 1, eq_ix2 i⟩
    rw [Cert.KernelIdeal.Run.OUT_apply m hx hq hk hv ho hQ hK c a b, Cert.ReferenceIdeal.Value.res_stages, x_block,
      Cert.ReferenceIdeal.Value.ref_apply hQ hK]
  · exact (θ_run Cert.ReferenceIdeal.defs _ _).mono (fun r h => h 0) (Cert.ReferenceIdeal.Value.run (F := Ideal) m' g')

end Cert.Own

end
-- ==== Proof.lean ====
module

public import proofs.«01_k».proof.Defs
public import proofs.«01_k».proof.Proof.Claims
public import proofs.«01_k».proof.Proof.Value.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Pre_finite_scores_KernelIdeal.facts, Cert.Pre_finite_scores_ReferenceIdeal.facts,
    Cert.Own.frame_kernel, Cert.Own.frame_ideal,
    letI := Cert.Pre_finite_scores_KernelIdeal.facts; Cert.Own.frame_ideal_pre,
    Cert.Own.frame_reference,
    letI := Cert.Pre_finite_scores_ReferenceIdeal.facts; Cert.Own.frame_reference_pre,
    Cert.Own.preserves,
    letI := Cert.Pre_finite_scores_KernelIdeal.facts; Cert.Own.algebraic⟩

end Cert.Proof

end
